-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 8192]⟩ ⟨2, ![2048, 16384]⟩ (Layout.meshBlock [2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![2048, 16384]⟩ (Layout.meshBlock [2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S2048x2048 : Shape := ⟨2, ![2048, 2048]⟩
abbrev S1024x8192 : Shape := ⟨2, ![1024, 8192]⟩
abbrev S2x128x8192 : Shape := ⟨3, ![2, 128, 8192]⟩
abbrev S4x1024x128 : Shape := ⟨3, ![4, 1024, 128]⟩
abbrev S8 : Shape := ⟨1, ![8]⟩
abbrev S2x2 : Shape := ⟨2, ![2, 2]⟩
abbrev S16 : Shape := ⟨1, ![16]⟩
abbrev S_ : Shape := ⟨0, ![]⟩
abbrev S1 : Shape := ⟨1, ![1]⟩
abbrev S128x8192 : Shape := ⟨2, ![128, 8192]⟩
abbrev S1x1 : Shape := ⟨2, ![1, 1]⟩
abbrev S1x64x8192 : Shape := ⟨3, ![1, 64, 8192]⟩
abbrev S64x8192 : Shape := ⟨2, ![64, 8192]⟩
abbrev S1x1024x128 : Shape := ⟨3, ![1, 1024, 128]⟩
abbrev S1024x128 : Shape := ⟨2, ![1024, 128]⟩
abbrev S1x128x8192 : Shape := ⟨3, ![1, 128, 8192]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x2048, .f32⟩
  | .local _ .vmem, ⟨0, _⟩ => ⟨S2048x2048, .f32⟩
  | .local _ .vmem, ⟨1, _⟩ => ⟨S1024x8192, .f32⟩
  | .local _ .vmem, ⟨2, _⟩ => ⟨S2x128x8192, .f32⟩
  | .local _ .vmem, ⟨3, _⟩ => ⟨S4x1024x128, .bf16⟩
  | .local _ .vmem, ⟨4, _⟩ => ⟨S4x1024x128, .bf16⟩
  | .local _ .vmem, ⟨5, _⟩ => ⟨S4x1024x128, .bf16⟩
  | .local _ .vmem, ⟨6, _⟩ => ⟨S4x1024x128, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  (ofTc nBuf bufTy 3 77 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 2

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_6 : BitVec 32 := 1024#32
  let v11 : BitVec 32 := Scalar.muli v2 c1024_i32_6
  let v12 : BitVec 32 := Scalar.addi v11 c0_i32
  let c0_i32_10 : BitVec 32 := 0#32
  ![v12.toNat, 0]
def k0_off2 (c0_i32_41 : BitVec 32) : Fin 2 → Nat :=
  let c2_i32_42 : BitVec 32 := 2#32
  let v59 : BitVec 32 := Scalar.remsi c0_i32_41 c2_i32_42
  let c0_i32_45 : BitVec 32 := 0#32
  ![v59.toNat, 0]
def k0_off3 (c0_i32_41 : BitVec 32) : Fin 3 → Nat :=
  let c2_i32_42 : BitVec 32 := 2#32
  let v59 : BitVec 32 := Scalar.remsi c0_i32_41 c2_i32_42
  let c0_i32_46 : BitVec 32 := 0#32
  let c0_i32_47 : BitVec 32 := 0#32
  ![v59.toNat, 0, 0]
def k0_off4 (c0_i32_41 : BitVec 32) : Fin 2 → Nat :=
  let c2_i32_42 : BitVec 32 := 2#32
  let v59 : BitVec 32 := Scalar.remsi c0_i32_41 c2_i32_42
  let c1_i32_50 : BitVec 32 := 1#32
  ![v59.toNat, 1]
def k0_off5 (c0_i32_41 : BitVec 32) : Fin 3 → Nat :=
  let c2_i32_42 : BitVec 32 := 2#32
  let v59 : BitVec 32 := Scalar.remsi c0_i32_41 c2_i32_42
  let c64_i32 : BitVec 32 := 64#32
  let c0_i32_51 : BitVec 32 := 0#32
  ![v59.toNat, 64, 0]
def k0_dev1 (d0 : Dev nD) : Nat :=
  let c0_i32_65 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_64 : BitVec 32 := 2#32
  let v82 : BitVec 32 := Scalar.muli v2 c2_i32_64
  let v83 : BitVec 32 := Scalar.addi c0_i32_65 v82
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_66 : BitVec 32 := 1#32
  let v84 : BitVec 32 := Scalar.muli v6 c1_i32_66
  let v85 : BitVec 32 := Scalar.addi v83 v84
  v85.toNat
def k0_dev2 (d0 : Dev nD) : Nat :=
  let c0_i32_69 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_68 : BitVec 32 := 2#32
  let v86 : BitVec 32 := Scalar.muli v7 c2_i32_68
  let v87 : BitVec 32 := Scalar.addi c0_i32_69 v86
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_70 : BitVec 32 := 1#32
  let v88 : BitVec 32 := Scalar.muli v5 c1_i32_70
  let v89 : BitVec 32 := Scalar.addi v87 v88
  v89.toNat
@[reducible] def k0_t1_loop : Scf.Loop 32 :=
  let c0_i32_104 : BitVec 32 := 0#32
  let c16_i32 : BitVec 32 := 16#32
  let v122 : BitVec 32 := Scalar.addi c0_i32_104 c16_i32
  let c1_i32_105 : BitVec 32 := 1#32
  ⟨c0_i32_104, v122, c1_i32_105⟩
def k0_cond1 (k0_t1 : Fin k0_t1_loop.trips) : BitVec 1 :=
  let c0_i32_104 : BitVec 32 := 0#32
  let c1_i32_105 : BitVec 32 := 1#32
  let arg17 : BitVec 32 := Scf.iv c0_i32_104 c1_i32_105 k0_t1
  let c4_i32_251 : BitVec 32 := 4#32
  let v293 : BitVec 1 := Scalar.cmpi .sge arg17 c4_i32_251
  let v294 : BitVec 32 := Scalar.extui v293
  let c0_i32_252 : BitVec 32 := 0#32
  let v295 : BitVec 1 := Scalar.cmpi .ne v294 c0_i32_252
  v295

def k0_off6 (k0_t1 : Fin k0_t1_loop.trips) : Fin 1 → Nat :=
  let c0_i32_104 : BitVec 32 := 0#32
  let c1_i32_105 : BitVec 32 := 1#32
  let arg17 : BitVec 32 := Scf.iv c0_i32_104 c1_i32_105 k0_t1
  let c4_i32_290 : BitVec 32 := 4#32
  let v348 : BitVec 32 := Scalar.subi arg17 c4_i32_290
  ![v348.toNat]
def k0_off7 (k0_t1 : Fin k0_t1_loop.trips) : Fin 3 → Nat :=
  let c0_i32_104 : BitVec 32 := 0#32
  let c1_i32_105 : BitVec 32 := 1#32
  let arg17 : BitVec 32 := Scf.iv c0_i32_104 c1_i32_105 k0_t1
  let c4_i32_290 : BitVec 32 := 4#32
  let v348 : BitVec 32 := Scalar.subi arg17 c4_i32_290
  let c4_i32_291 : BitVec 32 := 4#32
  let v349 : BitVec 32 := Scalar.remsi v348 c4_i32_291
  let c0_i32_293 : BitVec 32 := 0#32
  let c0_i32_294 : BitVec 32 := 0#32
  ![v349.toNat, 0, 0]
def k0_off8 (k0_t1 : Fin k0_t1_loop.trips) : Fin 2 → Nat :=
  let c0_i32_104 : BitVec 32 := 0#32
  let c1_i32_105 : BitVec 32 := 1#32
  let arg17 : BitVec 32 := Scf.iv c0_i32_104 c1_i32_105 k0_t1
  let c2_i32_253 : BitVec 32 := 2#32
  let v296 : BitVec 32 := Scalar.remsi arg17 c2_i32_253
  let c0_i32_258 : BitVec 32 := 0#32
  ![v296.toNat, 0]
def k0_off9 (k0_t1 : Fin k0_t1_loop.trips) : Fin 3 → Nat :=
  let c0_i32_104 : BitVec 32 := 0#32
  let c1_i32_105 : BitVec 32 := 1#32
  let arg17 : BitVec 32 := Scf.iv c0_i32_104 c1_i32_105 k0_t1
  let c2_i32_253 : BitVec 32 := 2#32
  let v296 : BitVec 32 := Scalar.remsi arg17 c2_i32_253
  let c0_i32_259 : BitVec 32 := 0#32
  let c0_i32_260 : BitVec 32 := 0#32
  ![v296.toNat, 0, 0]
def k0_off10 (k0_t1 : Fin k0_t1_loop.trips) (c0_i32_255 : BitVec 32) : Fin 2 → Nat :=
  let c0_i32_104 : BitVec 32 := 0#32
  let c1_i32_105 : BitVec 32 := 1#32
  let arg17 : BitVec 32 := Scf.iv c0_i32_104 c1_i32_105 k0_t1
  let c128_i32_254 : BitVec 32 := 128#32
  let v297 : BitVec 32 := Scalar.muli arg17 c128_i32_254
  let v298 : BitVec 32 := Scalar.addi v297 c0_i32_255
  let c0_i32_261 : BitVec 32 := 0#32
  ![v298.toNat, 0]
def k0_off11 (k0_t1 : Fin k0_t1_loop.trips) : Fin 2 → Nat :=
  let c0_i32_104 : BitVec 32 := 0#32
  let c1_i32_105 : BitVec 32 := 1#32
  let arg17 : BitVec 32 := Scf.iv c0_i32_104 c1_i32_105 k0_t1
  let c2_i32_253 : BitVec 32 := 2#32
  let v296 : BitVec 32 := Scalar.remsi arg17 c2_i32_253
  let c1_i32_262 : BitVec 32 := 1#32
  ![v296.toNat, 1]
def k0_off12 (k0_t1 : Fin k0_t1_loop.trips) : Fin 3 → Nat :=
  let c0_i32_104 : BitVec 32 := 0#32
  let c1_i32_105 : BitVec 32 := 1#32
  let arg17 : BitVec 32 := Scf.iv c0_i32_104 c1_i32_105 k0_t1
  let c2_i32_253 : BitVec 32 := 2#32
  let v296 : BitVec 32 := Scalar.remsi arg17 c2_i32_253
  let c64_i32_263 : BitVec 32 := 64#32
  let c0_i32_264 : BitVec 32 := 0#32
  ![v296.toNat, 64, 0]
def k0_off13 (k0_t1 : Fin k0_t1_loop.trips) : Fin 3 → Nat :=
  let c0_i32_104 : BitVec 32 := 0#32
  let c1_i32_105 : BitVec 32 := 1#32
  let arg17 : BitVec 32 := Scf.iv c0_i32_104 c1_i32_105 k0_t1
  let c2_i32_268 : BitVec 32 := 2#32
  let v312 : BitVec 32 := Scalar.remsi arg17 c2_i32_268
  let v313 : Index := Scalar.indexCast v312
  let c0_269 : Index := 0#32
  let c0_270 : Index := 0#32
  ![v313.toNat, 0, 0]
def k0_cond2 (k0_t1 : Fin k0_t1_loop.trips) : BitVec 1 :=
  let c0_i32_104 : BitVec 32 := 0#32
  let c1_i32_105 : BitVec 32 := 1#32
  let arg17 : BitVec 32 := Scf.iv c0_i32_104 c1_i32_105 k0_t1
  let c2_i32_271 : BitVec 32 := 2#32
  let v318 : BitVec 32 := Scalar.addi arg17 c2_i32_271
  let c16_i32_272 : BitVec 32 := 16#32
  let v319 : BitVec 1 := Scalar.cmpi .slt v318 c16_i32_272
  let v320 : BitVec 32 := Scalar.extui v319
  let c0_i32_273 : BitVec 32 := 0#32
  let v321 : BitVec 1 := Scalar.cmpi .ne v320 c0_i32_273
  v321

def k0_off14 (k0_t1 : Fin k0_t1_loop.trips) : Fin 2 → Nat :=
  let c0_i32_104 : BitVec 32 := 0#32
  let c1_i32_105 : BitVec 32 := 1#32
  let arg17 : BitVec 32 := Scf.iv c0_i32_104 c1_i32_105 k0_t1
  let c2_i32_290 : BitVec 32 := 2#32
  let v348 : BitVec 32 := Scalar.addi arg17 c2_i32_290
  let c2_i32_291 : BitVec 32 := 2#32
  let v349 : BitVec 32 := Scalar.remsi v348 c2_i32_291
  let c0_i32_296 : BitVec 32 := 0#32
  ![v349.toNat, 0]
def k0_off15 (k0_t1 : Fin k0_t1_loop.trips) : Fin 3 → Nat :=
  let c0_i32_104 : BitVec 32 := 0#32
  let c1_i32_105 : BitVec 32 := 1#32
  let arg17 : BitVec 32 := Scf.iv c0_i32_104 c1_i32_105 k0_t1
  let c2_i32_290 : BitVec 32 := 2#32
  let v348 : BitVec 32 := Scalar.addi arg17 c2_i32_290
  let c2_i32_291 : BitVec 32 := 2#32
  let v349 : BitVec 32 := Scalar.remsi v348 c2_i32_291
  let c0_i32_297 : BitVec 32 := 0#32
  let c0_i32_298 : BitVec 32 := 0#32
  ![v349.toNat, 0, 0]
def k0_off16 (k0_t1 : Fin k0_t1_loop.trips) (c0_i32_293 : BitVec 32) : Fin 2 → Nat :=
  let c0_i32_104 : BitVec 32 := 0#32
  let c1_i32_105 : BitVec 32 := 1#32
  let arg17 : BitVec 32 := Scf.iv c0_i32_104 c1_i32_105 k0_t1
  let c2_i32_290 : BitVec 32 := 2#32
  let v348 : BitVec 32 := Scalar.addi arg17 c2_i32_290
  let c128_i32_292 : BitVec 32 := 128#32
  let v350 : BitVec 32 := Scalar.muli v348 c128_i32_292
  let v351 : BitVec 32 := Scalar.addi v350 c0_i32_293
  let c0_i32_299 : BitVec 32 := 0#32
  ![v351.toNat, 0]
def k0_off17 (k0_t1 : Fin k0_t1_loop.trips) : Fin 2 → Nat :=
  let c0_i32_104 : BitVec 32 := 0#32
  let c1_i32_105 : BitVec 32 := 1#32
  let arg17 : BitVec 32 := Scf.iv c0_i32_104 c1_i32_105 k0_t1
  let c2_i32_290 : BitVec 32 := 2#32
  let v348 : BitVec 32 := Scalar.addi arg17 c2_i32_290
  let c2_i32_291 : BitVec 32 := 2#32
  let v349 : BitVec 32 := Scalar.remsi v348 c2_i32_291
  let c1_i32_300 : BitVec 32 := 1#32
  ![v349.toNat, 1]
def k0_off18 (k0_t1 : Fin k0_t1_loop.trips) : Fin 3 → Nat :=
  let c0_i32_104 : BitVec 32 := 0#32
  let c1_i32_105 : BitVec 32 := 1#32
  let arg17 : BitVec 32 := Scf.iv c0_i32_104 c1_i32_105 k0_t1
  let c2_i32_290 : BitVec 32 := 2#32
  let v348 : BitVec 32 := Scalar.addi arg17 c2_i32_290
  let c2_i32_291 : BitVec 32 := 2#32
  let v349 : BitVec 32 := Scalar.remsi v348 c2_i32_291
  let c64_i32_301 : BitVec 32 := 64#32
  let c0_i32_302 : BitVec 32 := 0#32
  ![v349.toNat, 64, 0]
def k0_off19 (k0_t1 : Fin k0_t1_loop.trips) : Fin 3 → Nat :=
  let c0_i32_104 : BitVec 32 := 0#32
  let c1_i32_105 : BitVec 32 := 1#32
  let arg17 : BitVec 32 := Scf.iv c0_i32_104 c1_i32_105 k0_t1
  let c4_i32_250 : BitVec 32 := 4#32
  let v292 : BitVec 32 := Scalar.remsi arg17 c4_i32_250
  let v322 : Index := Scalar.indexCast v292
  let c0_274 : Index := 0#32
  let c0_275 : Index := 0#32
  ![v322.toNat, 0, 0]
def k0_off20 (k0_t1 : Fin k0_t1_loop.trips) : Fin 1 → Nat :=
  let c0_i32_104 : BitVec 32 := 0#32
  let c1_i32_105 : BitVec 32 := 1#32
  let arg17 : BitVec 32 := Scf.iv c0_i32_104 c1_i32_105 k0_t1
  ![arg17.toNat]
def k0_off21 (k0_t1 : Fin k0_t1_loop.trips) : Fin 3 → Nat :=
  let c0_i32_104 : BitVec 32 := 0#32
  let c1_i32_105 : BitVec 32 := 1#32
  let arg17 : BitVec 32 := Scf.iv c0_i32_104 c1_i32_105 k0_t1
  let c4_i32_278 : BitVec 32 := 4#32
  let v329 : BitVec 32 := Scalar.remsi arg17 c4_i32_278
  let c0_i32_282 : BitVec 32 := 0#32
  let c0_i32_283 : BitVec 32 := 0#32
  ![v329.toNat, 0, 0]
def k0_dev3 (d0 : Dev nD) : Nat :=
  let c0_i32_280 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_279 : BitVec 32 := 2#32
  let v330 : BitVec 32 := Scalar.muli v2 c2_i32_279
  let v331 : BitVec 32 := Scalar.addi c0_i32_280 v330
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_281 : BitVec 32 := 1#32
  let v332 : BitVec 32 := Scalar.muli v6 c1_i32_281
  let v333 : BitVec 32 := Scalar.addi v331 v332
  v333.toNat
def k0_cond4 (k0_t1 : Fin k0_t1_loop.trips) : BitVec 1 :=
  let c0_i32_104 : BitVec 32 := 0#32
  let c1_i32_105 : BitVec 32 := 1#32
  let arg17 : BitVec 32 := Scf.iv c0_i32_104 c1_i32_105 k0_t1
  let c2_i32_286 : BitVec 32 := 2#32
  let v342 : BitVec 1 := Scalar.cmpi .sge arg17 c2_i32_286
  let v343 : BitVec 32 := Scalar.extui v342
  let c0_i32_287 : BitVec 32 := 0#32
  let v344 : BitVec 1 := Scalar.cmpi .ne v343 c0_i32_287
  v344

def k0_off22 (k0_t1 : Fin k0_t1_loop.trips) : Fin 1 → Nat :=
  let c0_i32_104 : BitVec 32 := 0#32
  let c1_i32_105 : BitVec 32 := 1#32
  let arg17 : BitVec 32 := Scf.iv c0_i32_104 c1_i32_105 k0_t1
  let c2_i32_290 : BitVec 32 := 2#32
  let v348 : BitVec 32 := Scalar.subi arg17 c2_i32_290
  ![v348.toNat]
def k0_off23 (k0_t1 : Fin k0_t1_loop.trips) : Fin 3 → Nat :=
  let c0_i32_104 : BitVec 32 := 0#32
  let c1_i32_105 : BitVec 32 := 1#32
  let arg17 : BitVec 32 := Scf.iv c0_i32_104 c1_i32_105 k0_t1
  let c2_i32_290 : BitVec 32 := 2#32
  let v348 : BitVec 32 := Scalar.subi arg17 c2_i32_290
  let c4_i32_293 : BitVec 32 := 4#32
  let v351 : BitVec 32 := Scalar.remsi v348 c4_i32_293
  let c0_i32_295 : BitVec 32 := 0#32
  let c0_i32_296 : BitVec 32 := 0#32
  ![v351.toNat, 0, 0]
def k0_off24 (k0_t1 : Fin k0_t1_loop.trips) : Fin 3 → Nat :=
  let c0_i32_104 : BitVec 32 := 0#32
  let c1_i32_105 : BitVec 32 := 1#32
  let arg17 : BitVec 32 := Scf.iv c0_i32_104 c1_i32_105 k0_t1
  let c2_i32_290 : BitVec 32 := 2#32
  let v348 : BitVec 32 := Scalar.subi arg17 c2_i32_290
  let c4_i32_291 : BitVec 32 := 4#32
  let v349 : BitVec 32 := Scalar.remsi v348 c4_i32_291
  let v368 : Index := Scalar.indexCast v349
  let c0_306 : Index := 0#32
  let c0_307 : Index := 0#32
  ![v368.toNat, 0, 0]
def k0_off25 (d0 : Dev nD) (k0_t1 : Fin k0_t1_loop.trips) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let v383 : Index := Scalar.indexCast v8
  let c0_i32_104 : BitVec 32 := 0#32
  let c1_i32_105 : BitVec 32 := 1#32
  let arg17 : BitVec 32 := Scf.iv c0_i32_104 c1_i32_105 k0_t1
  let c2_i32_290 : BitVec 32 := 2#32
  let v348 : BitVec 32 := Scalar.subi arg17 c2_i32_290
  let c128_i32_292 : BitVec 32 := 128#32
  let v350 : BitVec 32 := Scalar.muli v348 c128_i32_292
  let v384 : Index := Scalar.indexCast v350
  ![v383.toNat, v384.toNat]
def k0_cond5 (k0_t1 : Fin k0_t1_loop.trips) : BitVec 1 :=
  let c0_i32_104 : BitVec 32 := 0#32
  let c1_i32_105 : BitVec 32 := 1#32
  let arg17 : BitVec 32 := Scf.iv c0_i32_104 c1_i32_105 k0_t1
  let c2_i32_290 : BitVec 32 := 2#32
  let v348 : BitVec 32 := Scalar.subi arg17 c2_i32_290
  let c4_i32_314 : BitVec 32 := 4#32
  let v386 : BitVec 32 := Scalar.addi v348 c4_i32_314
  let c16_i32_315 : BitVec 32 := 16#32
  let v387 : BitVec 1 := Scalar.cmpi .slt v386 c16_i32_315
  let v388 : BitVec 32 := Scalar.extui v387
  let c0_i32_316 : BitVec 32 := 0#32
  let v389 : BitVec 1 := Scalar.cmpi .ne v388 c0_i32_316
  v389

def k0_dev4 (d0 : Dev nD) : Nat :=
  let c0_i32_329 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_328 : BitVec 32 := 2#32
  let v406 : BitVec 32 := Scalar.muli v2 c2_i32_328
  let v407 : BitVec 32 := Scalar.addi c0_i32_329 v406
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_330 : BitVec 32 := 1#32
  let v408 : BitVec 32 := Scalar.muli v6 c1_i32_330
  let v409 : BitVec 32 := Scalar.addi v407 v408
  v409.toNat
def k0_dev5 (d0 : Dev nD) : Nat :=
  let c0_i32_321 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_320 : BitVec 32 := 2#32
  let v394 : BitVec 32 := Scalar.muli v7 c2_i32_320
  let v395 : BitVec 32 := Scalar.addi c0_i32_321 v394
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_322 : BitVec 32 := 1#32
  let v396 : BitVec 32 := Scalar.muli v5 c1_i32_322
  let v397 : BitVec 32 := Scalar.addi v395 v396
  v397.toNat
def k0_cond7 (k0_t1 : Fin k0_t1_loop.trips) : BitVec 1 :=
  let c0_i32_104 : BitVec 32 := 0#32
  let c1_i32_105 : BitVec 32 := 1#32
  let arg17 : BitVec 32 := Scf.iv c0_i32_104 c1_i32_105 k0_t1
  let c4_i32_288 : BitVec 32 := 4#32
  let v345 : BitVec 1 := Scalar.cmpi .sge arg17 c4_i32_288
  let v346 : BitVec 32 := Scalar.extui v345
  let c0_i32_289 : BitVec 32 := 0#32
  let v347 : BitVec 1 := Scalar.cmpi .ne v346 c0_i32_289
  v347

def k0_off26 (k0_t1 : Fin k0_t1_loop.trips) : Fin 1 → Nat :=
  let c0_i32_104 : BitVec 32 := 0#32
  let c1_i32_105 : BitVec 32 := 1#32
  let arg17 : BitVec 32 := Scf.iv c0_i32_104 c1_i32_105 k0_t1
  let c4_i32_290 : BitVec 32 := 4#32
  let v348 : BitVec 32 := Scalar.subi arg17 c4_i32_290
  ![v348.toNat]
def k0_off27 (k0_t1 : Fin k0_t1_loop.trips) : Fin 3 → Nat :=
  let c0_i32_104 : BitVec 32 := 0#32
  let c1_i32_105 : BitVec 32 := 1#32
  let arg17 : BitVec 32 := Scf.iv c0_i32_104 c1_i32_105 k0_t1
  let c4_i32_290 : BitVec 32 := 4#32
  let v348 : BitVec 32 := Scalar.subi arg17 c4_i32_290
  let c4_i32_293 : BitVec 32 := 4#32
  let v351 : BitVec 32 := Scalar.remsi v348 c4_i32_293
  let c0_i32_297 : BitVec 32 := 0#32
  let c0_i32_298 : BitVec 32 := 0#32
  ![v351.toNat, 0, 0]
def k0_off28 (k0_t1 : Fin k0_t1_loop.trips) : Fin 3 → Nat :=
  let c0_i32_104 : BitVec 32 := 0#32
  let c1_i32_105 : BitVec 32 := 1#32
  let arg17 : BitVec 32 := Scf.iv c0_i32_104 c1_i32_105 k0_t1
  let c4_i32_290 : BitVec 32 := 4#32
  let v348 : BitVec 32 := Scalar.subi arg17 c4_i32_290
  let c4_i32_291 : BitVec 32 := 4#32
  let v349 : BitVec 32 := Scalar.remsi v348 c4_i32_291
  let v362 : Index := Scalar.indexCast v349
  let c0_301 : Index := 0#32
  let c0_302 : Index := 0#32
  ![v362.toNat, 0, 0]
def k0_off29 (d0 : Dev nD) (k0_t1 : Fin k0_t1_loop.trips) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c1024_i32_5 : BitVec 32 := 1024#32
  let v10 : BitVec 32 := Scalar.muli v9 c1024_i32_5
  let v366 : Index := Scalar.indexCast v10
  let c0_i32_104 : BitVec 32 := 0#32
  let c1_i32_105 : BitVec 32 := 1#32
  let arg17 : BitVec 32 := Scf.iv c0_i32_104 c1_i32_105 k0_t1
  let c4_i32_290 : BitVec 32 := 4#32
  let v348 : BitVec 32 := Scalar.subi arg17 c4_i32_290
  let c128_i32_292 : BitVec 32 := 128#32
  let v350 : BitVec 32 := Scalar.muli v348 c128_i32_292
  let v367 : Index := Scalar.indexCast v350
  ![v366.toNat, v367.toNat]
def k0_cond8 (k0_t1 : Fin k0_t1_loop.trips) : BitVec 1 :=
  let c0_i32_104 : BitVec 32 := 0#32
  let c1_i32_105 : BitVec 32 := 1#32
  let arg17 : BitVec 32 := Scf.iv c0_i32_104 c1_i32_105 k0_t1
  let c4_i32_290 : BitVec 32 := 4#32
  let v348 : BitVec 32 := Scalar.subi arg17 c4_i32_290
  let c4_i32_303 : BitVec 32 := 4#32
  let v369 : BitVec 32 := Scalar.addi v348 c4_i32_303
  let c16_i32_304 : BitVec 32 := 16#32
  let v370 : BitVec 1 := Scalar.cmpi .slt v369 c16_i32_304
  let v371 : BitVec 32 := Scalar.extui v370
  let c0_i32_305 : BitVec 32 := 0#32
  let v372 : BitVec 1 := Scalar.cmpi .ne v371 c0_i32_305
  v372

def k0_dev6 (d0 : Dev nD) : Nat :=
  let c0_i32_308 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_307 : BitVec 32 := 2#32
  let v373 : BitVec 32 := Scalar.muli v7 c2_i32_307
  let v374 : BitVec 32 := Scalar.addi c0_i32_308 v373
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_309 : BitVec 32 := 1#32
  let v375 : BitVec 32 := Scalar.muli v5 c1_i32_309
  let v376 : BitVec 32 := Scalar.addi v374 v375
  v376.toNat
def k0_off30 (c14_i32_108 : BitVec 32) : Fin 3 → Nat :=
  let c4_i32_109 : BitVec 32 := 4#32
  let v124 : BitVec 32 := Scalar.remsi c14_i32_108 c4_i32_109
  let c0_i32_113 : BitVec 32 := 0#32
  let c0_i32_114 : BitVec 32 := 0#32
  ![v124.toNat, 0, 0]
def k0_off31 (c14_i32 : BitVec 32) : Fin 3 → Nat :=
  let c4_i32_107 : BitVec 32 := 4#32
  let v123 : BitVec 32 := Scalar.remsi c14_i32 c4_i32_107
  let v141 : Index := Scalar.indexCast v123
  let c0 : Index := 0#32
  let c0_126 : Index := 0#32
  ![v141.toNat, 0, 0]
def k0_off32 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let v156 : Index := Scalar.indexCast v8
  let c1792 : Index := 1792#32
  ![v156.toNat, 1792]
def k0_dev7 (d0 : Dev nD) : Nat :=
  let c0_i32_140 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_139 : BitVec 32 := 2#32
  let v159 : BitVec 32 := Scalar.muli v7 c2_i32_139
  let v160 : BitVec 32 := Scalar.addi c0_i32_140 v159
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_141 : BitVec 32 := 1#32
  let v161 : BitVec 32 := Scalar.muli v5 c1_i32_141
  let v162 : BitVec 32 := Scalar.addi v160 v161
  v162.toNat
def k0_off33 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let v204 : Index := Scalar.indexCast v8
  let c1920 : Index := 1920#32
  ![v204.toNat, 1920]
def k0_dev8 (d0 : Dev nD) : Nat :=
  let c0_i32_180 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_179 : BitVec 32 := 2#32
  let v207 : BitVec 32 := Scalar.muli v7 c2_i32_179
  let v208 : BitVec 32 := Scalar.addi c0_i32_180 v207
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_181 : BitVec 32 := 1#32
  let v209 : BitVec 32 := Scalar.muli v5 c1_i32_181
  let v210 : BitVec 32 := Scalar.addi v208 v209
  v210.toNat
def k0_off34 (d0 : Dev nD) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c1024_i32_5 : BitVec 32 := 1024#32
  let v10 : BitVec 32 := Scalar.muli v9 c1024_i32_5
  let v235 : Index := Scalar.indexCast v10
  let c1536 : Index := 1536#32
  ![v235.toNat, 1536]
def k0_off35 (d0 : Dev nD) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c1024_i32_5 : BitVec 32 := 1024#32
  let v10 : BitVec 32 := Scalar.muli v9 c1024_i32_5
  let v253 : Index := Scalar.indexCast v10
  let c1664 : Index := 1664#32
  ![v253.toNat, 1664]
def k0_off36 (d0 : Dev nD) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c1024_i32_5 : BitVec 32 := 1024#32
  let v10 : BitVec 32 := Scalar.muli v9 c1024_i32_5
  let v271 : Index := Scalar.indexCast v10
  let c1792_229 : Index := 1792#32
  ![v271.toNat, 1792]
def k0_off37 (d0 : Dev nD) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c1024_i32_5 : BitVec 32 := 1024#32
  let v10 : BitVec 32 := Scalar.muli v9 c1024_i32_5
  let v289 : Index := Scalar.indexCast v10
  let c1920_245 : Index := 1920#32
  ![v289.toNat, 1920]
@[reducible] def k0_t2_loop : Scf.Loop 32 :=
  let c12_i32_246 : BitVec 32 := 12#32
  let c4_i32_247 : BitVec 32 := 4#32
  let v291 : BitVec 32 := Scalar.addi c12_i32_246 c4_i32_247
  let c1_i32_248 : BitVec 32 := 1#32
  ⟨c12_i32_246, v291, c1_i32_248⟩
def k0_off38 (k0_t2 : Fin k0_t2_loop.trips) : Fin 1 → Nat :=
  let c12_i32_246 : BitVec 32 := 12#32
  let c1_i32_248 : BitVec 32 := 1#32
  let arg17 : BitVec 32 := Scf.iv c12_i32_246 c1_i32_248 k0_t2
  ![arg17.toNat]
def k0_off39 (k0_t2 : Fin k0_t2_loop.trips) : Fin 3 → Nat :=
  let c12_i32_246 : BitVec 32 := 12#32
  let c1_i32_248 : BitVec 32 := 1#32
  let arg17 : BitVec 32 := Scf.iv c12_i32_246 c1_i32_248 k0_t2
  let c4_i32_250 : BitVec 32 := 4#32
  let v292 : BitVec 32 := Scalar.remsi arg17 c4_i32_250
  let c0_i32_252 : BitVec 32 := 0#32
  let c0_i32_253 : BitVec 32 := 0#32
  ![v292.toNat, 0, 0]
abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2048x16384 : Shape := ⟨2, ![2048, 16384]⟩
abbrev S16384x2048 : Shape := ⟨2, ![16384, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S2048x16384, .f32⟩
  | .hbm, ⟨2, _⟩ => ⟨S16384x2048, .f32⟩
  | .hbm, ⟨3, _⟩ => ⟨S2048x2048, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Proto.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Transfers
public import Idealize.ShloMosaic.Lib.Tactic

@[expose] public section

noncomputable section

namespace Cert.Proof.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The resource algebra -/

/-- A receive slot's key: the device that reads it, the axis it serves, the chunk it is filled with. -/
abbrev Key : Type := Dev nD × Bool × ℕ
abbrev UB : Type := URounds (GSem nD τ sig) ℕ
abbrev UX : Type := UB × (USlots Key × Counters)
abbrev UU : Type := UR sig nD τ × UX

local notation "𝕄" => MT nD τ sig ℕ (Elt F) ℕ UU ℕ

abbrev EP : Emb (UR sig nD τ) (MT nD τ sig ℕ (Elt F) ℕ UU ℕ) := embL
/-- The rounds library's copy. -/
def ER : Emb UB (MT nD τ sig ℕ (Elt F) ℕ UU ℕ) :=
  ((Emb.inl : Emb UB UX).trans (Emb.inr : Emb UX UU)).trans
    (uEmb (nD := nD) (sig := sig) (Ix := ℕ) (Val := Elt F) (Name := ℕ) (U := UU) (Lvl := ℕ)).toEmb
/-- The slot library's copy. -/
def ES : Emb (USlots Key) (MT nD τ sig ℕ (Elt F) ℕ UU ℕ) :=
  (((Emb.inl : Emb (USlots Key) (USlots Key × Counters)).trans (Emb.inr : Emb (USlots Key × Counters) UX)).trans (Emb.inr : Emb UX UU)).trans
    (uEmb (nD := nD) (sig := sig) (Ix := ℕ) (Val := Elt F) (Name := ℕ) (U := UU) (Lvl := ℕ)).toEmb
instance ER_landsIn : (ER : Emb UB 𝕄).LandsIn (upEmb : UEmb _ 𝕄) := by unfold ER; infer_instance
instance ES_landsIn : (ES : Emb (USlots Key) 𝕄).LandsIn (upEmb : UEmb _ 𝕄) := by unfold ES; infer_instance
/-- The local transfers' counters. -/
abbrev EC : UEmb Counters (MT nD τ sig ℕ (Elt F) ℕ UU ℕ) := countersEmb

abbrev 𝒱₀ : Variants := Variants.none

/-! ## Devices: the mesh's place `(x, y)` is the number `2 x + y` -/

set_option backward.proofsInPublic true in
/-- The neighbour along `y` (`false`) or along `x` (`true`). -/
def peer (ax : Bool) (c : Dev nD) : Dev nD :=
  ⟨match ax with
    | false => 2 * (c.val / 2) + (1 - c.val % 2)
    | true => 2 * (1 - c.val / 2) + c.val % 2, by
    have := c.isLt; simp only [nD] at this ⊢; cases ax <;> simp only <;> omega⟩

/-- A device is its neighbour's neighbour. -/
theorem peer_peer (ax : Bool) (c : Dev nD) : peer ax (peer ax c) = c := by revert ax c; decide
/-- The two ends of an axis, exchanged. -/
def swap (ax : Bool) : Dev nD ≃ Dev nD := ⟨peer ax, peer ax, peer_peer ax, peer_peer ax⟩

/-- The device named at this place is the neighbour along `y`. -/
theorem dev1_eq (c : Dev nD) (h : k0_dev1 c < nD) : (⟨k0_dev1 c, h⟩ : Dev nD) = peer false c := by
  apply Fin.ext; show k0_dev1 c = _; rw [k0_dev1_eq]; revert c; decide
/-- The device named at this place is the neighbour along `x`. -/
theorem dev2_eq (c : Dev nD) (h : k0_dev2 c < nD) : (⟨k0_dev2 c, h⟩ : Dev nD) = peer true c := by
  apply Fin.ext; show k0_dev2 c = _; rw [k0_dev2_eq]; revert c; decide
/-- The device named at this place is the neighbour along `y`. -/
theorem dev3_eq (c : Dev nD) (h : k0_dev3 c < nD) : (⟨k0_dev3 c, h⟩ : Dev nD) = peer false c := by
  apply Fin.ext; show k0_dev3 c = _; rw [k0_dev3_eq]; revert c; decide
/-- The device named at this place is the neighbour along `y`. -/
theorem dev4_eq (c : Dev nD) (h : k0_dev4 c < nD) : (⟨k0_dev4 c, h⟩ : Dev nD) = peer false c := by
  apply Fin.ext; show k0_dev4 c = _; rw [k0_dev4_eq]; revert c; decide
/-- The device named at this place is the neighbour along `x`. -/
theorem dev5_eq (c : Dev nD) (h : k0_dev5 c < nD) : (⟨k0_dev5 c, h⟩ : Dev nD) = peer true c := by
  apply Fin.ext; show k0_dev5 c = _; rw [k0_dev5_eq]; revert c; decide
/-- The device named at this place is the neighbour along `x`. -/
theorem dev6_eq (c : Dev nD) (h : k0_dev6 c < nD) : (⟨k0_dev6 c, h⟩ : Dev nD) = peer true c := by
  apply Fin.ext; show k0_dev6 c = _; rw [k0_dev6_eq]; revert c; decide
/-- The device named at this place is the neighbour along `x`. -/
theorem dev7_eq (c : Dev nD) (h : k0_dev7 c < nD) : (⟨k0_dev7 c, h⟩ : Dev nD) = peer true c := by
  apply Fin.ext; show k0_dev7 c = _; rw [k0_dev7_eq]; revert c; decide
/-- The device named at this place is the neighbour along `x`. -/
theorem dev8_eq (c : Dev nD) (h : k0_dev8 c < nD) : (⟨k0_dev8 c, h⟩ : Dev nD) = peer true c := by
  apply Fin.ext; show k0_dev8 c = _; rw [k0_dev8_eq]; revert c; decide

/-! ## Buffers and slots -/

/-- The buffer an axis sends from (the partial products, the sums). -/
abbrev srcM (ax : Bool) : Memref sig .tc .vmem S4x1024x128 .bf16 :=
  match ax with | false => Memref.whole cc0_scratch2 | true => Memref.whole cc0_scratch4
/-- The buffer an axis receives into. -/
abbrev dstM (ax : Bool) : Memref sig .tc .vmem S4x1024x128 .bf16 :=
  match ax with | false => Memref.whole cc0_scratch3 | true => Memref.whole cc0_scratch5

/-- A slot lies in its ring. -/
theorem slot_inb (d : ℕ) : ∀ a, (![d % 4, 0, 0] : Fin 3 → ℕ) a + S1x1024x128.size a ≤ S4x1024x128.size a := by
  intro a; fin_cases a
  · show d % 4 + 1 ≤ 4; omega
  · show 0 + 1024 ≤ 1024; omega
  · show 0 + 128 ≤ 128; omega
/-- Slot `d % 4` of a ring of four. -/
abbrev slotR (d : ℕ) : Rect S4x1024x128 := Rect.unit (s := S4x1024x128) ![d % 4, 0, 0] S1x1024x128.size (slot_inb d)
/-- Slot `d % 4` of a buffer, as a transfer names it. -/
abbrev slotM (b : Memref sig .tc .vmem S4x1024x128 .bf16) (d : ℕ) : Memref sig .tc .vmem S1024x128 .bf16 :=
  (b.slice (slotR d) (fun _ => rfl)).squeeze S1024x128 squeezes_S1x1024x128_S1024x128

/-- What a slot's transfer counts. -/
abbrev N : ℕ := (slotM (dstM false) 0).view.dmaCredit
/-- A slot's transfer counts something. -/
theorem N_pos : 0 < N := View.dmaCredit_pos _ (by decide)
/-- A transfer counts the same for any source slot of either axis. -/
theorem credit_src (ax : Bool) (d : ℕ) : (slotM (srcM ax) d).view.dmaCredit = N := by cases ax <;> rfl
/-- A transfer counts the same for any destination slot of either axis. -/
theorem credit_dst (ax : Bool) (d : ℕ) : (slotM (dstM ax) d).view.dmaCredit = N := by cases ax <;> rfl

/-- Device `c` holds slot `d % 4` of the buffer, at contents `v`. -/
def sl (b : Memref sig .tc .vmem S4x1024x128 .bf16) (c : Dev nD) (d : ℕ) (v : S1x1024x128.Idx → Elt F .bf16) : sProp 𝕄 :=
  owns (c : Thread nD τ) (b.slice (slotR d) (fun _ => rfl)) fullShare v
instance sl_storable (b : Memref sig .tc .vmem S4x1024x128 .bf16) (c : Dev nD) (d : ℕ) (v) :
    BI.Storable (upEmb : UEmb _ 𝕄) (sl (F := F) b c d v) := by unfold sl; infer_instance
/-- The same at some contents. -/
def slx (b : Memref sig .tc .vmem S4x1024x128 .bf16) (c : Dev nD) (d : ℕ) : sProp 𝕄 := iprop(∃ v, sl (F := F) b c d v)
instance slx_storable (b : Memref sig .tc .vmem S4x1024x128 .bf16) (c : Dev nD) (d : ℕ) :
    BI.Storable (upEmb : UEmb _ 𝕄) (slx (F := F) b c d) := by unfold slx; infer_instance

/-! ## Semaphores and cells -/

/-- What a semaphore is for. -/
inductive Use where
  | send (ax : Bool) (d : ℕ) | recv (ax : Bool) (d : ℕ) | cred (ax : Bool) | bar | other
deriving DecidableEq

set_option backward.proofsInPublic true in
/-- The semaphore that counts an axis's chunk `d` sent. -/
def sendS (ax : Bool) (d : ℕ) : DmaSem sig := ⟨13 + 32 * (if ax then 1 else 0) + d % 16, by
  show _ < 77; have := Nat.mod_lt d (by omega : 16 > 0); split <;> omega⟩
set_option backward.proofsInPublic true in
/-- The semaphore that counts an axis's chunk `d` received. -/
def recvS (ax : Bool) (d : ℕ) : DmaSem sig := ⟨29 + 32 * (if ax then 1 else 0) + d % 16, by
  show _ < 77; have := Nat.mod_lt d (by omega : 16 > 0); split <;> omega⟩
set_option backward.proofsInPublic true in
/-- The semaphore of an axis's credits. -/
def credS (ax : Bool) : Sem sig := ⟨if ax then 1 else 0, by show _ < 3; split <;> omega⟩
/-- The runtime's barrier semaphore. -/
abbrev barS : Sem sig := (SemArray.scalar (sig.barrier 0 rfl) : Sems sig S_).sem

/-- A semaphore's use, by its number. -/
def useOf : SemLoc sig → Use
  | .reg s => if s.val = 0 then .cred false else if s.val = 1 then .cred true else .bar
  | .dma s => if s.val < 13 then .other else if s.val < 29 then .send false (s.val - 13) else if s.val < 45 then .recv false (s.val - 29)
      else if s.val < 61 then .send true (s.val - 45) else .recv true (s.val - 61)

abbrev sendC (ax : Bool) (c : Dev nD) (d : ℕ) : GSem nD τ sig := ((c : Thread nD τ), .dma (sendS ax d))
abbrev recvC (ax : Bool) (c : Dev nD) (d : ℕ) : GSem nD τ sig := ((c : Thread nD τ), .dma (recvS ax d))
abbrev credC (ax : Bool) (c : Dev nD) : GSem nD τ sig := ((c : Thread nD τ), .reg (credS ax))
abbrev barC (c : Dev nD) : GSem nD τ sig := ((c : Thread nD τ), .reg barS)

/-- The semaphore of a chunk's sending is classified as that. -/
theorem use_send (ax : Bool) {d : ℕ} (h : d < 16) : useOf (.dma (sendS ax d)) = .send ax d :=
  (by decide : ∀ ax : Bool, ∀ d < 16, useOf (.dma (sendS ax d)) = .send ax d) ax d h
/-- The semaphore of a chunk's receiving is classified as that. -/
theorem use_recv (ax : Bool) {d : ℕ} (h : d < 16) : useOf (.dma (recvS ax d)) = .recv ax d :=
  (by decide : ∀ ax : Bool, ∀ d < 16, useOf (.dma (recvS ax d)) = .recv ax d) ax d h
/-- The semaphore of an axis' credits is classified as that. -/
theorem use_cred (ax : Bool) : useOf (.reg (credS ax)) = .cred ax := by cases ax <;> rfl
/-- The barrier's semaphore is classified as that. -/
theorem use_bar : useOf (.reg barS) = .bar := rfl

/-! ## The schedule -/

/-- The neighbour has freed its receive slots for the chunks before `k`. -/
def relP (ax : Bool) (c : Dev nD) (k : ℕ) : sProp 𝕄 :=
  bigSep (Finset.range k) fun d => released (ES (F := F)) (peer ax c, ax, d) 1
instance relP_storable (ax : Bool) (c : Dev nD) (k : ℕ) : BI.Storable (upEmb : UEmb _ 𝕄) (relP (F := F) ax c k) := by unfold relP; infer_instance
instance relP_persistent (ax : Bool) (c : Dev nD) (k : ℕ) : BI.Persistent (relP (F := F) ax c k) := by unfold relP; infer_instance

/-- Whoever knows of more slots released knows of fewer. -/
theorem relP_mono (ax : Bool) (c : Dev nD) {k k' : ℕ} (h : k ≤ k') : (relP (F := F) ax c k') ⊢ relP ax c k := by
  unfold relP; exact bigSep_subset (Finset.range_mono h)
/-- Of the first `k` chunks' slots each is known to be released. -/
theorem relP_at (ax : Bool) (c : Dev nD) {k d : ℕ} (h : d < k) : (relP (F := F) ax c k) ⊢ released ES (peer ax c, ax, d) 1 := by
  unfold relP; exact bigSep_elim (Finset.mem_range.mpr h)

section Sched

variable (gen : Bool → Dev nD → ℕ → (S1x1024x128.Idx → Elt F .bf16))

/-- One round. A send or a receive is one duty of a slot's count: the first hands the sender its slot back, the second
    hands the receiver its slot filled with what the neighbour sent. A credit semaphore has twelve duties of one unit:
    the `i`-th says the neighbour has freed its receive slots for the chunks up to `i + 4`. The barrier has one unit
    from each neighbour, which says that it has freed its four receive slots. -/
def rd : Rounds.Schedule (GSem nD τ sig) ℕ 𝕄 where
  duties g r := if r = 0 then (match useOf g.2 with
    | .send _ _ => {0} | .recv _ _ => {0} | .cred _ => Finset.range 12 | .bar => Finset.range 2 | .other => ∅) else ∅
  unitless _ := False
  amount g _ _ := match useOf g.2 with
    | .send _ _ => N | .recv _ _ => N | .cred _ => 1 | .bar => 1 | .other => 1
  payload g _ d := match useOf g.2 with
    | .send ax k => sl (srcM ax) g.1.1 k (gen ax g.1.1 k)
    | .recv ax k => sl (dstM ax) g.1.1 k (gen ax (peer ax g.1.1) k)
    | .cred ax => relP ax g.1.1 (d + 5)
    | .bar => relP (d == 1) g.1.1 4
    | .other => iprop(emp)
  amount_pos g _ _ _ := by
    split <;> first | exact N_pos | exact Nat.one_pos

instance rd_storable (g : GSem nD τ sig) (r : ℕ) (d : ℕ) : BI.Storable (upEmb : UEmb _ 𝕄) ((rd (F := F) gen).payload g r d) := by
  dsimp only [rd]; split <;> infer_instance

/-- No semaphore has a duty after its one round. -/
theorem duties_later (g : GSem nD τ sig) : ∀ r, 1 ≤ r → (rd (F := F) gen).duties g r = ∅ :=
  fun r hr => if_neg (by omega)

variable (ax : Bool) (c : Dev nD) {d : ℕ} (h : d < 16)
include h
/-- A sending has one duty. -/
theorem duties_send : (rd (F := F) gen).duties (sendC ax c d) 0 = {0} := by dsimp only [rd]; rw [if_pos rfl, use_send ax h]
/-- A receiving has one duty. -/
theorem duties_recv : (rd (F := F) gen).duties (recvC ax c d) 0 = {0} := by dsimp only [rd]; rw [if_pos rfl, use_recv ax h]
/-- The duty of a sending pays the count of one slot's transfer. -/
theorem amount_send (i : ℕ) : (rd (F := F) gen).amount (sendC ax c d) 0 i = N := by dsimp only [rd]; rw [use_send ax h]
/-- The duty of a receiving pays the count of one slot's transfer. -/
theorem amount_recv (i : ℕ) : (rd (F := F) gen).amount (recvC ax c d) 0 i = N := by dsimp only [rd]; rw [use_recv ax h]
/-- A sending that is done gives the source slot back, as it was. -/
theorem payload_send (i : ℕ) : (rd (F := F) gen).payload (sendC ax c d) 0 i = sl (srcM ax) c d (gen ax c d) := by
  dsimp only [rd]; rw [use_send ax h]
/-- A receiving that is done gives the slot with what the neighbour sent. -/
theorem payload_recv (i : ℕ) : (rd (F := F) gen).payload (recvC ax c d) 0 i = sl (dstM ax) c d (gen ax (peer ax c) d) := by
  dsimp only [rd]; rw [use_recv ax h]
/-- A sending's round expects one transfer. -/
theorem expect_send : (rd (F := F) gen).expect (sendC ax c d) 0 = N := by
  unfold Schedule.expect Schedule.amountOf; rw [duties_send gen ax c h, Finset.sum_singleton, amount_send gen ax c h]
/-- A receiving's round expects one transfer. -/
theorem expect_recv : (rd (F := F) gen).expect (recvC ax c d) 0 = N := by
  unfold Schedule.expect Schedule.amountOf; rw [duties_recv gen ax c h, Finset.sum_singleton, amount_recv gen ax c h]
omit h
/-- The credits of an axis are twelve duties. -/
theorem duties_cred : (rd (F := F) gen).duties (credC ax c) 0 = Finset.range 12 := by dsimp only [rd]; rw [if_pos rfl, use_cred ax]
/-- A credit is one unit. -/
theorem amount_cred (i : ℕ) : (rd (F := F) gen).amount (credC ax c) 0 i = 1 := by dsimp only [rd]; rw [use_cred ax]
/-- Credit `i` tells that the slots of the first `i + 5` chunks have been released. -/
theorem payload_cred (i : ℕ) : (rd (F := F) gen).payload (credC ax c) 0 i = relP ax c (i + 5) := by dsimp only [rd]; rw [use_cred ax]
/-- The round of the credits expects twelve units. -/
theorem expect_cred : (rd (F := F) gen).expect (credC ax c) 0 = 12 := by
  unfold Schedule.expect Schedule.amountOf
  rw [duties_cred, Finset.sum_congr rfl fun i _ => amount_cred gen ax c i, Finset.sum_const, Finset.card_range, smul_eq_mul]
/-- The barrier has two duties, one for each neighbour. -/
theorem duties_bar : (rd (F := F) gen).duties (barC c) 0 = Finset.range 2 := by dsimp only [rd]; rw [if_pos rfl, use_bar]
/-- Each duty of the barrier is one unit. -/
theorem amount_bar (i : ℕ) : (rd (F := F) gen).amount (barC c) 0 i = 1 := by dsimp only [rd]; rw [use_bar]
/-- Each duty of the barrier tells that that neighbour's four slots have been released. -/
theorem payload_bar (i : ℕ) : (rd (F := F) gen).payload (barC c) 0 i = relP (i == 1) c 4 := by dsimp only [rd]; rw [use_bar]
/-- The barrier's round expects two units. -/
theorem expect_bar : (rd (F := F) gen).expect (barC c) 0 = 2 := by
  unfold Schedule.expect Schedule.amountOf
  rw [duties_bar, Finset.sum_congr rfl fun i _ => amount_bar gen c i, Finset.sum_const, Finset.card_range, smul_eq_mul]

end Sched

/-! ## Levels and what a device owes -/

def L (g : GSem nD τ sig) : Finset ℕ := if g.1.2 = .tc then Finset.range 16 else ∅
/-- Only TensorCores' semaphores have levels. -/
theorem L_of_ne : ∀ g : GSem nD τ sig, g.1.2 ≠ .tc → L g = ∅ := fun _ h => if_neg h
/-- The order of the waits: the step a cell is waited for at, two steps later along `x`. -/
def lv (g : GSem nD τ sig) (ι : ℕ) : ℕ :=
  match useOf g.2 with
  | .send _ _ => 0 | .other => 0 | .bar => 1
  | .recv ax d => d + 2 + (if ax then 2 else 0)
  | .cred ax => ι + 4 + (if ax then 2 else 0)

/-- What a device owes its neighbour along an axis once it has sent the chunks before `a` and `u` credits. -/
def Oax (ax : Bool) (c : Dev nD) (a u : ℕ) : CellTallies nD τ sig ℕ :=
  (∑ d ∈ Finset.Ico a 16, tallyAt (recvC ax (peer ax c) d) 0 N) + ∑ d ∈ Finset.Ico u 12, tallyAt (credC ax (peer ax c)) d 1

/-- What is owed before a chunk is sent is what is owed after it, and its receiving. -/
theorem Oax_send (ax : Bool) (c : Dev nD) {a : ℕ} (u : ℕ) (h : a < 16) :
    Oax ax c a u = Oax ax c (a + 1) u + tallyAt (recvC ax (peer ax c) a) 0 N := by
  unfold Oax; rw [Finset.sum_eq_sum_Ico_succ_bot h]; abel
/-- What is owed before a credit is given is what is owed after it, and the credit. -/
theorem Oax_cred (ax : Bool) (c : Dev nD) (a : ℕ) {u : ℕ} (h : u < 12) :
    Oax ax c a u = Oax ax c a (u + 1) + tallyAt (credC ax (peer ax c)) u 1 := by
  unfold Oax; rw [Finset.sum_eq_sum_Ico_succ_bot h]; abel

/-- A single tally is positive at its own place alone. -/
theorem tallyAt_pos {g g' : GSem nD τ sig} {ι ι' k : ℕ} (h : 0 < tallyAt g ι k g' ι') : g' = g ∧ ι' = ι := by
  unfold tallyAt tallyOn at h
  by_cases hg : g' = g
  · subst hg
    refine ⟨rfl, ?_⟩
    by_contra hne
    simp [Finsupp.single_apply, Ne.symm hne] at h
  · simp [hg, Pi.single_apply] at h

/-- What is owed along an axis is receivings of chunks not yet sent and credits not yet given. -/
theorem Oax_pos {ax : Bool} {c : Dev nD} {a u : ℕ} {g : GSem nD τ sig} {ι : ℕ} (h : 0 < Oax ax c a u g ι) :
    (∃ d, a ≤ d ∧ d < 16 ∧ g = recvC ax (peer ax c) d ∧ ι = 0) ∨ (u ≤ ι ∧ ι < 12 ∧ g = credC ax (peer ax c)) := by
  unfold Oax at h
  rw [Pi.add_apply, Finsupp.add_apply, Finset.sum_apply, Finset.sum_apply, Finsupp.finset_sum_apply, Finsupp.finset_sum_apply] at h
  rcases Nat.add_pos_iff_pos_or_pos.mp h with h | h
  · obtain ⟨d, hd, h⟩ := Finset.sum_pos_iff.mp h
    obtain ⟨rfl, rfl⟩ := tallyAt_pos h
    exact .inl ⟨d, (Finset.mem_Ico.mp hd).1, (Finset.mem_Ico.mp hd).2, rfl, rfl⟩
  · obtain ⟨d, hd, h⟩ := Finset.sum_pos_iff.mp h
    obtain ⟨rfl, rfl⟩ := tallyAt_pos h
    exact .inr ⟨(Finset.mem_Ico.mp hd).1, (Finset.mem_Ico.mp hd).2, rfl⟩

/-- What is still owed along an axis is waited for after step `n + 1`. -/
theorem Oax_lv {ax : Bool} {c : Dev nD} {a u n : ℕ} {g : GSem nD τ sig} {ι : ℕ} (h : 0 < Oax ax c a u g ι)
    (ha : n ≤ a + (if ax then 2 else 0)) (hu : n ≤ u + 2 + (if ax then 2 else 0)) : ι ∈ L g ∧ n + 1 < lv g ι := by
  rcases Oax_pos h with ⟨d, h1, h2, rfl, rfl⟩ | ⟨h1, h2, rfl⟩
  · refine ⟨by unfold L; rw [if_pos rfl]; decide, ?_⟩
    unfold lv; dsimp only; rw [use_recv ax h2]; dsimp only; omega
  · refine ⟨by unfold L; rw [if_pos rfl]; exact Finset.mem_range.mpr (by omega), ?_⟩
    unfold lv; dsimp only; rw [use_cred ax]; dsimp only; omega

/-- A wait of the first `n + 1` steps may be made while what is owed is waited for later. -/
theorem mayWait (c : Dev nD) (sm : SemLoc sig) (ι n : ℕ) {a b e f : ℕ} (hι : ι < 16) (hl : lv ((c : Thread nD τ), sm) ι ≤ n + 1)
    (ha : n ≤ a) (hb : n ≤ b + 2) (he : n ≤ e + 2) (hf : n ≤ f + 4) :
    (levAts L lv : sProp 𝕄) ⊢ MayWait (c : Thread nD τ) sm ι (Oax false c a b + Oax true c e f) := by
  have hO : ∀ (g : GSem nD τ sig) (i : ℕ), 0 < (Oax false c a b + Oax true c e f) g i → i ∈ L g ∧ n + 1 < lv g i := by
    intro g i h
    rw [Pi.add_apply, Finsupp.add_apply] at h
    rcases Nat.add_pos_iff_pos_or_pos.mp h with h | h
    · exact Oax_lv h (by simpa using ha) (by simpa using hb)
    · exact Oax_lv h (by simpa using he) (by simpa using hf)
  refine MayOwe.of_cut (n + 1) ?_ (fun g i h => (hO g i h).1) ?_ (fun g i h => (hO g i h).2)
  · intro p hp; rw [Finset.mem_singleton.mp hp]; unfold L; rw [if_pos rfl]; exact Finset.mem_range.mpr hι
  · intro p hp; rw [Finset.mem_singleton.mp hp]; exact hl

end Cert.Proof.Run
-- ==== Proof.Ops.lean ====
module

public import proofs.«01_k».proof.Proof.Proto
public import Idealize.SL.BI.BigOpNat

@[expose] public section

noncomputable section

namespace Cert.Proof.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Families over an interval -/

/-- The first member of a family over an interval. -/
theorem ico_take {a b : ℕ} (h : a < b) (Φ : ℕ → sProp 𝕄) :
    bigSep (Finset.Ico a b) Φ ⊢ iprop(Φ a ∗ bigSep (Finset.Ico (a + 1) b) Φ) := Entails.of_eq (bigSep_Ico_succ_bot h Φ)
/-- One more member at the end. -/
theorem ico_put {a b : ℕ} (h : a ≤ b) (Φ : ℕ → sProp 𝕄) :
    iprop(Φ b ∗ bigSep (Finset.Ico a b) Φ) ⊢ bigSep (Finset.Ico a (b + 1)) Φ := Entails.of_eq (bigSep_Ico_succ_top h Φ).symm

/-- A family in two parts. -/
theorem big_sdiff {I : Type} [DecidableEq I] {s t : Finset I} (h : t ⊆ s) (Φ : I → sProp 𝕄) :
    iprop(bigSep t Φ ∗ bigSep (s \ t) Φ) ⊢ bigSep s Φ := Entails.of_eq (bigSep_sdiff_split h).symm
/-- One member of a family. -/
theorem big_elim {I : Type} [DecidableEq I] {s : Finset I} {i : I} (hi : i ∈ s) (Φ : I → sProp 𝕄) :
    bigSep s Φ ⊢ iprop(Φ i) := bigSep_elim hi

/-! ## The records every device holds -/

/-- The semaphores of the protocol by number: the sends and receives, the credits, the barrier. -/
def csem (q : Fin 67) : SemLoc sig :=
  if h : q.val < 64 then .dma ⟨13 + q.val, by show _ < 77; omega⟩ else .reg ⟨q.val - 64, by show _ < 3; omega⟩
abbrev kcell (x : Dev nD × Fin 67) : GSem nD τ sig := ((x.1 : Thread nD τ), csem x.2)

set_option backward.proofsInPublic true in
def qsend (ax : Bool) (d : ℕ) : Fin 67 := ⟨32 * (if ax then 1 else 0) + d % 16, by
  have := Nat.mod_lt d (by omega : 16 > 0); split <;> omega⟩
set_option backward.proofsInPublic true in
def qrecv (ax : Bool) (d : ℕ) : Fin 67 := ⟨32 * (if ax then 1 else 0) + 16 + d % 16, by
  have := Nat.mod_lt d (by omega : 16 > 0); split <;> omega⟩
set_option backward.proofsInPublic true in
def qcred (ax : Bool) : Fin 67 := ⟨64 + (if ax then 1 else 0), by split <;> omega⟩

/-- The number of a chunk's sending names its semaphore. -/
theorem csem_send (ax : Bool) (d : ℕ) : csem (qsend ax d) = .dma (sendS ax d) := by
  have hd := Nat.mod_lt d (by omega : 16 > 0)
  unfold csem qsend sendS
  rw [dif_pos (by cases ax <;> simp <;> omega)]
  congr 2; show 13 + (_ + _) = _; omega
/-- The number of a chunk's receiving names its semaphore. -/
theorem csem_recv (ax : Bool) (d : ℕ) : csem (qrecv ax d) = .dma (recvS ax d) := by
  have hd := Nat.mod_lt d (by omega : 16 > 0)
  unfold csem qrecv recvS
  rw [dif_pos (by cases ax <;> simp <;> omega)]
  congr 2; show 13 + (_ + _ + _) = _; omega
/-- The number of an axis' credits names their semaphore. -/
theorem csem_cred (ax : Bool) : csem (qcred ax) = .reg (credS ax) := by cases ax <;> rfl
/-- The last number names the barrier. -/
theorem csem_bar : csem 66 = .reg barS := rfl

abbrev keys : Finset Key := Finset.univ ×ˢ (Finset.univ ×ˢ Finset.range 16)

section Gen

variable (gen : Bool → Dev nD → ℕ → (S1x1024x128.Idx → Elt F .bf16))

/-- Every cell's invariant, every cell at its first round, every receive slot's invariant, the order of the waits. -/
def Recs : sProp 𝕄 :=
  iprop((bigSep Finset.univ fun x : Dev nD × Fin 67 => iprop(∃ κ, cellInv ER (rd gen) κ (kcell x) ∗ reached ER (kcell x) 0))
    ∗ (bigSep keys fun k => iprop(∃ ι, slotInv ES ι k (slx (F := F) (dstM k.2.1) k.1 k.2.2)))
    ∗ levAts L lv)
instance Recs_persistent : BI.Persistent (Recs gen) := by unfold Recs; infer_instance

/-- The records hold every numbered cell's invariant. -/
theorem Recs_cell {g : GSem nD τ sig} (x : Dev nD × Fin 67) (hx : kcell x = g) :
    Recs gen ⊢ iprop(∃ κ, cellInv ER (rd gen) κ g ∗ reached ER g 0) := by
  subst hx
  have h := big_elim (Finset.mem_univ x) (fun x : Dev nD × Fin 67 => iprop(∃ κ, cellInv ER (rd gen) κ (kcell x) ∗ reached ER (kcell x) 0))
  unfold Recs
  iintro ⟨H, -⟩
  iapply h $$ H
/-- The records hold the invariant of a sending. -/
theorem Recs_send (ax : Bool) (c : Dev nD) (d : ℕ) :
    Recs gen ⊢ iprop(∃ κ, cellInv ER (rd gen) κ (sendC ax c d) ∗ reached ER (sendC ax c d) 0) :=
  Recs_cell gen (c, qsend ax d) (by unfold kcell; rw [csem_send])
/-- The records hold the invariant of a receiving. -/
theorem Recs_recv (ax : Bool) (c : Dev nD) (d : ℕ) :
    Recs gen ⊢ iprop(∃ κ, cellInv ER (rd gen) κ (recvC ax c d) ∗ reached ER (recvC ax c d) 0) :=
  Recs_cell gen (c, qrecv ax d) (by unfold kcell; rw [csem_recv])
/-- The records hold the invariant of an axis' credits. -/
theorem Recs_cred (ax : Bool) (c : Dev nD) :
    Recs gen ⊢ iprop(∃ κ, cellInv ER (rd gen) κ (credC ax c) ∗ reached ER (credC ax c) 0) :=
  Recs_cell gen (c, qcred ax) (by unfold kcell; rw [csem_cred])
/-- The records hold the invariant of the barrier. -/
theorem Recs_bar (c : Dev nD) :
    Recs gen ⊢ iprop(∃ κ, cellInv ER (rd gen) κ (barC c) ∗ reached ER (barC c) 0) :=
  Recs_cell gen (c, 66) rfl
/-- The records hold the invariant of each chunk's slot on its receiver. -/
theorem Recs_slot (ax : Bool) (c : Dev nD) {d : ℕ} (h : d < 16) :
    Recs gen ⊢ iprop(∃ ι, slotInv ES ι (c, ax, d) (slx (F := F) (dstM ax) c d)) := by
  have h := big_elim (i := ((c, ax, d) : Key)) (s := keys)
    (Finset.mem_product.mpr ⟨Finset.mem_univ _, Finset.mem_product.mpr ⟨Finset.mem_univ _, Finset.mem_range.mpr h⟩⟩)
    (fun k : Key => iprop(∃ ι, slotInv ES ι k (slx (F := F) (dstM k.2.1) k.1 k.2.2)))
  unfold Recs
  iintro ⟨-, H, -⟩
  iapply h $$ H
/-- The records hold the levels. -/
theorem Recs_lev : Recs gen ⊢ levAts L lv := by unfold Recs; iintro ⟨-, -, H⟩; iexact H

/-! ## What a device holds of one axis -/

section Axis

variable (ax : Bool) (c : Dev nD)

/-- The rights to send the chunks from `a` on. -/
def Tx (a : ℕ) : sProp 𝕄 := bigSep (Finset.Ico a 16) fun d =>
  iprop(dutyTok ER (sendC ax c d) 0 0 ∗ dutyTok ER (recvC ax (peer ax c) d) 0 0 ∗ writeTok ES ((peer ax c, ax, d) : Key) 1)
/-- The chunks before `a` are sent, the slots of those before `e` are back. -/
def Sn (e a : ℕ) : sProp 𝕄 :=
  iprop((bigSep (Finset.Ico e a) fun d => cred (tallyAt (sendC ax c d) 0 N))
    ∗ (bigSep (Finset.Ico e 16) fun d => atPos ER (sendC ax c d) 0 ∅ 0)
    ∗ (bigSep (Finset.Ico 0 e) fun d => atPos ER (sendC ax c d) 1 ∅ 0))
/-- The chunks before `b` are received. -/
def Rc (b : ℕ) : sProp 𝕄 :=
  iprop((bigSep (Finset.Ico b 16) fun d => iprop(cred (tallyAt (recvC ax c d) 0 N) ∗ atPos ER (recvC ax c d) 0 ∅ 0))
    ∗ (bigSep (Finset.Ico 0 b) fun d => atPos ER (recvC ax c d) 1 ∅ 0))
/-- `u` credits are given. -/
def Cr (u : ℕ) : sProp 𝕄 :=
  iprop((bigSep (Finset.Ico (u + 4) 16) fun d => readerAt ES ((c, ax, d) : Key) 0)
    ∗ (bigSep (Finset.Ico u 12) fun d => dutyTok ER (credC ax (peer ax c)) 0 d)
    ∗ (bigSep (Finset.range (u + 4)) fun d => released ES ((c, ax, d) : Key) 1))
/-- The place in the credit cell's round after `s` units: the duties taken so far with what they say. -/
def Cpos (s : ℕ) : sProp 𝕄 :=
  if s < 12 then iprop(∃ T, ⌜T ⊆ Finset.range 12⌝ ∗ atPos ER (credC ax c) 0 T s ∗ bigSep T (fun d => relP (F := F) ax c (d + 5)))
  else atPos ER (credC ax c) 1 ∅ 0
/-- `s` credits are used. -/
def Cw (s : ℕ) : sProp 𝕄 :=
  iprop((bigSep (Finset.Ico s 12) fun d => cred (tallyAt (credC ax c) d 1)) ∗ Cpos ax c s ∗ relP ax c (s + 4))

end Axis

/-- What a device owes: along an axis from chunk `a` and credit `u` on, along the other from `a'` and `u'` on. -/
def Ow (ax : Bool) (c : Dev nD) (a u a' u' : ℕ) : sProp 𝕄 := iprop(∃ W, owes (c : Thread nD τ) (Oax ax c a u + Oax (!ax) c a' u') W)
/-- What a device owes is named from either axis. -/
theorem Ow_comm (ax : Bool) (c : Dev nD) (a u a' u' : ℕ) : Ow (F := F) ax c a u a' u' = Ow (!ax) c a' u' a u := by
  unfold Ow; rw [Bool.not_not, add_comm]

/-- What is owed is waited for after step `n + 1`. -/
def Late (ax : Bool) (n a u a' u' : ℕ) : Prop :=
  n ≤ a + (if ax then 2 else 0) ∧ n ≤ u + 2 + (if ax then 2 else 0) ∧ n ≤ a' + (if ax then 0 else 2) ∧ n ≤ u' + 2 + (if ax then 0 else 2)

/-- A device may wait at a level when what it owes along either axis lies above it. -/
theorem mayWaitA (ax : Bool) (c : Dev nD) (sm : SemLoc sig) (ι n : ℕ) {a u a' u' : ℕ} (hι : ι < 16)
    (hl : lv ((c : Thread nD τ), sm) ι ≤ n + 1) (h : Late ax n a u a' u') :
    (levAts L lv : sProp 𝕄) ⊢ MayWait (c : Thread nD τ) sm ι (Oax ax c a u + Oax (!ax) c a' u') := by
  obtain ⟨h1, h2, h3, h4⟩ := h
  cases ax
  · exact mayWait c sm ι n hι hl (by simpa using h1) (by simpa using h2) (by simpa using h3) (by simpa using h4)
  · rw [add_comm]; exact mayWait c sm ι n hι hl (by simpa using h3) (by simpa using h4) (by simpa using h1) (by simpa using h2)

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Slots as a transfer names them -/

/-- A slot has the same places with its leading axis and without. -/
theorem slot_set (b : Memref sig .tc .vmem S4x1024x128 .bf16) (d : ℕ) :
    (slotM b d).view.set = (b.slice (slotR d) (fun _ => rfl)).view.set := by simp

/-- Reading a slot and reading it squeezed say the same. -/
theorem slot_read {b b' : Memref sig .tc .vmem S4x1024x128 .bf16} {d : ℕ} {f : b.view.ty.Contents (Elt F)} {g : b'.view.ty.Contents (Elt F)}
    (h : (slotM b d).view.read (Elt F) f = (slotM b' d).view.read (Elt F) g) :
    (b.slice (slotR d) (fun _ => rfl)).view.read (Elt F) f = (b'.slice (slotR d) (fun _ => rfl)).view.read (Elt F) g := by
  funext j
  have := congrFun h ((Shape.reshapeEquiv (squeezes_S1x1024x128_S1024x128).numel_eq).symm j)
  simp only [View.read_apply, Memref.view_squeeze, View.reshape, Function.Embedding.trans_apply, Equiv.coe_toEmbedding,
    Equiv.apply_symm_apply] at this
  exact this

/-- A slot a transfer names is the slot at what it reads. -/
theorem slot_sl {b : Memref sig .tc .vmem S4x1024x128 .bf16} {c : Dev nD} {d : ℕ} {f : b.view.ty.Contents (Elt F)}
    {v : S1x1024x128.Idx → Elt F .bf16} (h : (b.slice (slotR d) (fun _ => rfl)).view.read (Elt F) f = v) :
    ((slotM b d).view.loc (c : Thread nD τ) ↦[(slotM b d).view.set]{fullShare} f : sProp 𝕄) ⊢ sl b c d v := by
  rw [slot_set, ← h]; exact owns_intro (c : Thread nD τ) (b.slice (slotR d) (fun _ => rfl)) fullShare f
/-- A slot held at contents is held as a transfer names it, at what reads as those. -/
theorem sl_slot {b : Memref sig .tc .vmem S4x1024x128 .bf16} {c : Dev nD} {d : ℕ} {v : S1x1024x128.Idx → Elt F .bf16} :
    (sl b c d v : sProp 𝕄) ⊢ iprop(∃ f : b.view.ty.Contents (Elt F), ⌜(b.slice (slotR d) (fun _ => rfl)).view.read (Elt F) f = v⌝
      ∗ ((slotM b d).view.loc (c : Thread nD τ) ↦[(slotM b d).view.set]{fullShare} f)) := by
  rw [slot_set]; exact Entails.rfl
/-- A slot written through another's contents holds what the other does. -/
theorem slot_landed {b b' : Memref sig .tc .vmem S4x1024x128 .bf16} {c : Dev nD} {d : ℕ} {f : b.view.ty.Contents (Elt F)}
    {g : b'.view.ty.Contents (Elt F)} {v : S1x1024x128.Idx → Elt F .bf16} (h : (b.slice (slotR d) (fun _ => rfl)).view.read (Elt F) f = v) :
    ((slotM b' d).view.loc (c : Thread nD τ) ↦[(slotM b' d).view.set]{fullShare}
        ((slotM b' d).view.write (Elt F) g ((slotM b d).view.read (Elt F) f) Finset.univ) : sProp 𝕄) ⊢ sl b' c d v :=
  slot_sl ((slot_read (View.read_write_univ _ _)).trans h)

section OpLemmas

variable (ax : Bool) (c : Dev nD) {α : Type}

/-- A chunk sent: the slot and the right to send it go, the neighbour's receive slot having been freed. -/
theorem op_send {a e s u a' u' : ℕ} (ha : a < 16) (he : e ≤ a) (hs : a < s + 4) {n : Dev nD} (hn : n = peer ax c)
    {src dst : Memref sig .tc .vmem S1024x128 .bf16} (hsrcE : src = slotM (srcM ax) a) (hdstE : dst = slotM (dstM ax) a)
    {sS sR : DmaSem sig} (hsS : sS = sendS ax a) (hsR : sR = recvS ax a)
    {hsc : (dst : Memref sig (Dev.tc n : Thread nD τ).2.kind .vmem S1024x128 .bf16).view.ref.isScScratch = false}
    {hsrc : src.view.WordExact} {hdst : dst.view.WordExact}
    {hsem : DmaTarget.Typed .vmem (.dma sR) (.remote (Dev.tc n : Thread nD τ) dst (.dma sS) hsc)}
    {k : PUnit → Prog (TpuEff nD τ sig (Elt F) Λ₀ .tc) α} {Q : α → sProp 𝕄} :
    iprop(Recs gen ∗ Tx ax c a ∗ Sn ax c e a ∗ Cw ax c s ∗ sl (srcM ax) c a (gen ax c a) ∗ Ow ax c a u a' u')
      ⊢ iprop((iprop(Tx ax c (a + 1) ∗ Sn ax c e (a + 1) ∗ Cw ax c s ∗ Ow ax c (a + 1) u a' u') -∗ WP c (k ⟨⟩) Q)
        -∗ WP c (.op (.enqueueDma src (.remote (Dev.tc n : Thread nD τ) dst (.dma sS) hsc) (.dma sR) hsrc hdst hsem) k) Q) := by
  subst hn hsrcE hdstE hsS hsR
  unfold Tx Sn Cw Ow
  iintro ⟨#HR, HT, ⟨Hc, Hp, Hp'⟩, ⟨Hcc, Hcp, #Hrel⟩, Hs, ⟨%W, HO⟩⟩ Hk
  ihave Hs := sl_slot $$ Hs
  icases Hs with ⟨%fs, %hfs, Hs⟩
  ihave HT := (ico_take ha _) $$ HT
  icases HT with ⟨⟨Ht1, Ht2, Hw⟩, HT⟩
  ihave #H1 := (Recs_send gen ax c a) $$ HR
  ihave #H2 := (Recs_recv gen ax (peer ax c) a) $$ HR
  ihave #H3 := (Recs_slot gen ax (peer ax c) ha) $$ HR
  icases H1 with ⟨%κ₁, #Hi1, #Hr1⟩
  icases H2 with ⟨%κ₂, #Hi2, #Hr2⟩
  icases H3 with ⟨%κ₃, #Hi3⟩
  ihave #Hra := (relP_at ax c hs) $$ Hrel
  imod (slot_take ES (Set.mem_univ κ₃) 1) $$ [Hw] with Hd
  · isplitr; · iexact Hi3
    isplitr; · iexact Hra
    iexact Hw
  unfold slx
  icases Hd with ⟨%v, Hd⟩
  ihave Hd := sl_slot $$ Hd
  icases Hd with ⟨%fd, %hfd, Hd⟩
  have hO : Oax ax c a u + Oax (!ax) c a' u' = (Oax ax c (a + 1) u + Oax (!ax) c a' u') + tallyAt (recvC ax (peer ax c) a) 0 N := by
    rw [Oax_send ax c u ha]; abel
  have hd₁ : 0 ∈ (rd (F := F) gen).duties (sendC ax c a) 0 := by rw [duties_send gen ax c ha]; exact Finset.mem_singleton_self _
  have hd₂ : 0 ∈ (rd (F := F) gen).duties (recvC ax (peer ax c) a) 0 := by rw [duties_recv gen ax _ ha]; exact Finset.mem_singleton_self _
  have hp₁ : ((slotM (srcM ax) a).view.loc (c : Thread nD τ) ↦[(slotM (srcM ax) a).view.set]{fullShare} fs : sProp 𝕄)
      ⊢ (rd gen).payload (sendC ax c a) 0 0 := by rw [payload_send gen ax c ha]; exact slot_sl hfs
  have hp₂ : ((slotM (dstM ax) a).view.loc (peer ax c : Thread nD τ) ↦[(slotM (dstM ax) a).view.set]{fullShare}
        ((slotM (dstM ax) a).view.write (Elt F) fd ((slotM (srcM ax) a).view.read (Elt F) fs) Finset.univ) : sProp 𝕄)
      ⊢ (rd gen).payload (recvC ax (peer ax c) a) 0 0 := by rw [payload_recv gen ax _ ha, peer_peer]; exact slot_landed hfs
  have hN : (slotM (dstM ax) a).view.amount (.dma (recvS ax a)) = N := credit_dst ax a
  have hr : τ.routes (c : Thread nD τ) (peer ax c : Thread nD τ) = true := by routes
  iapply (wp_send_pointsTo 𝒱₀ ER (rd gen) (c : Thread nD τ) none (κ₁ := κ₁) (κ₂ := κ₂) hd₁ hd₂ 0 0 N hN
    (amount_send gen ax c ha 0) (amount_recv gen ax _ ha 0) _ hO (W := W) hp₁ hp₂ (hr := hr)) $$ [Hs Hd HO Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply Hk
  isplitl [HT]; · iexact HT
  isplitl [Hc Hcr Hp Hp']
  · isplitl [Hc Hcr]
    · iapply (ico_put he (fun d => cred (tallyAt (sendC ax c d) 0 N)))
      isplitl [Hcr] <;> iassumption
    isplitl [Hp] <;> iassumption
  isplitl [Hcc Hcp]
  · isplitl [Hcc]
    · iexact Hcc
    isplitl [Hcp]; · iexact Hcp
    iexact Hrel
  iexists W; iexact HO

/-- A sending's level is the bottom one. -/
theorem lv_send {d : ℕ} (h : d < 16) (ι : ℕ) : lv (sendC ax c d) ι = 0 := by unfold lv; dsimp only; rw [use_send ax h]
/-- A receiving's level is two above its chunk's number, and two more along `x`. -/
theorem lv_recv {d : ℕ} (h : d < 16) (ι : ℕ) : lv (recvC ax c d) ι = d + 2 + (if ax then 2 else 0) := by unfold lv; dsimp only; rw [use_recv ax h]
/-- A credit's level is four above the number of the chunk whose slot it frees, and two more along `x`. -/
theorem lv_cred (ι : ℕ) : lv (credC ax c) ι = ι + 4 + (if ax then 2 else 0) := by unfold lv; dsimp only; rw [use_cred ax]
/-- The whole round of a sending pays the source slot. -/
theorem pays_send {d : ℕ} (h : d < 16) : bigSep ((rd gen).duties (sendC ax c d) 0 \ ∅) (fun i => (rd gen).payload (sendC ax c d) 0 i)
    ⊢ (sl (srcM ax) c d (gen ax c d) : sProp 𝕄) := by
  rw [duties_send gen ax c h, Finset.sdiff_empty, bigSep_singleton, payload_send gen ax c h]
/-- The whole round of a receiving pays the slot received. -/
theorem pays_recv {d : ℕ} (h : d < 16) : bigSep ((rd gen).duties (recvC ax c d) 0 \ ∅) (fun i => (rd gen).payload (recvC ax c d) 0 i)
    ⊢ (sl (dstM ax) c d (gen ax (peer ax c) d) : sProp 𝕄) := by
  rw [duties_recv gen ax c h, Finset.sdiff_empty, bigSep_singleton, payload_recv gen ax c h]

/-- The wait that a chunk has gone out: its slot comes back. -/
theorem op_waitsend {a e u a' u' : ℕ} (he : e < 16) (hea : e < a)
    {src dst : Memref sig .tc .vmem S1024x128 .bf16} (hN : dst.view.dmaCredit = N)
    {sS : DmaSem sig} (hsS : sS = sendS ax e) {hsrc : src.view.WordExact} {hdst : dst.view.WordExact}
    {k : PUnit → Prog (TpuEff nD τ sig (Elt F) Λ₀ .tc) α} {Q : α → sProp 𝕄} :
    iprop(Recs gen ∗ Sn ax c e a ∗ Ow ax c a u a' u')
      ⊢ iprop((iprop(Sn ax c (e + 1) a ∗ sl (srcM ax) c e (gen ax c e) ∗ Ow ax c a u a' u') -∗ WP c (k ⟨⟩) Q)
        -∗ WP c (.op (.waitDma2 sS src dst hsrc hdst) k) Q) := by
  subst hsS
  unfold Sn Ow
  iintro ⟨#HR, ⟨Hc, Hp, Hp'⟩, ⟨%W, HO⟩⟩ Hk
  ihave Hc := (ico_take hea _) $$ Hc
  icases Hc with ⟨Hcr, Hc⟩
  ihave Hp := (ico_take he _) $$ Hp
  icases Hp with ⟨Hat, Hp⟩
  ihave #H1 := (Recs_send gen ax c e) $$ HR
  icases H1 with ⟨%κ, #Hi, #Hr⟩
  ihave #Hlev := (Recs_lev gen) $$ HR
  have hk : 0 + N = (rd gen).expect (sendC ax c e) 0 := by rw [expect_send gen ax c he, Nat.zero_add]
  have hw : ∀ K : PUnit → sProp 𝕄, wpE (defs₀ (F := F)) 𝒱₀ (c : Thread nD τ) none Set.univ (.waitDma2 (sendS ax e) src dst hsrc hdst) K
      = waitSpec (c : Thread nD τ) Set.univ (.dma (sendS ax e)) N K := fun K => by rw [← hN]; rfl
  iapply (wp_wait_rest_token 𝒱₀ ER (rd gen) (c : Thread nD τ) none (κ := κ) hw (Set.mem_univ κ) 0
    (O := Oax ax c a u + Oax (!ax) c a' u') (W := W) (R := 0) (m := 0) (T := ∅) hk) $$ [Hcr HO Hat]
  · isplitr; · iexact Hi
    isplitl [Hcr]; · iexact Hcr
    isplitl [HO]; · iexact HO
    isplitr
    · iapply (mayWaitA ax c (.dma (sendS ax e)) 0 0 (by omega) (by rw [lv_send ax c he]; omega)
        ⟨by omega, by omega, by omega, by omega⟩) $$ Hlev
    iexact Hat
  iintro ⟨HO, Hat, -, Hpay⟩
  ihave Hpay := (pays_send gen ax c he) $$ Hpay
  iapply Hk
  isplitl [Hc Hp Hp' Hat]
  · isplitl [Hc]; · iexact Hc
    isplitl [Hp]; · iexact Hp
    iapply (ico_put (Nat.zero_le e) (fun d => atPos ER (sendC ax c d) 1 ∅ 0))
    isplitl [Hat] <;> iassumption
  isplitl [Hpay]; · iexact Hpay
  iexists _; iexact HO

/-- The wait that a chunk has come in: its receive slot filled. -/
theorem op_waitrecv {a b u a' u' : ℕ} (hb : b < 16) (hl : Late ax (b + 1 + (if ax then 2 else 0)) a u a' u')
    {src dst : Memref sig .tc .vmem S1024x128 .bf16} (hN : dst.view.dmaCredit = N)
    {sR : DmaSem sig} (hsR : sR = recvS ax b) {hsrc : src.view.WordExact} {hdst : dst.view.WordExact}
    {k : PUnit → Prog (TpuEff nD τ sig (Elt F) Λ₀ .tc) α} {Q : α → sProp 𝕄} :
    iprop(Recs gen ∗ Rc ax c b ∗ Ow ax c a u a' u')
      ⊢ iprop((iprop(Rc ax c (b + 1) ∗ sl (dstM ax) c b (gen ax (peer ax c) b) ∗ Ow ax c a u a' u') -∗ WP c (k ⟨⟩) Q)
        -∗ WP c (.op (.waitDma2 sR src dst hsrc hdst) k) Q) := by
  subst hsR
  unfold Rc Ow
  iintro ⟨#HR, ⟨Hc, Hp'⟩, ⟨%W, HO⟩⟩ Hk
  ihave Hc := (ico_take hb _) $$ Hc
  icases Hc with ⟨⟨Hcr, Hat⟩, Hc⟩
  ihave #H1 := (Recs_recv gen ax c b) $$ HR
  icases H1 with ⟨%κ, #Hi, #Hr⟩
  ihave #Hlev := (Recs_lev gen) $$ HR
  have hk : 0 + N = (rd gen).expect (recvC ax c b) 0 := by rw [expect_recv gen ax c hb, Nat.zero_add]
  have hw : ∀ K : PUnit → sProp 𝕄, wpE (defs₀ (F := F)) 𝒱₀ (c : Thread nD τ) none Set.univ (.waitDma2 (recvS ax b) src dst hsrc hdst) K
      = waitSpec (c : Thread nD τ) Set.univ (.dma (recvS ax b)) N K := fun K => by rw [← hN]; rfl
  iapply (wp_wait_rest_token 𝒱₀ ER (rd gen) (c : Thread nD τ) none (κ := κ) hw (Set.mem_univ κ) 0
    (O := Oax ax c a u + Oax (!ax) c a' u') (W := W) (R := 0) (m := 0) (T := ∅) hk) $$ [Hcr HO Hat]
  · isplitr; · iexact Hi
    isplitl [Hcr]; · iexact Hcr
    isplitl [HO]; · iexact HO
    isplitr
    · iapply (mayWaitA ax c (.dma (recvS ax b)) 0 _ (by omega) (by rw [lv_recv ax c hb]; omega) hl) $$ Hlev
    iexact Hat
  iintro ⟨HO, Hat, -, Hpay⟩
  ihave Hpay := (pays_recv gen ax c hb) $$ Hpay
  iapply Hk
  isplitl [Hc Hp' Hat]
  · isplitl [Hc]; · iexact Hc
    iapply (ico_put (Nat.zero_le b) (fun d => atPos ER (recvC ax c d) 1 ∅ 0))
    isplitl [Hat] <;> iassumption
  isplitl [Hpay]; · iexact Hpay
  iexists _; iexact HO

/-- Slots repeat every four chunks. -/
theorem sl_add4 (b : Memref sig .tc .vmem S4x1024x128 .bf16) (d : ℕ) (v : S1x1024x128.Idx → Elt F .bf16) :
    (sl b c (d + 4) v : sProp 𝕄) = sl b c d v := by
  have h : b.slice (slotR (d + 4)) (fun _ => rfl) = b.slice (slotR d) (fun _ => rfl) := Memref.slice_unit_congr b (by rw [Nat.add_mod_right]) _ _ _ _
  unfold sl; exact congrArg (fun m => owns (c : Thread nD τ) m fullShare v) h

/-- Two devices' hands on one slot cannot be. -/
theorem slx_excl (b : Memref sig .tc .vmem S4x1024x128 .bf16) (d : ℕ) :
    iprop(slx b c d ∗ slx b c d) ⊢ (False : sProp 𝕄) := by
  unfold slx sl owns
  iintro ⟨⟨%v, %f, -, H⟩, ⟨%v', %f', -, H'⟩⟩
  have h0 : 0 < S1x1024x128.numel := by decide
  obtain ⟨i, hi⟩ := View.set_nonempty (v := (b.slice (slotR d) (fun _ => rfl)).view) h0
  ihave Hf := (pointsTo_overlap_false (ℓ := (b.slice (slotR d) (fun _ => rfl)).view.loc (c : Thread nD τ)) (q := fullShare) (f := f) (g := f') hi hi) $$ [H H']
  · isplitl [H] <;> iassumption
  iexact Hf

/-- A credit given: the neighbour may send the chunk four further. -/
theorem op_signal {a u a' u' : ℕ} (hu : u < 12) {v : S1x1024x128.Idx → Elt F .bf16}
    {n : Dev nD} (hn : n = peer ax c) {s : Sem sig} (hs : s = credS ax) {z : ℤ} (hz : z = ((1 : ℕ) : ℤ))
    {k : PUnit → Prog (TpuEff nD τ sig (Elt F) Λ₀ .tc) α} {Q : α → sProp 𝕄} :
    iprop(Recs gen ∗ Cr ax c u ∗ sl (dstM ax) c u v ∗ Ow ax c a u a' u')
      ⊢ iprop((iprop(Cr ax c (u + 1) ∗ Ow ax c a (u + 1) a' u') -∗ WP c (k ⟨⟩) Q)
        -∗ WP c (.op (.semSignal (n, .tc) s z) k) Q) := by
  subst hn hs hz
  unfold Cr Ow
  iintro ⟨#HR, ⟨Hrd, Ht, #Hrel⟩, Hs, ⟨%W, HO⟩⟩ Hk
  ihave Hrd := (ico_take (by omega : u + 4 < 16) _) $$ Hrd
  icases Hrd with ⟨Hr, Hrd⟩
  ihave Ht := (ico_take hu _) $$ Ht
  icases Ht with ⟨Htok, Ht⟩
  ihave #H1 := (Recs_cred gen ax (peer ax c)) $$ HR
  icases H1 with ⟨%κ, #Hi, #Hre⟩
  ihave #H2 := (Recs_slot gen ax c (by omega : u + 4 < 16)) $$ HR
  icases H2 with ⟨%ι, #Hsl⟩
  imod (slot_release ES (Set.mem_univ ι) (slx_excl c (dstM ax) (u + 4)) 0) $$ [Hr Hs] with ⟨-, #Hnew⟩
  · isplitr; · iexact Hsl
    isplitl [Hr]; · iexact Hr
    unfold slx; iexists v; rw [sl_add4]; iexact Hs
  ihave #Hall : (bigSep (Finset.range (u + 4 + 1)) fun d => released ES ((c, ax, d) : Key) 1 : sProp 𝕄) $$ []
  · iapply (Entails.of_eq (bigSep_range_succ (u + 4) (fun d => (released ES ((c, ax, d) : Key) 1 : sProp 𝕄))).symm)
    isplitr <;> iassumption
  have hO : Oax ax c a u + Oax (!ax) c a' u' = (Oax ax c a (u + 1) + Oax (!ax) c a' u') + tallyAt (credC ax (peer ax c)) u 1 := by
    rw [Oax_cred ax c a hu]; abel
  have hd : u ∈ (rd (F := F) gen).duties (credC ax (peer ax c)) 0 := by rw [duties_cred]; exact Finset.mem_range.mpr hu
  have hp : (bigSep (Finset.range (u + 4 + 1)) fun d => released ES ((c, ax, d) : Key) 1 : sProp 𝕄) ⊢ (rd gen).payload (credC ax (peer ax c)) 0 u := by
    rw [payload_cred]; unfold relP; rw [peer_peer]
  have hr : τ.routes (c : Thread nD τ) (peer ax c : Thread nD τ) = true := by routes
  iapply (Rounds.wp_signal 𝒱₀ ER (rd gen) (c : Thread nD τ) none (κ := κ) hd (amount_cred gen ax (peer ax c) u) u _ hO (W := W) (hr := hr)) $$ [HO Htok]
  · isplitr; · iexact Hi
    isplitl [HO]; · iexact HO
    isplitl [Htok]; · iexact Htok
    isplitr
    · iapply hp; iexact Hall
    iexact Hre
  iintro HO
  iapply Hk
  isplitl [Hrd Ht]
  · isplitl [Hrd]
    · rw [show u + 1 + 4 = u + 4 + 1 from by omega]; iexact Hrd
    isplitl [Ht]; · iexact Ht
    rw [show u + 1 + 4 = u + 4 + 1 from by omega]; iexact Hall
  iexists W; iexact HO

/-- Duties enough for one beyond the first `s`. -/
theorem exists_ge {s : ℕ} {S : Finset ℕ} (h : s < S.card) : ∃ d ∈ S, s ≤ d := by
  by_contra hc
  have hc' : ∀ d ∈ S, d < s := fun d hd => by by_contra hn; exact hc ⟨d, hd, by omega⟩
  have := Finset.card_le_card (fun d hd => Finset.mem_range.mpr (hc' d hd) : S ⊆ Finset.range s)
  rw [Finset.card_range] at this; omega

/-- A credit waited for: the neighbour's receive slot for the chunk four further is known free. -/
theorem op_waitcred {a u a' u' s : ℕ} (hs : s < 12) (hl : Late ax (s + 3 + (if ax then 2 else 0)) a u a' u')
    {sm : Sem sig} (hsm : sm = credS ax) {z : ℤ} (hz : z = ((1 : ℕ) : ℤ))
    {k : PUnit → Prog (TpuEff nD τ sig (Elt F) Λ₀ .tc) α} {Q : α → sProp 𝕄} :
    iprop(Recs gen ∗ Cw ax c s ∗ Ow ax c a u a' u')
      ⊢ iprop((iprop(Cw ax c (s + 1) ∗ Ow ax c a u a' u') -∗ WP c (k ⟨⟩) Q)
        -∗ WP c (.op (.semWait sm z) k) Q) := by
  subst hsm hz
  unfold Cw Ow
  iintro ⟨#HR, ⟨Hc, Hp, -⟩, ⟨%W, HO⟩⟩ Hk
  ihave Hc := (ico_take hs _) $$ Hc
  icases Hc with ⟨Hcr, Hc⟩
  ihave #H1 := (Recs_cred gen ax c) $$ HR
  icases H1 with ⟨%κ, #Hi, #Hr⟩
  ihave #Hlev := (Recs_lev gen) $$ HR
  ihave Hp := (Entails.of_eq (show Cpos (F := F) ax c s = iprop(∃ T, ⌜T ⊆ Finset.range 12⌝ ∗ atPos ER (credC ax c) 0 T s ∗ bigSep T (fun d => relP (F := F) ax c (d + 5)))
    from if_pos hs)) $$ Hp
  icases Hp with ⟨%T, %hT, Hat, #HT⟩
  have hmw := mayWaitA (F := F) ax c (.reg (credS ax)) s _ (by omega) (by rw [lv_cred ax c]; omega) hl
  rcases Nat.lt_or_ge (s + 1) 12 with h | h
  · iapply (Rounds.wp_wait 𝒱₀ ER (rd gen) (c : Thread nD τ) none (κ := κ) (wpE_semWait_eq 𝒱₀ (c : Thread nD τ) none Set.univ) (Set.mem_univ κ)
      (cr := Finsupp.single s 1) (O := Oax ax c a u + Oax (!ax) c a' u') (W := W) (R := 0) (m := s) (T := T)
      {(.reg (credS ax), s)} (Util.total_single _ _) (image_single_subset _ s 1)) $$ [Hcr HO Hat]
    · isplitr; · iexact Hi
      isplitl [Hcr]; · iexact Hcr
      isplitl [HO]; · iexact HO
      isplitr; · iapply hmw $$ Hlev
      iexact Hat
    iintro %S ⟨%hS, HO, Hat, Hpay⟩
    ihave #Hpay := (Entails.of_eq (bigSep_congr fun i _ => payload_cred gen ax c i)) $$ Hpay
    rw [duties_cred, expect_cred] at hS
    obtain ⟨hTS, hS12, hcard⟩ := hS
    rw [Finset.card_sdiff_of_subset hS12, Finset.card_range] at hcard
    have hc12 := Finset.card_le_card hS12
    rw [Finset.card_range] at hc12
    obtain ⟨d, hd, hds⟩ := exists_ge (s := s) (S := S) (by omega)
    ihave #HS : (bigSep S (fun d => relP (F := F) ax c (d + 5))) $$ []
    · iapply (big_sdiff hTS (fun d => relP (F := F) ax c (d + 5)))
      isplitr
      · iexact HT
      · iexact Hpay
    ihave #H0 := (big_elim hd (fun d => relP (F := F) ax c (d + 5))) $$ HS
    ihave #H2 := (relP_mono ax c (by omega : s + 1 + 4 ≤ d + 5)) $$ H0
    iapply Hk
    isplitl [Hc Hat]
    · isplitl [Hc]; · iexact Hc
      isplitl [Hat]
      · unfold Cpos
        rw [if_pos h]
        iexists S
        isplitr; · ipureintro; exact hS12
        isplitl [Hat]; · iexact Hat
        iexact HS
      iexact H2
    iexists _; iexact HO
  · have hs11 : s = 11 := by omega
    subst hs11
    iapply (wp_wait_rest_token 𝒱₀ ER (rd gen) (c : Thread nD τ) none (κ := κ) (wpE_semWait_eq 𝒱₀ (c : Thread nD τ) none Set.univ) (Set.mem_univ κ) 11
      (O := Oax ax c a u + Oax (!ax) c a' u') (W := W) (R := 0) (m := 11) (T := T) (by rw [expect_cred])) $$ [Hcr HO Hat]
    · isplitr; · iexact Hi
      isplitl [Hcr]; · iexact Hcr
      isplitl [HO]; · iexact HO
      isplitr; · iapply hmw $$ Hlev
      iexact Hat
    iintro ⟨HO, Hat, -, Hpay⟩
    ihave #Hpay := (Entails.of_eq (bigSep_congr fun i _ => payload_cred gen ax c i)) $$ Hpay
    ihave #HS : (bigSep (Finset.range 12) (fun d => relP (F := F) ax c (d + 5))) $$ []
    · iapply (big_sdiff hT (fun d => relP (F := F) ax c (d + 5)))
      isplitr
      · iexact HT
      · rw [← duties_cred gen ax c]; iexact Hpay
    ihave #H2 := (big_elim (Finset.mem_range.mpr (by omega : 11 < 12)) (fun d => relP (F := F) ax c (d + 5))) $$ HS
    iapply Hk
    isplitl [Hc Hat]
    · isplitl [Hc]; · iexact Hc
      isplitl [Hat]
      · unfold Cpos
        rw [if_neg (by omega)]
        iexact Hat
      iexact H2
    iexists _; iexact HO

end OpLemmas

end Gen

end Cert.Proof.Run
-- ==== Proof.Local.lean ====
module

public import proofs.«01_k».proof.Proof.Ops
public import Idealize.ShloMosaic.Lib.ValueLayout

@[expose] public section

noncomputable section

namespace Cert.Proof.Run

open Cert.KernelIdeal Cert.KernelIdeal.Gen
open Idealize.ShloMosaic Idealize.ShloMosaic.TcCoe Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section Ops

variable (ax : Bool) (c : Dev nD) {α : Type}

/-! ## Loads and stores -/

/-- A slot loaded. -/
theorem op_loadslot {b : Memref sig .tc .vmem S4x1024x128 .bf16} {d : ℕ} {v : S1x1024x128.Idx → Elt F .bf16}
    {off : Fin 3 → ℕ} (ho : off = ![d % 4, 0, 0]) {inb : ∀ a, off a + S1x1024x128.size a ≤ S4x1024x128.size a}
    {hl : b.view.LoadsAt (Rect.unit (s := S4x1024x128) off S1x1024x128.size inb).toLoadRect}
    {k : (S1x1024x128.Idx → Elt F .bf16) → Prog (TpuEff nD τ sig (Elt F) Λ₀ .tc) α} {Q : α → sProp 𝕄} :
    (sl b c d v) ⊢ iprop((sl b c d v -∗ WP c (k v) Q)
      -∗ WP c (.op (.load b (Rect.unit (s := S4x1024x128) off S1x1024x128.size inb).toLoadRect hl) k) Q) := by
  subst ho
  unfold sl owns
  iintro ⟨%f, %hf, H⟩ Hk
  have hk := wp_load_rect (defs := defs₀ (F := F)) (Γ := ∅) (Q := Q) 𝒱₀ (c : Thread nD τ) none Set.univ (m := b) (r := slotR d) (hl := hl) (k := k) (q := fullShare) (f := f)
    (S := (b.slice (slotR d) (fun _ => rfl)).view.set) Finset.Subset.rfl
  iapply hk $$ H
  iintro H
  subst hf
  iapply Hk
  iexists f
  isplitr; · ipureintro; rfl
  iexact H

/-- A slot stored. -/
theorem op_storeslot {b : Memref sig .tc .vmem S4x1024x128 .bf16} {d : ℕ} {v w : S1x1024x128.Idx → Elt F .bf16}
    {off : Fin 3 → ℕ} (ho : off = ![d % 4, 0, 0]) {inb : ∀ a, off a + S1x1024x128.size a ≤ S4x1024x128.size a}
    {hx : (b.access (Rect.unit (s := S4x1024x128) off S1x1024x128.size inb)).Stores Finset.univ} {hm}
    {k : PUnit → Prog (TpuEff nD τ sig (Elt F) Λ₀ .tc) α} {Q : α → sProp 𝕄} :
    (sl b c d v) ⊢ iprop((sl b c d w -∗ WP c (k ⟨⟩) Q)
      -∗ WP c (.op (.store b (Rect.unit (s := S4x1024x128) off S1x1024x128.size inb) w Finset.univ hx hm) k) Q) := by
  subst ho
  unfold sl owns
  iintro ⟨%f, %hf, H⟩ Hk
  have hk := wp_store (defs := defs₀ (F := F)) (Γ := ∅) (Q := Q) 𝒱₀ (c : Thread nD τ) none Set.univ (m := b) (r := slotR d) (w := w) (Mk := Finset.univ) (hx := hx) (hm := hm) (k := k) (f := f)
    (S := (b.slice (slotR d) (fun _ => rfl)).view.set) Finset.Subset.rfl
  iapply hk $$ H
  iintro H
  iapply Hk
  iexists _
  isplitr
  swap
  · iexact H
  ipureintro; exact View.read_write_univ _ _

/-! ## Local copies -/

/-- Contents that read alike through a view agree on its places. -/
theorem eq_of_read {κ : Kind} {sp : Space} {s : Shape} {e : EltTy} (v : Memref sig κ sp s e) {f g : v.view.ty.Contents (Elt F)}
    (h : v.view.read (Elt F) f = v.view.read (Elt F) g) : ∀ i ∈ v.view.set, f i = g i := by
  intro i hi
  obtain ⟨x, -, rfl⟩ := Finset.mem_map.mp hi
  have := congrFun h x
  rw [View.read_apply, View.read_apply] at this
  exact (cast_inj _).mp this

/-- A local copy started: its destination will hold what is read from the source as the contents `g` do. -/
theorem op_copy {sp sp' : Space} {s : Shape} {e : EltTy} {src : Memref sig .tc sp s e} {dst : Memref sig .tc sp' s e} {sm : DmaSem sig}
    {hsrc : src.view.WordExact} {hdst : dst.view.WordExact} {hsem : DmaTarget.Typed (nD := nD) (p := (Proc.tc : Proc τ)) sp (.dma sm) (.here dst)}
    {q : PosShare TreeShare} {fs : Buf (Elt F) (src.view.loc (c : Thread nD τ))} {fd g : Buf (Elt F) (dst.view.loc (c : Thread nD τ))}
    {S : Finset (Idx (src.view.loc (c : Thread nD τ)))} (hS : src.view.set ⊆ S)
    (hg : dst.view.read (Elt F) g = src.view.read (Elt F) fs) {n : ℕ} (hn : dst.view.dmaCredit = n) (hpos : 0 < n)
    {k : PUnit → Prog (TpuEff nD τ sig (Elt F) Λ₀ .tc) α} {Q : α → sProp 𝕄} :
    iprop((src.view.loc (c : Thread nD τ) ↦[S]{q} fs) ∗ (dst.view.loc (c : Thread nD τ) ↦[dst.view.set]{fullShare} fd)
        ∗ semVal ((c : Thread nD τ), .dma sm) 0)
      ⊢ iprop((Flight EC (c : Thread nD τ) (.dma sm) 0 n iprop(dst.view.loc (c : Thread nD τ) ↦[dst.view.set]{fullShare} g) -∗ WP c (k ⟨⟩) Q)
        -∗ WP c (.op (.enqueueDma src (.here dst) (.dma sm) hsrc hdst hsem) k) Q) := by
  iintro ⟨Hs, Hd, Hv⟩ Hk
  ihave Hs := (pointsTo_split_subset (q := q) (f := fs) hS).1 $$ Hs
  icases Hs with ⟨Hs, -⟩
  have hD : iprop((dst.view.loc (c : Thread nD τ) ↦[dst.view.set]{fullShare} (dst.view.write (Elt F) fd (src.view.read (Elt F) fs) Finset.univ))
      ∗ (src.view.loc (c : Thread nD τ) ↦[src.view.set]{q} fs)) ⊢ (dst.view.loc (c : Thread nD τ) ↦[dst.view.set]{fullShare} g : sProp 𝕄) := by
    rw [pointsTo_congr (fun i hi => eq_of_read dst ((View.read_write_univ _ _).trans hg.symm) i hi)]
    iintro ⟨H, -⟩
    iexact H
  have hr := wp_dmaLocal (defs := defs₀ (F := F)) (Q := Q) EC 𝒱₀ (c : Thread nD τ) none (src := src) (via := .same) (dst := dst) (sm := .dma sm) (hsrc := hsrc) (hdst := hdst) (hsem := hsem)
    (k := k) (q := q) (fs := fs) (Sd := dst.view.set) (fd := fd) 0 n hn hpos Finset.Subset.rfl
  iapply hr $$ [Hs Hd Hv]
  · isplitl [Hs]; · iexact Hs
    isplitl [Hd] <;> iassumption
  iintro Hf
  iapply Hk
  iapply (Flight_mono EC (c := (c : Thread nD τ)) (sm := .dma sm) (ι := 0) (N := n) (D' := iprop(dst.view.loc (c : Thread nD τ) ↦[dst.view.set]{fullShare} g)) hD) $$ Hf

/-- The wait for a local copy. -/
theorem op_copywait {gen : Bool → Dev nD → ℕ → (S1x1024x128.Idx → Elt F .bf16)} {sp sp' : Space} {s : Shape} {e : EltTy}
    {src : Memref sig .tc sp s e} {dst : Memref sig .tc sp' s e} {sm : DmaSem sig}
    (hsm : sm.val < 13) {hsrc : src.view.WordExact} {hdst : dst.view.WordExact} {n : ℕ} (hn : dst.view.dmaCredit = n) {D : sProp 𝕄}
    {a u a' u' : ℕ}
    {k : PUnit → Prog (TpuEff nD τ sig (Elt F) Λ₀ .tc) α} {Q : α → sProp 𝕄} :
    iprop(Recs gen ∗ Flight EC (c : Thread nD τ) (.dma sm) 0 n D ∗ Ow ax c a u a' u')
      ⊢ iprop((iprop(D ∗ semVal ((c : Thread nD τ), .dma sm) 0 ∗ Ow ax c a u a' u') -∗ WP c (k ⟨⟩) Q)
        -∗ WP c (.op (.waitDma2 sm src dst hsrc hdst) k) Q) := by
  unfold Ow
  iintro ⟨#HR, Hf, ⟨%W, HO⟩⟩ Hk
  ihave #Hlev := (Recs_lev gen) $$ HR
  have hl : lv ((c : Thread nD τ), .dma sm) 0 ≤ 0 + 1 := by
    unfold lv useOf; dsimp only; rw [if_pos hsm]; dsimp only; omega
  iapply (wp_waitLocalO (defs := defs₀ (F := F)) (Q := Q) EC 𝒱₀ (c : Thread nD τ) none (srcw := src) (dstw := dst) (hsrc := hsrc) (hdst := hdst) (k := k) 0 hn
    (O := Oax ax c a u + Oax (!ax) c a' u') (W := W)) $$ [Hf HO]
  · isplitl [Hf]; · iexact Hf
    isplitl [HO]; · iexact HO
    iapply (mayWaitA ax c (.dma sm) 0 0 (by omega) hl ⟨by omega, by omega, by omega, by omega⟩) $$ Hlev
  iintro ⟨HD, Hv, HO⟩
  iapply Hk
  isplitl [HD]; · iexact HD
  isplitl [Hv]; · iexact Hv
  iexists _; iexact HO

end Ops

end Cert.Proof.Run
-- ==== Proof.Copies.lean ====
module

public import proofs.«01_k».proof.Proof.Local

@[expose] public section

noncomputable section

namespace Cert.Proof.Run

open Cert.KernelIdeal Cert.KernelIdeal.Gen
open Idealize.ShloMosaic Idealize.ShloMosaic.TcCoe Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## A buffer in parts -/

/-- Parts that do not meet, each held at some contents, are their union held at some contents. -/
theorem parts_join {ℓ : Loc nD τ sig} {q : PosShare TreeShare} {T : Type} [DecidableEq T] (f₀ : Buf (Elt F) ℓ) (S : Finset T) (K : T → Finset (Idx ℓ))
    (h : ∀ t ∈ S, ∀ t' ∈ S, t ≠ t' → Disjoint (K t) (K t')) :
    bigSep S (fun t => iprop(∃ f : Buf (Elt F) ℓ, ℓ ↦[K t]{q} f)) ⊢ (iprop(∃ g : Buf (Elt F) ℓ, ℓ ↦[S.biUnion K]{q} g) : sProp 𝕄) := by
  classical
  induction S using Finset.induction_on with
  | empty =>
    iintro -
    iexists f₀
    rw [Finset.biUnion_empty, pointsTo_empty]
    iempintro
  | insert t S ht ih =>
    rw [Finset.biUnion_insert]
    refine BIBase.Entails.trans (Q := iprop((∃ f : Buf (Elt F) ℓ, ℓ ↦[K t]{q} f) ∗ bigSep S (fun t => iprop(∃ f : Buf (Elt F) ℓ, ℓ ↦[K t]{q} f)))) (Entails.of_eq (bigSep_insert ht)) ?_
    iintro ⟨⟨%f, H⟩, HS⟩
    ihave HS := (ih fun a ha b hb => h a (Finset.mem_insert_of_mem ha) b (Finset.mem_insert_of_mem hb)) $$ HS
    icases HS with ⟨%g, HS⟩
    iexists _
    iapply (pointsTo_join (q := q) (f := f) (g := g) ?_)
    rotate_left
    · isplitl [H] <;> iassumption
    · rw [Finset.disjoint_biUnion_right]
      exact fun i hi => h t (Finset.mem_insert_self _ _) i (Finset.mem_insert_of_mem hi) (fun e => ht (e ▸ hi))

/-! ## The rows of the first operand -/

abbrev dyM : Memref sig .tc .vmem S1024x8192 .f32 := Memref.whole cc0_scratch0
abbrev wM : Memref sig .tc .vmem S2x128x8192 .f32 := Memref.whole cc0_scratch1
abbrev xM : Memref sig .tc .hbm S2048x8192 .f32 := Memref.whole main_arg0
abbrev yM : Memref sig .tc .hbm S2048x8192 .f32 := Memref.whole main_arg1

/-- The `r`-th block of rows lies in the scratch buffer. -/
theorem dy_inb (r : ℕ) : ∀ a, (![128 * (r % 8), 0] : Fin 2 → ℕ) a + S128x8192.size a ≤ S1024x8192.size a := by
  intro a; fin_cases a
  · show 128 * (r % 8) + 128 ≤ 1024; omega
  · show 0 + 8192 ≤ 8192; omega
/-- The `r`-th block of 128 rows. -/
abbrev dyR (r : ℕ) : Rect S1024x8192 := Rect.unit (s := S1024x8192) ![128 * (r % 8), 0] S128x8192.size (dy_inb r)
abbrev dyB (r : ℕ) : Memref sig .tc .vmem S128x8192 .f32 := dyM.slice (dyR r) (fun _ => rfl)
/-- The `r`-th block of the device's rows lies in the first argument. -/
theorem xs_inb (c : Dev nD) (r : ℕ) : ∀ a, (![1024 * (c.val / 2) + 128 * (r % 8), 0] : Fin 2 → ℕ) a + S128x8192.size a ≤ S2048x8192.size a := by
  have hc := c.isLt
  simp only [nD] at hc
  intro a; fin_cases a
  · show 1024 * (c.val / 2) + 128 * (r % 8) + 128 ≤ 2048; omega
  · show 0 + 8192 ≤ 8192; omega
/-- The same rows of device `c`'s half of the operand. -/
abbrev xB (c : Dev nD) (r : ℕ) : Memref sig .tc .hbm S128x8192 .f32 :=
  xM.slice (Rect.unit (s := S2048x8192) ![1024 * (c.val / 2) + 128 * (r % 8), 0] S128x8192.size (xs_inb c r)) (fun _ => rfl)

set_option backward.proofsInPublic true in
def dyS (r : ℕ) : DmaSem sig := ⟨1 + r % 8, by show _ < 77; omega⟩

/-! ## The column chunks of the second -/

/-- Half a chunk lies in its slot. -/
theorem w_inb (d h : ℕ) : ∀ a, (![d % 2, 64 * (h % 2), 0] : Fin 3 → ℕ) a + S1x64x8192.size a ≤ S2x128x8192.size a := by
  intro a; fin_cases a
  · show d % 2 + 1 ≤ 2; omega
  · show 64 * (h % 2) + 64 ≤ 128; omega
  · show 0 + 8192 ≤ 8192; omega
/-- Half `h` of the slot of chunk `d`. -/
abbrev wR (d h : ℕ) : Rect S2x128x8192 := Rect.unit (s := S2x128x8192) ![d % 2, 64 * (h % 2), 0] S1x64x8192.size (w_inb d h)
abbrev wB (d h : ℕ) : Memref sig .tc .vmem S64x8192 .f32 := (wM.slice (wR d h) (fun _ => rfl)).squeeze S64x8192 squeezes_S1x64x8192_S64x8192
/-- Half a chunk's rows lie in the second argument. -/
theorem ys_inb (d h : ℕ) : ∀ a, (![128 * (d % 16) + 64 * (h % 2), 0] : Fin 2 → ℕ) a + S64x8192.size a ≤ S2048x8192.size a := by
  intro a; fin_cases a
  · show 128 * (d % 16) + 64 * (h % 2) + 64 ≤ 2048; omega
  · show 0 + 8192 ≤ 8192; omega
abbrev yB (d h : ℕ) : Memref sig .tc .hbm S64x8192 .f32 :=
  yM.slice (Rect.unit (s := S2048x8192) ![128 * (d % 16) + 64 * (h % 2), 0] S64x8192.size (ys_inb d h)) (fun _ => rfl)
/-- A chunk's slot lies in its buffer. -/
theorem wf_inb (d : ℕ) : ∀ a, (![d % 2, 0, 0] : Fin 3 → ℕ) a + S1x128x8192.size a ≤ S2x128x8192.size a := by
  intro a; fin_cases a
  · show d % 2 + 1 ≤ 2; omega
  · show 0 + 128 ≤ 128; omega
  · show 0 + 8192 ≤ 8192; omega
/-- The slot of chunk `d`. -/
abbrev wfR (d : ℕ) : Rect S2x128x8192 := Rect.unit (s := S2x128x8192) ![d % 2, 0, 0] S1x128x8192.size (wf_inb d)

set_option backward.proofsInPublic true in
def wS (d h : ℕ) : DmaSem sig := ⟨9 + 2 * (d % 2) + h % 2, by show _ < 77; omega⟩

abbrev NX : ℕ := (dyB 0).view.dmaCredit
abbrev NW : ℕ := (wB 0 0).view.dmaCredit
/-- The copy of a block counts something. -/
theorem NX_pos : 0 < NX := View.dmaCredit_pos _ (by decide)
/-- The copy of half a chunk counts something. -/
theorem NW_pos : 0 < NW := View.dmaCredit_pos _ (by decide)
/-- The copies of all blocks count the same. -/
theorem credit_dy (r : ℕ) : (dyB r).view.dmaCredit = NX := rfl
/-- The copies of all half chunks count the same. -/
theorem credit_w (d h : ℕ) : (wB d h).view.dmaCredit = NW := rfl

/-! ## Contents -/

set_option backward.proofsInPublic true in
/-- The rows a device works on. -/
def xh (X : Dev nD → S2048x8192.Idx → Elt F .f32) (c : Dev nD) : S1024x8192.Idx → Elt F .f32 := fun i =>
  X c (ix2 ⟨1024 * (c.val / 2) + (i 0).val, by
    have hc := c.isLt; simp only [nD] at hc; have h : (i 0).val < 1024 := (i 0).isLt; omega⟩ (i 1))
set_option backward.proofsInPublic true in
/-- The slots once both hold chunk `d`. -/
def wsp (Y : Dev nD → S2048x8192.Idx → Elt F .f32) (c : Dev nD) (d : ℕ) : S2x128x8192.Idx → Elt F .f32 := fun i =>
  Y c (ix2 ⟨128 * (d % 16) + (i 1).val, by have h : (i 1).val < 128 := (i 1).isLt; omega⟩ (i 2))
/-- Chunk `d` as it is loaded. -/
def wv (Y : Dev nD → S2048x8192.Idx → Elt F .f32) (c : Dev nD) (d : ℕ) : S1x128x8192.Idx → Elt F .f32 :=
  fun j => wsp Y c d ((wfR d).emb j)

/-- The device's rows, read at a block, are the argument's rows there. -/
theorem dy_read (X : Dev nD → S2048x8192.Idx → Elt F .f32) (c : Dev nD) (r : ℕ) :
    (dyB r).view.read (Elt F) (xh X c) = (xB c r).view.read (Elt F) (X c) := by
  funext j
  show xh X c ((dyR r).emb j) = X c _
  unfold xh
  congr 1
  funext a
  apply Fin.ext
  fin_cases a
  · show 1024 * (c.val / 2) + ((dyR r).emb j 0 : ℕ) = _
    show 1024 * (c.val / 2) + (128 * (r % 8) + 1 * (j 0).val) = 1024 * (c.val / 2) + 128 * (r % 8) + 1 * (j 0).val
    omega
  · rfl

/-- A chunk, read at one of its halves, is the argument's rows there. -/
theorem w_read (Y : Dev nD → S2048x8192.Idx → Elt F .f32) (c : Dev nD) (d h : ℕ) :
    (wB d h).view.read (Elt F) (wsp Y c d) = (yB d h).view.read (Elt F) (Y c) := by
  funext j
  have hj : Shape.reshapeEquiv (s := S1x64x8192) (s' := S64x8192) squeezes_S1x64x8192_S64x8192.numel_eq j = (ix3 (0 : Fin 1) (j 0 : Fin 64) (j 1 : Fin 8192) : (⟨3, ![1, 64, 8192]⟩ : Shape).Idx) := by
    conv_lhs => rw [show j = (ix2 (j 0 : Fin 64) (j 1 : Fin 8192) : (⟨2, ![64, 8192]⟩ : Shape).Idx) from eq_ix2 j]
    exact reshapeEquiv_ix2_1ab _ _ _
  show wsp Y c d ((wR d h).emb (Shape.reshapeEquiv _ j)) = Y c _
  rw [hj]
  unfold wsp
  congr 1
  funext a
  apply Fin.ext
  fin_cases a
  · show 128 * (d % 16) + (64 * (h % 2) + 1 * (j 0).val) = 128 * (d % 16) + 64 * (h % 2) + 1 * (j 0).val
    omega
  · rfl

/-! ## The groups -/

section Groups

variable (X Y : Dev nD → S2048x8192.Idx → Elt F .f32) (c : Dev nD) (q : PosShare TreeShare)

/-- A read share of the first operand's array; of the second's. -/
def xTok (i : ℕ) : sProp 𝕄 := iprop(xM.view.loc (c : Thread nD τ) ↦[Finset.univ]{shareTokN q i} X c)
def yTok (h d : ℕ) : sProp 𝕄 := iprop(yM.view.loc (c : Thread nD τ) ↦[Finset.univ]{shareTokN (shareTokN q h) d} Y c)

def dyIdle (r : ℕ) : sProp 𝕄 :=
  iprop((∃ f : Buf (Elt F) ((dyB r).view.loc (c : Thread nD τ)), (dyB r).view.loc (c : Thread nD τ) ↦[(dyB r).view.set]{fullShare} f)
    ∗ semVal ((c : Thread nD τ), .dma (dyS r)) 0)
def dyPt (r : ℕ) : sProp 𝕄 := iprop((dyB r).view.loc (c : Thread nD τ) ↦[(dyB r).view.set]{fullShare} xh X c)
def dyFl (r : ℕ) : sProp 𝕄 := Flight EC (c : Thread nD τ) (.dma (dyS r)) 0 NX (dyPt X c r)
def dyDone (r : ℕ) : sProp 𝕄 := iprop(dyPt X c r ∗ semVal ((c : Thread nD τ), .dma (dyS r)) 0)
/-- Blocks before `r` are on their way. -/
def DyS (r : ℕ) : sProp 𝕄 :=
  iprop(bigSep (Finset.Ico 0 r) (dyFl X c) ∗ bigSep (Finset.Ico r 8) (fun r => iprop(dyIdle c r ∗ xTok X c q r)))
/-- Blocks before `r` are in. -/
def DyW (r : ℕ) : sProp 𝕄 := iprop(bigSep (Finset.Ico 0 r) (dyDone X c) ∗ bigSep (Finset.Ico r 8) (dyFl X c))

/-- When the last of the eight copies has started, none is waited for yet. -/
theorem DyS_done : (DyS X c q 8 : sProp 𝕄) ⊢ DyW X c 0 := by
  unfold DyS DyW
  iintro ⟨H, -⟩
  isplitr
  · rw [Finset.Ico_self, bigSep_empty]; iempintro
  iexact H

def wIdle (d h : ℕ) : sProp 𝕄 :=
  iprop((∃ f : Buf (Elt F) ((wB d h).view.loc (c : Thread nD τ)), (wB d h).view.loc (c : Thread nD τ) ↦[(wB d h).view.set]{fullShare} f)
    ∗ semVal ((c : Thread nD τ), .dma (wS d h)) 0)
def wPt (d h : ℕ) : sProp 𝕄 := iprop((wB d h).view.loc (c : Thread nD τ) ↦[(wB d h).view.set]{fullShare} wsp Y c d)
def wFl (d h : ℕ) : sProp 𝕄 := Flight EC (c : Thread nD τ) (.dma (wS d h)) 0 NW (wPt Y c d h)
/-- The slot of chunk `d`: on its way, or past the last chunk idle. -/
def Wst (d : ℕ) : sProp 𝕄 := if d < 16 then iprop(wFl Y c d 0 ∗ wFl Y c d 1) else iprop(wIdle c d 0 ∗ wIdle c d 1)
def WT (a : ℕ) : sProp 𝕄 := bigSep (Finset.Ico a 16) fun d => iprop(yTok Y c q 0 d ∗ yTok Y c q 1 d)

/-- A chunk's slot is that of the chunk two on. -/
theorem wIdle_add2 (d h : ℕ) : (wIdle c (d + 2) h : sProp 𝕄) = wIdle c d h := by
  have h1 : wB (d + 2) h = wB d h := congrArg (fun m => Memref.squeeze m S64x8192 squeezes_S1x64x8192_S64x8192)
    (Memref.slice_unit_congr wM (by rw [Nat.add_mod_right]) _ _ _ _)
  have h2 : wS (d + 2) h = wS d h := by unfold wS; simp only [Nat.add_mod_right]
  unfold wIdle
  rw [h2]
  exact congrArg (fun m : Memref sig .tc .vmem S64x8192 .f32 => iprop((∃ f : Buf (Elt F) (m.view.loc (c : Thread nD τ)), m.view.loc (c : Thread nD τ) ↦[m.view.set]{fullShare} f)
    ∗ semVal ((c : Thread nD τ), .dma (wS d h)) 0)) h1

/-- A half slot at a chunk's contents, its counter at zero, is idle. -/
theorem wPt_idle (d h : ℕ) : iprop(wPt Y c d h ∗ semVal ((c : Thread nD τ), .dma (wS d h)) 0) ⊢ (wIdle c d h : sProp 𝕄) := by
  unfold wPt wIdle
  iintro ⟨H, Hv⟩
  isplitl [H]
  · iexists _; iexact H
  iexact Hv

/-- A slot's places are those of its two halves. -/
theorem wf_cover (d : ℕ) : (wM.view.slice (wfR d)).set = (wB d 0).view.set ∪ (wB d 1).view.set := by
  ext i
  simp only [Finset.mem_union, Memref.view_squeeze, View.set_reshape, Memref.view_slice]
  show i ∈ ((View.whole cc0_scratch1).slice (wfR d)).set ↔ i ∈ ((View.whole cc0_scratch1).slice (wR d 0)).set ∨ i ∈ ((View.whole cc0_scratch1).slice (wR d 1)).set
  rw [View.set_slice_whole, View.set_slice_whole, View.set_slice_whole, Rect.mem_set_unit, Rect.mem_set_unit, Rect.mem_set_unit]
  have h1 : (i 1).val < 128 := (i 1).isLt
  constructor
  · intro h
    have h0 := h 0
    have h2 := h 2
    rcases Nat.lt_or_ge (i 1).val 64 with h64 | h64
    · refine .inl fun a => ?_
      fin_cases a
      · exact h0
      · show 64 * (0 % 2) ≤ (i 1).val ∧ (i 1).val < 64 * (0 % 2) + 64; omega
      · exact h2
    · refine .inr fun a => ?_
      fin_cases a
      · exact h0
      · show 64 * (1 % 2) ≤ (i 1).val ∧ (i 1).val < 64 * (1 % 2) + 64; omega
      · exact h2
  · rintro (h | h) <;>
    · intro a
      have h0 := h 0
      have h2 := h 2
      fin_cases a
      · exact h0
      · show 0 ≤ (i 1).val ∧ (i 1).val < 0 + 128; omega
      · exact h2

/-- The two halves of a slot do not meet. -/
theorem w_disj (d : ℕ) : Disjoint (wB d 0).view.set (wB d 1).view.set := by
  simp only [Memref.view_squeeze, View.set_reshape, Memref.view_slice]
  show Disjoint ((View.whole cc0_scratch1).slice (wR d 0)).set ((View.whole cc0_scratch1).slice (wR d 1)).set
  rw [View.set_slice_whole, View.set_slice_whole]
  exact Rect.disjoint_of_separated _ _ (1 : Fin 3) (.inl (.inr (by show 64 * (0 % 2) + 1 * (64 - 1) < 64 * (1 % 2); decide)))

/-- Chunk `d`'s slot, whole. -/
def wSlot (d : ℕ) : sProp 𝕄 := iprop(wM.view.loc (c : Thread nD τ) ↦[(wM.view.slice (wfR d)).set]{fullShare} wsp Y c d)
/-- A slot at a chunk's contents is its two halves at the chunk's. -/
theorem w_join (d : ℕ) : (wSlot Y c d : sProp 𝕄) ⊣⊢ iprop(wPt Y c d 0 ∗ wPt Y c d 1) := by
  unfold wSlot wPt
  rw [wf_cover]
  exact pointsTo_union (w_disj d)

end Groups

section Ops

variable (X Y : Dev nD → S2048x8192.Idx → Elt F .f32) (c : Dev nD) (q : PosShare TreeShare) {α : Type}

/-- The start of a block's copy. -/
theorem op_dystart {r : ℕ} (hr : r < 8) {src : Memref sig .tc .hbm S128x8192 .f32} {dst : Memref sig .tc .vmem S128x8192 .f32}
    {sm : DmaSem sig} (hsrcE : src = xB c r) (hdstE : dst = dyB r) (hsm : sm = dyS r)
    {hsrc : src.view.WordExact} {hdst : dst.view.WordExact} {hsem : DmaTarget.Typed (nD := nD) (p := (Proc.tc : Proc τ)) .hbm (.dma sm) (.here dst)}
    {k : PUnit → Prog (TpuEff nD τ sig (Elt F) Λ₀ .tc) α} {Q : α → sProp 𝕄} :
    DyS X c q r ⊢ iprop((DyS X c q (r + 1) -∗ WP c (k ⟨⟩) Q)
        -∗ WP c (.op (.enqueueDma src (.here dst) (.dma sm) hsrc hdst hsem) k) Q) := by
  subst hsrcE hdstE hsm
  unfold DyS
  iintro ⟨Hf, Hi⟩ Hk
  ihave Hi := (ico_take hr _) $$ Hi
  icases Hi with ⟨⟨Hd, Ht⟩, Hi⟩
  unfold dyIdle
  icases Hd with ⟨⟨%f, Hd⟩, Hv⟩
  unfold xTok
  iapply (op_copy (src := xB c r) (dst := dyB r) c (S := Finset.univ) (q := shareTokN q r) (fs := X c) (fd := f) (g := xh X c) (Finset.subset_univ _) (dy_read X c r) (credit_dy r) NX_pos) $$ [Ht Hd Hv]
  · isplitl [Ht]; · iexact Ht
    isplitl [Hd]; · iexact Hd
    iexact Hv
  iintro Hn
  iapply Hk
  isplitl [Hf Hn]
  · iapply (ico_put (Nat.zero_le r) (dyFl X c))
    isplitl [Hn]; · unfold dyFl dyPt; iexact Hn
    iexact Hf
  iexact Hi

/-- The wait for a block's copy. -/
theorem op_dywait {gen : Bool → Dev nD → ℕ → (S1x1024x128.Idx → Elt F .bf16)} {ax : Bool} {a u a' u' : ℕ} {r : ℕ} (hr : r < 8)
    {src : Memref sig .tc .hbm S128x8192 .f32} {dst : Memref sig .tc .vmem S128x8192 .f32}
    {sm : DmaSem sig} (hdstE : dst = dyB r) (hsm : sm = dyS r)
    {hsrc : src.view.WordExact} {hdst : dst.view.WordExact}
    {k : PUnit → Prog (TpuEff nD τ sig (Elt F) Λ₀ .tc) α} {Q : α → sProp 𝕄} :
    iprop(Recs gen ∗ DyW X c r ∗ Ow ax c a u a' u') ⊢ iprop((iprop(DyW X c (r + 1) ∗ Ow ax c a u a' u') -∗ WP c (k ⟨⟩) Q)
        -∗ WP c (.op (.waitDma2 sm src dst hsrc hdst) k) Q) := by
  subst hdstE hsm
  unfold DyW
  iintro ⟨#HR, ⟨Hd, Hf⟩, HO⟩ Hk
  ihave Hf := (ico_take hr _) $$ Hf
  icases Hf with ⟨Hn, Hf⟩
  unfold dyFl
  iapply (op_copywait ax c (gen := gen) (dst := dyB r) (sm := dyS r) (by unfold dyS; show 1 + r % 8 < 13; omega) (credit_dy r)) $$ [Hn HO]
  · isplitr; · iexact HR
    isplitl [Hn] <;> iassumption
  iintro ⟨Hp, Hv, HO⟩
  iapply Hk
  isplitl [Hd Hf Hp Hv]
  · isplitl [Hd Hp Hv]
    · iapply (ico_put (Nat.zero_le r) (dyDone X c))
      isplitl [Hp Hv]
      · unfold dyDone; isplitl [Hp] <;> iassumption
      iexact Hd
    iexact Hf
  iexact HO

/-- The start of a half chunk's copy. -/
theorem op_wstart {d h : ℕ} {src : Memref sig .tc .hbm S64x8192 .f32} {dst : Memref sig .tc .vmem S64x8192 .f32}
    {sm : DmaSem sig} (hsrcE : src = yB d h) (hdstE : dst = wB d h) (hsm : sm = wS d h)
    {hsrc : src.view.WordExact} {hdst : dst.view.WordExact} {hsem : DmaTarget.Typed (nD := nD) (p := (Proc.tc : Proc τ)) .hbm (.dma sm) (.here dst)}
    {k : PUnit → Prog (TpuEff nD τ sig (Elt F) Λ₀ .tc) α} {Q : α → sProp 𝕄} :
    iprop(wIdle c d h ∗ yTok Y c q h d) ⊢ iprop((wFl Y c d h -∗ WP c (k ⟨⟩) Q)
        -∗ WP c (.op (.enqueueDma src (.here dst) (.dma sm) hsrc hdst hsem) k) Q) := by
  subst hsrcE hdstE hsm
  unfold wIdle yTok
  iintro ⟨⟨⟨%f, Hd⟩, Hv⟩, Ht⟩ Hk
  iapply (op_copy (src := yB d h) (dst := wB d h) c (S := Finset.univ) (q := shareTokN (shareTokN q h) d) (fs := Y c) (fd := f) (g := wsp Y c d) (Finset.subset_univ _) (w_read Y c d h) (credit_w d h) NW_pos) $$ [Ht Hd Hv]
  · isplitl [Ht]; · iexact Ht
    isplitl [Hd]; · iexact Hd
    iexact Hv
  iexact Hk

/-- The wait for a half chunk's copy. -/
theorem op_wwait {gen : Bool → Dev nD → ℕ → (S1x1024x128.Idx → Elt F .bf16)} {ax : Bool} {a u a' u' : ℕ} {d h : ℕ}
    {src : Memref sig .tc .hbm S64x8192 .f32} {dst : Memref sig .tc .vmem S64x8192 .f32}
    {sm : DmaSem sig} (hdstE : dst = wB d h) (hsm : sm = wS d h)
    {hsrc : src.view.WordExact} {hdst : dst.view.WordExact}
    {k : PUnit → Prog (TpuEff nD τ sig (Elt F) Λ₀ .tc) α} {Q : α → sProp 𝕄} :
    iprop(Recs gen ∗ wFl Y c d h ∗ Ow ax c a u a' u')
      ⊢ iprop((iprop(wPt Y c d h ∗ semVal ((c : Thread nD τ), .dma (wS d h)) 0 ∗ Ow ax c a u a' u') -∗ WP c (k ⟨⟩) Q)
        -∗ WP c (.op (.waitDma2 sm src dst hsrc hdst) k) Q) := by
  subst hdstE hsm
  unfold wFl
  exact op_copywait ax c (gen := gen) (dst := wB d h) (sm := wS d h) (by unfold wS; show 9 + 2 * (d % 2) + h % 2 < 13; omega) (credit_w d h)

/-- The chunk's slot loaded. -/
theorem op_wload {d : ℕ} {off : Fin 3 → ℕ} (ho : off = ![d % 2, 0, 0]) {inb : ∀ a, off a + S1x128x8192.size a ≤ S2x128x8192.size a}
    {hl : wM.view.LoadsAt (Rect.unit (s := S2x128x8192) off S1x128x8192.size inb).toLoadRect}
    {k : (S1x128x8192.Idx → Elt F .f32) → Prog (TpuEff nD τ sig (Elt F) Λ₀ .tc) α} {Q : α → sProp 𝕄} :
    wSlot Y c d ⊢ iprop((wSlot Y c d -∗ WP c (k (wv Y c d)) Q)
      -∗ WP c (.op (.load wM (Rect.unit (s := S2x128x8192) off S1x128x8192.size inb).toLoadRect hl) k) Q) := by
  subst ho
  exact wp_load_rect (defs := defs₀ (F := F)) (Γ := ∅) (Q := Q) 𝒱₀ (c : Thread nD τ) none Set.univ (m := wM) (r := wfR d) (hl := hl) (k := k) (q := fullShare) (f := wsp Y c d)
    (S := (wM.view.slice (wfR d)).set) Finset.Subset.rfl

/-- The device's rows, all in. -/
def dyAll : sProp 𝕄 := iprop(dyM.view.loc (c : Thread nD τ) ↦[Finset.univ]{fullShare} xh X c)
/-- The load of the device's rows, once all blocks are in. -/
theorem op_dyload {off : Fin 2 → ℕ} (ho : off = fun _ => 0) {inb : ∀ a, off a + S1024x8192.size a ≤ S1024x8192.size a}
    {hl : dyM.view.LoadsAt (Rect.unit (s := S1024x8192) off S1024x8192.size inb).toLoadRect}
    {k : (S1024x8192.Idx → Elt F .f32) → Prog (TpuEff nD τ sig (Elt F) Λ₀ .tc) α} {Q : α → sProp 𝕄} :
    dyAll X c ⊢ iprop((dyAll X c -∗ WP c (k (xh X c)) Q)
      -∗ WP c (.op (.load dyM (Rect.unit (s := S1024x8192) off S1024x8192.size inb).toLoadRect hl) k) Q) := by
  have h := wp_load (defs := defs₀ (F := F)) (Γ := ∅) (Q := Q) 𝒱₀ (c : Thread nD τ) none Set.univ (m := dyM)
    (r := (Rect.unit (s := S1024x8192) off S1024x8192.size inb).toLoadRect) (hl := hl) (k := k) (q := fullShare) (f := xh X c)
    (S := Finset.univ) (Finset.subset_univ _)
  have e : dyM.view.readAt (Elt F) (Rect.unit (s := S1024x8192) off S1024x8192.size inb).toLoadRect (xh X c) = xh X c :=
    Memref.readAt_unit_zero (Elt F) cc0_scratch0 ho inb (xh X c)
  rw [e] at h
  exact h

end Ops

end Cert.Proof.Run
-- ==== Proof.Out.lean ====
module

public import proofs.«01_k».proof.Proof.Copies

@[expose] public section

noncomputable section

namespace Cert.Proof.Run

open Cert.KernelIdeal Cert.KernelIdeal.Gen
open Idealize.ShloMosaic Idealize.ShloMosaic.TcCoe Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- A family's members, each replaced by what it yields. -/
theorem big_mono {I : Type} {s : Finset I} {Φ Ψ : I → sProp 𝕄} (h : ∀ i ∈ s, Φ i ⊢ Ψ i) : bigSep s Φ ⊢ bigSep s Ψ := bigSep_mono h

/-! ## The output -/

abbrev outM : Memref sig .tc .vmem S2048x2048 .f32 := Memref.whole cc0_stg0_0

/-- A block lies in the output. -/
theorem out_inb (x d : ℕ) : ∀ a, (![1024 * (x % 2), 128 * (d % 16)] : Fin 2 → ℕ) a + S1024x128.size a ≤ S2048x2048.size a := by
  intro a; fin_cases a
  · show 1024 * (x % 2) + 1024 ≤ 2048; omega
  · show 128 * (d % 16) + 128 ≤ 2048; omega
/-- Half `x` of the rows, the columns of chunk `d`. -/
abbrev outR (x d : ℕ) : Rect S2048x2048 := Rect.unit (s := S2048x2048) ![1024 * (x % 2), 128 * (d % 16)] S1024x128.size (out_inb x d)

/-- Different blocks do not meet. -/
theorem out_disj {x d x' d' : ℕ} (h : x % 2 ≠ x' % 2 ∨ d % 16 ≠ d' % 16) :
    Disjoint (outM.view.slice (outR x d)).set (outM.view.slice (outR x' d')).set := by
  show Disjoint ((View.whole cc0_stg0_0).slice (outR x d)).set ((View.whole cc0_stg0_0).slice (outR x' d')).set
  rw [View.set_slice_whole, View.set_slice_whole]
  rcases h with h | h
  · refine Rect.disjoint_of_separated _ _ (0 : Fin 2) ?_
    rcases Nat.lt_or_gt_of_ne h with h | h
    · exact .inl (.inr (by show 1024 * (x % 2) + 1 * (1024 - 1) < 1024 * (x' % 2); omega))
    · exact .inr (.inr (by show 1024 * (x' % 2) + 1 * (1024 - 1) < 1024 * (x % 2); omega))
  · refine Rect.disjoint_of_separated _ _ (1 : Fin 2) ?_
    rcases Nat.lt_or_gt_of_ne h with h | h
    · exact .inl (.inr (by show 128 * (d % 16) + 1 * (128 - 1) < 128 * (d' % 16); omega))
    · exact .inr (.inr (by show 128 * (d' % 16) + 1 * (128 - 1) < 128 * (d % 16); omega))

section Gen

variable (gen : Bool → Dev nD → ℕ → (S1x1024x128.Idx → Elt F .bf16)) (c : Dev nD)

/-- The own half's block of chunk `d`; the other half's, received. -/
def ownV (d : ℕ) : S1024x128.Idx → Elt F .f32 := k0_pay5 (gen true c d)
def othV (d : ℕ) : S1024x128.Idx → Elt F .f32 := k0_pay6 (gen true (peer true c) d)

/-- A block of the output read; written. -/
def rdB (x d : ℕ) (f : outM.view.ty.Contents (Elt F)) : S1024x128.Idx → Elt F .f32 := (outM.view.slice (outR x d)).read (Elt F) f
def wrB (x d : ℕ) (f : outM.view.ty.Contents (Elt F)) (w : S1024x128.Idx → Elt F .f32) : outM.view.ty.Contents (Elt F) :=
  (outM.view.slice (outR x d)).write (Elt F) f w Finset.univ
/-- A block just written reads as what was written. -/
theorem rd_wr (x d : ℕ) (f : outM.view.ty.Contents (Elt F)) (w : S1024x128.Idx → Elt F .f32) : rdB x d (wrB x d f w) = w := View.read_write_univ _ _
/-- A block other than the one written reads as before. -/
theorem rd_wr_ne {x d x' d' : ℕ} (h : x % 2 ≠ x' % 2 ∨ d % 16 ≠ d' % 16) (f : outM.view.ty.Contents (Elt F)) (w : S1024x128.Idx → Elt F .f32) :
    rdB x d (wrB x' d' f w) = rdB x d f :=
  View.read_slice_write_slice_of_disjoint _ _ _ _ _ (out_disj h)

/-- The own blocks before `a` and the other half's before `b` are in the output. -/
def Good (a b : ℕ) (f : outM.view.ty.Contents (Elt F)) : Prop :=
  (∀ d < a, rdB (c.val / 2) d f = ownV gen c d) ∧ (∀ d < b, rdB (1 - c.val / 2) d f = othV gen c d)

/-- The device's half of the rows is not its neighbour's along `x`. -/
theorem half_ne : c.val / 2 % 2 ≠ (1 - c.val / 2) % 2 := by revert c; decide

/-- With the next block of the own half written, one block more of that half is right. -/
theorem Good_own {a b : ℕ} (ha : a < 16) (hb : b ≤ 16) {f : outM.view.ty.Contents (Elt F)} (h : Good gen c a b f) {w : S1024x128.Idx → Elt F .f32}
    (hw : w = ownV gen c a) : Good gen c (a + 1) b (wrB (c.val / 2) a f w) := by
  subst hw
  refine ⟨fun d hd => ?_, fun d hd => ?_⟩
  · rcases Nat.lt_succ_iff_lt_or_eq.mp hd with hd' | rfl
    · exact (rd_wr_ne (.inr (by omega)) _ _).trans (h.1 d hd')
    · exact rd_wr _ _ _ _
  · exact (rd_wr_ne (.inl (half_ne c).symm) _ _).trans (h.2 d hd)
/-- With the next block of the other half written, one block more of that half is right. -/
theorem Good_oth {a b : ℕ} (ha : a ≤ 16) (hb : b < 16) {f : outM.view.ty.Contents (Elt F)} (h : Good gen c a b f) {w : S1024x128.Idx → Elt F .f32}
    (hw : w = othV gen c b) : Good gen c a (b + 1) (wrB (1 - c.val / 2) b f w) := by
  subst hw
  refine ⟨fun d hd => ?_, fun d hd => ?_⟩
  · exact (rd_wr_ne (.inl (half_ne c)) _ _).trans (h.1 d hd)
  · rcases Nat.lt_succ_iff_lt_or_eq.mp hd with hd' | rfl
    · exact (rd_wr_ne (.inr (by omega)) _ _).trans (h.2 d hd')
    · exact rd_wr _ _ _ _

def Out (a b : ℕ) : sProp 𝕄 := iprop(∃ f : outM.view.ty.Contents (Elt F), ⌜Good gen c a b f⌝ ∗ (outM.view.loc (c : Thread nD τ) ↦[Finset.univ]{fullShare} f))

variable {α : Type}

/-- A load of the output that nothing reads. -/
theorem op_outload {a b : ℕ} {r : Rect S2048x2048} {hl : outM.view.LoadsAt r.toLoadRect} {k : Prog (TpuEff nD τ sig (Elt F) Λ₀ .tc) α} {Q : α → sProp 𝕄} :
    Out gen c a b ⊢ iprop((Out gen c a b -∗ WP c k Q) -∗ WP c (.op (.load outM r.toLoadRect hl) (fun _ => k)) Q) := by
  unfold Out
  iintro ⟨%f, %hf, H⟩ Hk
  have hw := wp_load_rect (defs := defs₀ (F := F)) (Γ := ∅) (Q := Q) 𝒱₀ (c : Thread nD τ) none Set.univ (m := outM) (r := r) (hl := hl) (k := fun _ => k) (q := fullShare) (f := f)
    (S := Finset.univ) (Finset.subset_univ _)
  iapply hw $$ H
  iintro H
  iapply Hk
  iexists f
  isplitr; · ipureintro; exact hf
  iexact H

/-- A block's store into the output. -/
theorem op_outstore {a b a' b' x d : ℕ} {w : S1024x128.Idx → Elt F .f32} {off : Fin 2 → ℕ} (ho : off = ![1024 * (x % 2), 128 * (d % 16)])
    (hg : ∀ f, Good gen c a b f → Good gen c a' b' (wrB x d f w))
    {inb : ∀ a, off a + S1024x128.size a ≤ S2048x2048.size a}
    {hx : (outM.access (Rect.unit (s := S2048x2048) off S1024x128.size inb)).Stores Finset.univ} {hm}
    {k : PUnit → Prog (TpuEff nD τ sig (Elt F) Λ₀ .tc) α} {Q : α → sProp 𝕄} :
    Out gen c a b ⊢ iprop((Out gen c a' b' -∗ WP c (k ⟨⟩) Q)
      -∗ WP c (.op (.store outM (Rect.unit (s := S2048x2048) off S1024x128.size inb) w Finset.univ hx hm) k) Q) := by
  subst ho
  unfold Out
  iintro ⟨%f, %hf, H⟩ Hk
  have hk := wp_store (defs := defs₀ (F := F)) (Γ := ∅) (Q := Q) 𝒱₀ (c : Thread nD τ) none Set.univ (m := outM) (r := outR x d) (w := w) (Mk := Finset.univ) (hx := hx) (hm := hm) (k := k) (f := f)
    (S := Finset.univ) (Finset.subset_univ _)
  iapply hk $$ H
  iintro H
  iapply Hk
  iexists _
  isplitr
  swap
  · iexact H
  ipureintro; exact hg f hf

/-! ## What is done with a chunk -/

/-- The sum of a chunk: both parts loaded, the sum stored, read back and written into the own rows. -/
theorem blk_sum {b1 b2 b3 : Memref sig .tc .vmem S4x1024x128 .bf16} {o : Memref sig .tc .vmem S2048x2048 .f32} (e1 : b1 = srcM false) (e2 : b2 = dstM false) (e3 : b3 = srcM true) (e0 : o = outM) {d b : ℕ} (hd : d < 16) (hb : b ≤ 16) {o1 o2 o3 o4 o5 : Fin 3 → ℕ} {off off' : Fin 2 → ℕ} (h1 : o1 = ![d % 4, 0, 0]) (h2 : o2 = ![d % 4, 0, 0]) (h3 : o3 = ![d % 4, 0, 0]) (h4 : o4 = ![d % 4, 0, 0])
    (h5 : o5 = ![d % 4, 0, 0]) (ho : off = ![1024 * (c.val / 2), 128 * d])
    {w : (S1x1024x128.Idx → Elt F .bf16) → (S1x1024x128.Idx → Elt F .bf16) → (S1x1024x128.Idx → Elt F .bf16)}
    {p : (S1x1024x128.Idx → Elt F .bf16) → (S1024x128.Idx → Elt F .f32)}
    (hw : w (gen false c d) (gen false (peer false c) d) = gen true c d) (hp : p (gen true c d) = ownV gen c d)
    {inb1 : ∀ a, o1 a + S1x1024x128.size a ≤ S4x1024x128.size a} {inb2 : ∀ a, o2 a + S1x1024x128.size a ≤ S4x1024x128.size a} {inb3 : ∀ a, o3 a + S1x1024x128.size a ≤ S4x1024x128.size a}
    {inb4 : ∀ a, o4 a + S1x1024x128.size a ≤ S4x1024x128.size a} {inb5 : ∀ a, o5 a + S1x1024x128.size a ≤ S4x1024x128.size a}
    {inb' : ∀ a, off' a + S1024x128.size a ≤ S2048x2048.size a} {inb : ∀ a, off a + S1024x128.size a ≤ S2048x2048.size a}
    {l1 l2 l3 hx hm l5 l6 hx' hm'}
    {k : PUnit → Prog (TpuEff nD τ sig (Elt F) Λ₀ .tc) α} {Q : α → sProp 𝕄} :
    iprop(sl (srcM false) c d (gen false c d) ∗ sl (dstM false) c d (gen false (peer false c) d) ∗ slx (srcM true) c d ∗ Out gen c d b)
      ⊢ iprop((iprop(sl (srcM false) c d (gen false c d) ∗ sl (dstM false) c d (gen false (peer false c) d) ∗ sl (srcM true) c d (gen true c d)
            ∗ Out gen c (d + 1) b) -∗ WP c (k ⟨⟩) Q)
        -∗ WP c (.op (.load b1 (Rect.unit (s := S4x1024x128) o1 S1x1024x128.size inb1).toLoadRect l1) fun x =>
            .op (.load b2 (Rect.unit (s := S4x1024x128) o2 S1x1024x128.size inb2).toLoadRect l2) fun y =>
            .op (.load b3 (Rect.unit (s := S4x1024x128) o3 S1x1024x128.size inb3).toLoadRect l3) fun _ =>
            .op (.store b3 (Rect.unit (s := S4x1024x128) o4 S1x1024x128.size inb4) (w x y) Finset.univ hx hm) fun _ =>
            .op (.load b3 (Rect.unit (s := S4x1024x128) o5 S1x1024x128.size inb5).toLoadRect l5) fun z =>
            .op (.load o (Rect.unit (s := S2048x2048) off' S1024x128.size inb').toLoadRect l6) fun _ =>
            .op (.store o (Rect.unit (s := S2048x2048) off S1024x128.size inb) (p z) Finset.univ hx' hm') k) Q) := by
  subst e1 e2 e3 e0
  have hc : c.val / 2 % 2 = c.val / 2 := by have := c.isLt; simp only [nD] at this; omega
  have hd' : d % 16 = d := Nat.mod_eq_of_lt hd
  iintro ⟨H1, H2, H3, Ho⟩ Hk
  iapply (op_loadslot c h1) $$ H1
  iintro H1
  iapply (op_loadslot c h2) $$ H2
  iintro H2
  unfold slx
  icases H3 with ⟨%v, H3⟩
  iapply (op_loadslot c h3) $$ H3
  iintro H3
  iapply (op_storeslot c h4) $$ H3
  iintro H3
  iapply (op_loadslot c h5) $$ H3
  iintro H3
  iapply (op_outload gen c) $$ Ho
  iintro Ho
  rw [hw]
  have ho' : off = ![1024 * (c.val / 2 % 2), 128 * (d % 16)] := by rw [hc, hd']; exact ho
  iapply (op_outstore gen c (a' := d + 1) (b' := b) ho' (fun f hf => Good_own gen c hd hb hf hp)) $$ Ho
  iintro Ho
  iapply Hk
  isplitl [H1]; · iexact H1
  isplitl [H2]; · iexact H2
  isplitl [H3] <;> iassumption

/-- A received sum loaded and written into the other rows. -/
theorem blk_oth {b1 : Memref sig .tc .vmem S4x1024x128 .bf16} {o : Memref sig .tc .vmem S2048x2048 .f32} (e1 : b1 = dstM true) (e0 : o = outM) {d a : ℕ} (hd : d < 16) (ha : a ≤ 16) {o1 : Fin 3 → ℕ} {off off' : Fin 2 → ℕ} (h1 : o1 = ![d % 4, 0, 0]) (ho : off = ![1024 * (1 - c.val / 2), 128 * d])
    {p : (S1x1024x128.Idx → Elt F .bf16) → (S1024x128.Idx → Elt F .f32)} (hp : p (gen true (peer true c) d) = othV gen c d)
    {inb1 : ∀ a, o1 a + S1x1024x128.size a ≤ S4x1024x128.size a}
    {inb' : ∀ a, off' a + S1024x128.size a ≤ S2048x2048.size a} {inb : ∀ a, off a + S1024x128.size a ≤ S2048x2048.size a}
    {l1 l6 hx' hm'}
    {k : PUnit → Prog (TpuEff nD τ sig (Elt F) Λ₀ .tc) α} {Q : α → sProp 𝕄} :
    iprop(sl (dstM true) c d (gen true (peer true c) d) ∗ Out gen c a d)
      ⊢ iprop((iprop(sl (dstM true) c d (gen true (peer true c) d) ∗ Out gen c a (d + 1)) -∗ WP c (k ⟨⟩) Q)
        -∗ WP c (.op (.load b1 (Rect.unit (s := S4x1024x128) o1 S1x1024x128.size inb1).toLoadRect l1) fun z =>
            .op (.load o (Rect.unit (s := S2048x2048) off' S1024x128.size inb').toLoadRect l6) fun _ =>
            .op (.store o (Rect.unit (s := S2048x2048) off S1024x128.size inb) (p z) Finset.univ hx' hm') k) Q) := by
  subst e1 e0
  have hc : (1 - c.val / 2) % 2 = 1 - c.val / 2 := by omega
  have hd' : d % 16 = d := Nat.mod_eq_of_lt hd
  iintro ⟨H1, Ho⟩ Hk
  iapply (op_loadslot c h1) $$ H1
  iintro H1
  iapply (op_outload gen c) $$ Ho
  iintro Ho
  have ho' : off = ![1024 * ((1 - c.val / 2) % 2), 128 * (d % 16)] := by rw [hc, hd']; exact ho
  iapply (op_outstore gen c (a' := a) (b' := d + 1) ho' (fun f hf => Good_oth gen c ha hd hf hp)) $$ Ho
  iintro Ho
  iapply Hk
  isplitl [H1] <;> iassumption

end Gen

/-! ## The four slots of a ring are the ring -/

section Slots

variable (b : Memref sig .tc .vmem S4x1024x128 .bf16) (c : Dev nD)

/-- The four slots together are the whole ring. -/
theorem slots_cover : b.view.set = (Finset.Ico 0 4).biUnion fun d => (b.slice (slotR d) (fun _ => rfl)).view.set := by
  ext i
  simp only [Finset.mem_biUnion, Memref.view_slice, View.set_slice]
  constructor
  · intro h
    obtain ⟨j, -, rfl⟩ := Finset.mem_map.mp h
    have h0 : (j 0).val < 4 := (j 0).isLt
    have h1 : (j 1).val < 1024 := (j 1).isLt
    have h2 : (j 2).val < 128 := (j 2).isLt
    refine ⟨(j 0).val, Finset.mem_Ico.mpr ⟨Nat.zero_le _, h0⟩, Finset.mem_map_of_mem _ ?_⟩
    rw [Rect.mem_set_unit]
    intro a
    fin_cases a
    · show (j 0).val % 4 ≤ (j 0).val ∧ (j 0).val < (j 0).val % 4 + 1; omega
    · show 0 ≤ (j 1).val ∧ (j 1).val < 0 + 1024; omega
    · show 0 ≤ (j 2).val ∧ (j 2).val < 0 + 128; omega
  · rintro ⟨d, -, h⟩
    obtain ⟨j, -, rfl⟩ := Finset.mem_map.mp h
    exact Finset.mem_map_of_mem _ (Finset.mem_univ _)

/-- Different slots do not meet. -/
theorem slots_disj : ∀ d ∈ Finset.Ico 0 4, ∀ d' ∈ Finset.Ico 0 4, d ≠ d' →
    Disjoint (b.slice (slotR d) (fun _ => rfl)).view.set (b.slice (slotR d') (fun _ => rfl)).view.set := by
  intro d hd d' hd' h
  have h1 := (Finset.mem_Ico.mp hd).2
  have h2 := (Finset.mem_Ico.mp hd').2
  simp only [Memref.view_slice, View.set_slice]
  rw [Finset.disjoint_map]
  refine Rect.disjoint_of_separated _ _ (0 : Fin 3) ?_
  rcases Nat.lt_or_gt_of_ne h with h | h
  · exact .inl (.inr (by show d % 4 + 1 * (1 - 1) < d' % 4; omega))
  · exact .inr (.inr (by show d' % 4 + 1 * (1 - 1) < d % 4; omega))

/-- A ring at some contents is its four slots at some contents. -/
theorem slots_open : iprop(∃ f : Buf (Elt F) (b.view.loc (c : Thread nD τ)), b.view.loc (c : Thread nD τ) ↦[b.view.set]{fullShare} f)
    ⊢ (bigSep (Finset.Ico 0 4) (slx b c) : sProp 𝕄) := by
  iintro ⟨%f, H⟩
  rw [slots_cover, pointsTo_biUnion _ _ (slots_disj b)]
  have hd : ∀ d, (b.view.loc (c : Thread nD τ) ↦[(b.slice (slotR d) (fun _ => rfl)).view.set]{fullShare} f : sProp 𝕄) ⊢ slx b c d := fun d => by
    unfold slx sl
    iintro H
    iexists _
    iapply (owns_intro (c : Thread nD τ) (b.slice (slotR d) (fun _ => rfl)) fullShare f) $$ H
  have h : (bigSep (Finset.Ico 0 4) fun d => iprop(b.view.loc (c : Thread nD τ) ↦[(b.slice (slotR d) (fun _ => rfl)).view.set]{fullShare} f)) ⊢ (bigSep (Finset.Ico 0 4) (slx b c) : sProp 𝕄) :=
    big_mono fun d _ => hd d
  exact h

/-- Four slots at some contents are the ring at some contents. -/
theorem slots_close : (bigSep (Finset.Ico 0 4) (slx b c) : sProp 𝕄)
    ⊢ iprop(∃ f : Buf (Elt F) (b.view.loc (c : Thread nD τ)), b.view.loc (c : Thread nD τ) ↦[b.view.set]{fullShare} f) := by
  rw [slots_cover b]
  have hd : ∀ d, (slx b c d : sProp 𝕄) ⊢ iprop(∃ f : Buf (Elt F) (b.view.loc (c : Thread nD τ)), b.view.loc (c : Thread nD τ) ↦[(b.slice (slotR d) (fun _ => rfl)).view.set]{fullShare} f) := fun d => by
    unfold slx sl owns
    iintro ⟨%v, %f, -, H⟩
    iexists f
    iexact H
  refine BIBase.Entails.trans (big_mono fun d _ => hd d) (parts_join (ℓ := b.view.loc (c : Thread nD τ)) (q := fullShare) default _ _ (slots_disj b))

/-- Slots repeat every four chunks. -/
theorem slots_shift (a e : ℕ) : (bigSep (Finset.Ico (a + 4) (e + 4)) (slx b c) : sProp 𝕄) = bigSep (Finset.Ico a e) (slx b c) := by
  rw [← Finset.map_add_right_Ico, bigSep_map]
  refine bigSep_congr fun d _ => ?_
  unfold slx
  exact congrArg (fun P : (S1x1024x128.Idx → Elt F .bf16) → sProp 𝕄 => iprop(∃ v, P v)) (funext fun v => sl_add4 c b d v)

end Slots

end Cert.Proof.Run
-- ==== Proof.Places.lean ====
module

public import proofs.«01_k».proof.Proof.Out

@[expose] public section

noncomputable section

namespace Cert.Proof.Run

open Cert.KernelIdeal Cert.KernelIdeal.Gen
open Idealize.ShloMosaic Idealize.ShloMosaic.TcCoe Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The kernel's parts at the kernel's buffers -/

/-- A part of the body, applied to the buffers and semaphores of the call. -/
abbrev at_ {R : Type _}
    (f : (a0 : Memref sig .tc .hbm S2048x8192 .f32) → a0.IsWhole → (a1 : Memref sig .tc .hbm S2048x8192 .f32) → a1.IsWhole →
      (a2 : Memref sig .tc .vmem S2048x2048 .f32) → a2.IsWhole → (a3 : Memref sig .tc .vmem S1024x8192 .f32) → a3.IsWhole →
      (a4 : Memref sig .tc .vmem S2x128x8192 .f32) → a4.IsWhole → (a5 : Memref sig .tc .vmem S4x1024x128 .bf16) → a5.IsWhole →
      (a6 : Memref sig .tc .vmem S4x1024x128 .bf16) → a6.IsWhole → (a7 : Memref sig .tc .vmem S4x1024x128 .bf16) → a7.IsWhole →
      (a8 : Memref sig .tc .vmem S4x1024x128 .bf16) → a8.IsWhole → DmaSems sig S8 → DmaSems sig S2x2 → DmaSems sig S16 → DmaSems sig S16 →
      DmaSems sig S16 → DmaSems sig S16 → Sems sig S_ → Sems sig S_ → R) : R :=
  f xM (Memref.isWhole_whole _) yM (Memref.isWhole_whole _) outM (Memref.isWhole_whole _) dyM (Memref.isWhole_whole _) wM (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) cc0_scratch6 cc0_scratch7 cc0_scratch8 cc0_scratch9 cc0_scratch10 cc0_scratch11 cc0_scratch12 cc0_scratch13

/-! ## Conditions and offsets of a trip -/

abbrev T1 : Type := Fin k0_t1_loop.trips

/-- The loop has sixteen trips. -/
theorem trips1 : k0_t1_loop.trips = 16 := by decide +kernel
/-- A trip of the loop is below sixteen. -/
theorem T1_lt (t : T1) : t.val < 16 := trips1 ▸ t.isLt
/-- The test for a wait for an earlier sending along `x`. -/
theorem cond1_iff : ∀ t : T1, k0_cond1 t = 1#1 ↔ 4 ≤ t.val := by decide +kernel
/-- The test for the start of the chunk's copies two trips on. -/
theorem cond2_iff : ∀ t : T1, k0_cond2 t = 1#1 ↔ t.val < 14 := by decide +kernel
/-- The test for the sums of the chunk two trips back. -/
theorem cond4_iff : ∀ t : T1, k0_cond4 t = 1#1 ↔ 2 ≤ t.val := by decide +kernel
/-- The test for its credit along `y`. -/
theorem cond5_iff : ∀ t : T1, 2 ≤ t.val → (k0_cond5 t = 1#1 ↔ t.val < 14) := by decide +kernel
/-- The test for the receiving along `x` of the chunk four trips back. -/
theorem cond7_iff : ∀ t : T1, k0_cond7 t = 1#1 ↔ 4 ≤ t.val := by decide +kernel
/-- Its credit is always given in the loop. -/
theorem cond8_iff : ∀ t : T1, 4 ≤ t.val → k0_cond8 t = 1#1 := by decide +kernel
/-- The test for a wait for a credit along `y`. -/
theorem v328_iff : ∀ t : T1, Scalar.cmpi .ne (Scalar.extui (Scalar.cmpi .sge (Scf.iv 0#32 1#32 t) 4#32)) 0#32 = 1#1 ↔ 4 ≤ t.val := by decide +kernel
/-- The test for a wait for a credit along `x`. -/
theorem v392_iff : ∀ t : T1, 2 ≤ t.val → (Scalar.cmpi .ne (Scalar.extui (Scalar.cmpi .sge (Scalar.subi (Scf.iv 0#32 1#32 t) 2#32) 4#32)) 0#32 = 1#1 ↔ 6 ≤ t.val) := by
  decide +kernel

/-- This offset in the loop, from the chunk that it names. -/
theorem off6_eq : ∀ t : T1, 4 ≤ t.val → k0_off6 t = ![t.val - 4] := by decide +kernel
/-- This offset in the loop, from the chunk that it names. -/
theorem off7_eq : ∀ t : T1, 4 ≤ t.val → k0_off7 t = ![(t.val - 4) % 4, 0, 0] := by decide +kernel
/-- This offset in the loop, from the chunk that it names. -/
theorem off22_eq : ∀ t : T1, 2 ≤ t.val → k0_off22 t = ![t.val - 2] := by decide +kernel
/-- This offset in the loop, from the chunk that it names. -/
theorem off23_eq : ∀ t : T1, 2 ≤ t.val → k0_off23 t = ![(t.val - 2) % 4, 0, 0] := by decide +kernel
/-- This offset in the loop, from the chunk that it names. -/
theorem off24_eq : ∀ t : T1, 2 ≤ t.val → k0_off24 t = ![(t.val - 2) % 4, 0, 0] := by decide +kernel
/-- This offset in the loop, from the chunk that it names. -/
theorem off25_eq : ∀ (c : Dev nD) (t : T1), 2 ≤ t.val → k0_off25 c t = ![1024 * (c.val / 2), 128 * (t.val - 2)] := by decide +kernel
/-- This offset in the loop, from the chunk that it names. -/
theorem off26_eq : ∀ t : T1, 4 ≤ t.val → k0_off26 t = ![t.val - 4] := by decide +kernel
/-- This offset in the loop, from the chunk that it names. -/
theorem off27_eq : ∀ t : T1, 4 ≤ t.val → k0_off27 t = ![(t.val - 4) % 4, 0, 0] := by decide +kernel
/-- This offset in the loop, from the chunk that it names. -/
theorem off28_eq : ∀ t : T1, 4 ≤ t.val → k0_off28 t = ![(t.val - 4) % 4, 0, 0] := by decide +kernel
/-- This offset in the loop, from the chunk that it names. -/
theorem off29_eq : ∀ (c : Dev nD) (t : T1), 4 ≤ t.val → k0_off29 c t = ![1024 * (1 - c.val / 2), 128 * (t.val - 4)] := by decide +kernel
/-- This offset of a last block of the other half. -/
theorem off34_eq' : ∀ c : Dev nD, k0_off34 c = ![1024 * (1 - c.val / 2), 128 * 12] := by decide +kernel
/-- This offset of a last block of the other half. -/
theorem off35_eq' : ∀ c : Dev nD, k0_off35 c = ![1024 * (1 - c.val / 2), 128 * 13] := by decide +kernel
/-- This offset of a last block of the other half. -/
theorem off36_eq' : ∀ c : Dev nD, k0_off36 c = ![1024 * (1 - c.val / 2), 128 * 14] := by decide +kernel
/-- This offset of a last block of the other half. -/
theorem off37_eq' : ∀ c : Dev nD, k0_off37 c = ![1024 * (1 - c.val / 2), 128 * 15] := by decide +kernel
/-- This offset of a copy in, from the rows that it names. -/
theorem off10_eq' : ∀ (t : T1) (h : Fin 2), k0_off10 t (BitVec.ofNat 32 (64 * h.val)) = ![128 * (t.val % 16) + 64 * (h.val % 2), 0] := by decide +kernel
/-- This offset of a copy in, from the rows that it names. -/
theorem off16_eq' : ∀ t : T1, t.val < 14 → ∀ h : Fin 2, k0_off16 t (BitVec.ofNat 32 (64 * h.val)) = ![128 * ((t.val + 2) % 16) + 64 * (h.val % 2), 0] := by decide +kernel
/-- This offset of a copy in, from the rows that it names. -/
theorem off1_eq' : ∀ (c : Dev nD) (r : Fin 8), k0_off1 c (BitVec.ofNat 32 (128 * r.val)) = ![1024 * (c.val / 2) + 128 * (r.val % 8), 0] := by decide +kernel

/-! ## Semaphores and slices by what they are -/

/-- Place `d` of sixteen semaphores in a row is the `d`-th after the first. -/
theorem sem16 (base : ℕ) (h : base + S16.numel ≤ 77) : ∀ {d : ℕ} {off : Fin 1 → ℕ} (ho : off = ![d]) (hd : d < 16) {inb : ∀ a, off a + S1.size a ≤ S16.size a},
    ((((SemArray.consecutive base S16 h : DmaSems sig S16).slice (Rect.unit (s := S16) off S1.size inb)).squeeze S_ squeezes_S1_S_).sem).val = base + d := by
  rintro d off rfl hd inb
  exact congrArg (base + ·) ((by decide +kernel : ∀ d : Fin 16, ∀ inb : ∀ a, (![d.val] : Fin 1 → ℕ) a + S1.size a ≤ S16.size a,
    (S16.rowMajor ((Rect.unit (s := S16) ![d.val] S1.size inb).emb (Shape.reshapeEquiv squeezes_S1_S_.numel_eq (fun i => i.elim0))) : ℕ) = d.val) ⟨d, hd⟩ inb)

/-- The sending's semaphore as the body names it. -/
theorem sem_send (ax : Bool) {d : ℕ} {off : Fin 1 → ℕ} (ho : off = ![d]) (hd : d < 16) {inb : ∀ a, off a + S1.size a ≤ S16.size a} :
    (((match ax with | false => cc0_scratch8 | true => cc0_scratch10 : DmaSems sig S16).slice (Rect.unit (s := S16) off S1.size inb)).squeeze S_ squeezes_S1_S_).sem = sendS ax d := by
  cases ax
  · exact Fin.ext ((sem16 13 _ ho hd).trans (by show _ = 13 + 32 * 0 + d % 16; omega))
  · exact Fin.ext ((sem16 45 _ ho hd).trans (by show _ = 13 + 32 * 1 + d % 16; omega))
/-- The receiving's semaphore as the body names it. -/
theorem sem_recv (ax : Bool) {d : ℕ} {off : Fin 1 → ℕ} (ho : off = ![d]) (hd : d < 16) {inb : ∀ a, off a + S1.size a ≤ S16.size a} :
    (((match ax with | false => cc0_scratch9 | true => cc0_scratch11 : DmaSems sig S16).slice (Rect.unit (s := S16) off S1.size inb)).squeeze S_ squeezes_S1_S_).sem = recvS ax d := by
  cases ax
  · exact Fin.ext ((sem16 29 _ ho hd).trans (by show _ = 29 + 32 * 0 + d % 16; omega))
  · exact Fin.ext ((sem16 61 _ ho hd).trans (by show _ = 29 + 32 * 1 + d % 16; omega))
/-- A block's semaphore as the body names it. -/
theorem sem_dy {r : ℕ} {off : Fin 1 → ℕ} (ho : off = ![r]) (hr : r < 8) {inb : ∀ a, off a + S1.size a ≤ S8.size a} :
    ((cc0_scratch6.slice (Rect.unit (s := S8) off S1.size inb)).squeeze S_ squeezes_S1_S_).sem = dyS r := by
  subst ho
  exact (by decide +kernel : ∀ r : Fin 8, ∀ inb : ∀ a, (![r.val] : Fin 1 → ℕ) a + S1.size a ≤ S8.size a,
    ((cc0_scratch6.slice (Rect.unit (s := S8) ![r.val] S1.size inb)).squeeze S_ squeezes_S1_S_).sem = dyS r.val) ⟨r, hr⟩ inb
/-- A half chunk's semaphore as the body names it. -/
theorem sem_w {d h : ℕ} {off : Fin 2 → ℕ} (ho : off = ![d % 2, h % 2]) {inb : ∀ a, off a + S1x1.size a ≤ S2x2.size a} :
    ((cc0_scratch7.slice (Rect.unit (s := S2x2) off S1x1.size inb)).squeeze S_ squeezes_S1x1_S_).sem = wS d h := by
  subst ho
  have e : wS d h = wS (d % 2) (h % 2) := by unfold wS; simp only [Nat.mod_mod]
  rw [e]
  exact (by decide +kernel : ∀ d h : Fin 2, ∀ inb : ∀ a, (![d.val, h.val] : Fin 2 → ℕ) a + S1x1.size a ≤ S2x2.size a,
    ((cc0_scratch7.slice (Rect.unit (s := S2x2) ![d.val, h.val] S1x1.size inb)).squeeze S_ squeezes_S1x1_S_).sem = wS d.val h.val)
    ⟨d % 2, Nat.mod_lt _ (by decide)⟩ ⟨h % 2, Nat.mod_lt _ (by decide)⟩ inb

/-- A ring's slot as the body names it. -/
theorem slotE (b : Memref sig .tc .vmem S4x1024x128 .bf16) {d : ℕ} {off : Fin 3 → ℕ} (ho : off = ![d % 4, 0, 0])
    {inb : ∀ a, off a + S1x1024x128.size a ≤ S4x1024x128.size a} {hs} :
    (b.slice (Rect.unit (s := S4x1024x128) off S1x1024x128.size inb) hs).squeeze S1024x128 squeezes_S1x1024x128_S1024x128 = slotM b d := by
  subst ho; rfl
/-- A block of the scratch rows as the body names it. -/
theorem dyE {r : ℕ} {off : Fin 2 → ℕ} (ho : off = ![128 * (r % 8), 0]) {inb : ∀ a, off a + S128x8192.size a ≤ S1024x8192.size a} {hs} :
    dyM.slice (Rect.unit (s := S1024x8192) off S128x8192.size inb) hs = dyB r := by subst ho; rfl
/-- A block of the first argument as the body names it. -/
theorem xE {c : Dev nD} {r : ℕ} {off : Fin 2 → ℕ} (ho : off = ![1024 * (c.val / 2) + 128 * (r % 8), 0]) {inb : ∀ a, off a + S128x8192.size a ≤ S2048x8192.size a} {hs} :
    xM.slice (Rect.unit (s := S2048x8192) off S128x8192.size inb) hs = xB c r := by subst ho; rfl
/-- Half a chunk's slot as the body names it. -/
theorem wE {d h : ℕ} {off : Fin 3 → ℕ} (ho : off = ![d % 2, 64 * (h % 2), 0]) {inb : ∀ a, off a + S1x64x8192.size a ≤ S2x128x8192.size a} {hs} :
    (wM.slice (Rect.unit (s := S2x128x8192) off S1x64x8192.size inb) hs).squeeze S64x8192 squeezes_S1x64x8192_S64x8192 = wB d h := by subst ho; rfl
/-- Half a chunk's rows of the second argument as the body names it. -/
theorem yE {d h : ℕ} {off : Fin 2 → ℕ} (ho : off = ![128 * (d % 16) + 64 * (h % 2), 0]) {inb : ∀ a, off a + S64x8192.size a ≤ S2048x8192.size a} {hs} :
    yM.slice (Rect.unit (s := S2048x8192) off S64x8192.size inb) hs = yB d h := by subst ho; rfl

end Cert.Proof.Run
-- ==== Proof.Trip.lean ====
module

public import proofs.«01_k».proof.Proof.Places

@[expose] public section

noncomputable section

namespace Cert.Proof.Run

open Cert.KernelIdeal Cert.KernelIdeal.Gen
open Idealize.ShloMosaic Idealize.ShloMosaic.TcCoe Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Conditionals -/

/-- A conditional whose branches go on alike. -/
theorem if_join {α : Type} {c : Dev nD} {C : Prop} [Decidable C] {p : C → Prog (TpuEff nD τ sig (Elt F) Λ₀ .tc) α} {e : Prog (TpuEff nD τ sig (Elt F) Λ₀ .tc) α}
    {P P' : sProp 𝕄} {Q : α → sProp 𝕄} (h1 : ∀ h, P ⊢ iprop((P' -∗ WP c e Q) -∗ WP c (p h) Q)) (h2 : ¬C → P ⊢ P') :
    P ⊢ iprop((P' -∗ WP c e Q) -∗ WP c (if h : C then p h else e) Q) := by
  by_cases h : C
  · rw [dif_pos h]; exact h1 h
  · rw [dif_neg h]
    iintro HP Hk
    iapply Hk
    iapply (h2 h) $$ HP

/-- A program that returns meets what holds of its value. -/
theorem ret_wp {α : Type _} {c : Dev nD} {a : α} {Q : α → sProp 𝕄} : Q a ⊢ WP c (.ret a) Q := by
  show _ ⊢ wp _ _ _ (Prog.ret a) Q
  rw [wp_ret]
  exact fupd_intro

/-- A part and what follows it. -/
theorem seq_wp {α : Type _} {β : Type _} {c : Dev nD} {p : Prog (TpuEff nD τ sig (Elt F) Λ₀ .tc) α} {K : α → Prog (TpuEff nD τ sig (Elt F) Λ₀ .tc) β} {v : α}
    {P P' : sProp 𝕄} {Q : β → sProp 𝕄} (h : ∀ Q' : α → sProp 𝕄, P ⊢ iprop((P' -∗ Q' v) -∗ WP c p Q')) (hk : P' ⊢ WP c (K v) Q) : P ⊢ WP c (p >>= K) Q := by
  show _ ⊢ wp _ _ _ (p >>= K) Q
  rw [wp_bind]
  iintro H
  iapply (h _) $$ H
  iintro H
  iapply hk $$ H

/-! ## Slots that are free -/

section Trip

variable (gen : Bool → Dev nD → ℕ → (S1x1024x128.Idx → Elt F .bf16)) (ax : Bool) (c : Dev nD)

/-- The slots of chunks `i` to `j` of a ring, at some contents each. -/
def fr (b : Memref sig .tc .vmem S4x1024x128 .bf16) (i j : ℕ) : sProp 𝕄 := bigSep (Finset.Ico i j) (slx b c)

/-- The first of the free slots is taken out. -/
theorem fr_take (b : Memref sig .tc .vmem S4x1024x128 .bf16) {i j : ℕ} (h : i < j) : (fr c b i j : sProp 𝕄) ⊢ iprop(slx b c i ∗ fr c b (i + 1) j) := ico_take h _
/-- A slot is put behind the free ones. -/
theorem fr_put (b : Memref sig .tc .vmem S4x1024x128 .bf16) {i j : ℕ} (h : i ≤ j) {v : S1x1024x128.Idx → Elt F .bf16} :
    iprop(sl b c j v ∗ fr c b i j) ⊢ (fr c b i (j + 1) : sProp 𝕄) := by
  have h := ico_put h (slx (F := F) b c)
  unfold fr
  iintro ⟨H1, H2⟩
  iapply h
  isplitl [H1]
  · unfold slx; iexists v; iexact H1
  · iexact H2
/-- A slot four chunks back is put behind the free ones. -/
theorem fr_put4 (b : Memref sig .tc .vmem S4x1024x128 .bf16) {i e : ℕ} (h : i ≤ e + 4) {v : S1x1024x128.Idx → Elt F .bf16} :
    iprop(sl b c e v ∗ fr c b i (e + 4)) ⊢ (fr c b i (e + 1 + 4) : sProp 𝕄) := by
  rw [← sl_add4 c b e v]; exact fr_put c b h

/-- What is owed, named from `y`, is the same named from `x`. -/
theorem Ow_yx {a u a' u' : ℕ} : Ow (F := F) false c a u a' u' ⊢ Ow true c a' u' a u := Entails.of_eq (Ow_comm false c a u a' u')
/-- What is owed, named from `x`, is the same named from `y`. -/
theorem Ow_xy {a u a' u' : ℕ} : Ow (F := F) true c a' u' a u ⊢ Ow false c a u a' u' := Entails.of_eq (Ow_comm true c a' u' a u)

variable {α : Type}

/-- The wait for a send, which makes its slot free. -/
theorem op_freesend {a e i u a' u' : ℕ} (he : e < 16) (hea : e < a) (hi : i ≤ e + 4)
    {src dst : Memref sig .tc .vmem S1024x128 .bf16} (hN : dst.view.dmaCredit = N)
    {sS : DmaSem sig} (hsS : sS = sendS ax e) {hsrc : src.view.WordExact} {hdst : dst.view.WordExact}
    {k : PUnit → Prog (TpuEff nD τ sig (Elt F) Λ₀ .tc) α} {Q : α → sProp 𝕄} :
    iprop(Recs gen ∗ Sn ax c e a ∗ fr c (srcM ax) i (e + 4) ∗ Ow ax c a u a' u')
      ⊢ iprop((iprop(Sn ax c (e + 1) a ∗ fr c (srcM ax) i (e + 1 + 4) ∗ Ow ax c a u a' u') -∗ WP c (k ⟨⟩) Q)
        -∗ WP c (.op (.waitDma2 sS src dst hsrc hdst) k) Q) := by
  iintro ⟨#HR, HS, Hf, HO⟩ Hk
  iapply (op_waitsend gen ax c he hea hN hsS) $$ [HS HO]
  · isplitr; · iexact HR
    isplitl [HS] <;> iassumption
  iintro ⟨HS, Hs, HO⟩
  iapply Hk
  isplitl [HS]; · iexact HS
  isplitl [Hs Hf]
  · iapply (fr_put4 c (srcM ax) hi)
    isplitl [Hs] <;> iassumption
  · iexact HO

/-! ## The first part of a trip: the product of a chunk -/

variable (X Y : Dev nD → S2048x8192.Idx → Elt F .f32) (q : PosShare TreeShare)

/-- A chunk below sixteen has its two copies in flight. -/
theorem Wst_lt {d : ℕ} (h : d < 16) : (Wst Y c d : sProp 𝕄) = iprop(wFl Y c d 0 ∗ wFl Y c d 1) := if_pos h
/-- Past the last chunk the slot is idle. -/
theorem Wst_ge {d : ℕ} (h : ¬d < 16) : (Wst Y c d : sProp 𝕄) = iprop(wIdle c d 0 ∗ wIdle c d 1) := if_neg h

/-- What the copies of the next chunk take. -/
theorem op_wnext {d : ℕ} (hd : d < 16) :
    iprop(wIdle c d 0 ∗ wIdle c d 1 ∗ WT Y c q d) ⊢ (iprop((wIdle c d 0 ∗ yTok Y c q 0 d) ∗ (wIdle c d 1 ∗ yTok Y c q 1 d) ∗ WT Y c q (d + 1)) : sProp 𝕄) := by
  unfold WT
  iintro ⟨H0, H1, HT⟩
  ihave HT := (ico_take hd _) $$ HT
  icases HT with ⟨⟨T0, T1⟩, HT⟩
  isplitl [H0 T0]; · isplitl [H0] <;> iassumption
  isplitl [H1 T1]; · isplitl [H1] <;> iassumption
  iexact HT

set_option maxRecDepth 65536 in
/-- The first part of a trip: the wait for the sending along `x` four chunks back and the chunk's product. -/
theorem part2_wp (t : T1) {a u a' u' : ℕ} (ha' : a' = t.val - 2)
    {Q : (Σ' (arg17 : BitVec 32) (v292 : BitVec 32), FVec F S1024x128 .bf16) → sProp 𝕄} :
    iprop(Recs gen ∗ Sn true c (t.val - 4) (t.val - 2) ∗ fr c (srcM true) (t.val - 2) (t.val - 4 + 4) ∗ dyAll X c ∗ Wst Y c t.val ∗ WT Y c q (t.val + 2) ∗ Ow false c a u a' u')
      ⊢ iprop((iprop(Sn true c (t.val + 1 - 4) (t.val - 2) ∗ fr c (srcM true) (t.val - 2) (t.val + 1 - 4 + 4) ∗ dyAll X c ∗ Wst Y c (t.val + 2) ∗ WT Y c q (t.val + 3)
          ∗ Ow false c a u a' u') -∗ Q ⟨Scf.iv 0#32 1#32 t, Scalar.remsi (Scf.iv 0#32 1#32 t) 4#32, k0_pay3 (xh X c) (wv Y c t.val)⟩)
        -∗ WP c (at_ (k0_part2 (F := F)) 0#32 1#32 t) Q) := by
  subst ha'
  have ht := T1_lt t
  rw [k0_part2_eq_skeleton]; unfold at_ k0_part2_skel
  simp only [semSignalWord, semWaitWord, Prog.lift, Prog.bind_op, Prog.bind_ret, Prog.pure_eq_ret]
  rw [Ow_comm false, Bool.not_false, Wst_lt c Y ht]
  iintro ⟨#HR, HS, Hf, Hdy, HW, HT, HO⟩ Hk
  iapply (if_join (P := iprop(Recs gen ∗ Sn true c (t.val - 4) (t.val - 2) ∗ fr c (srcM true) (t.val - 2) (t.val - 4 + 4) ∗ Ow true c (t.val - 2) u' a u))
    (P' := iprop(Sn true c (t.val + 1 - 4) (t.val - 2) ∗ fr c (srcM true) (t.val - 2) (t.val + 1 - 4 + 4) ∗ Ow true c (t.val - 2) u' a u))
    (fun h => by
      have h4 := (cond1_iff t).mp h
      have e : t.val + 1 - 4 = t.val - 4 + 1 := by omega
      rw [e]
      have hsm := sem_send true (off6_eq t h4) (by omega) (inb := k0_off6_inb t h)
      iintro H Hk
      iapply (op_freesend gen true c (a := t.val - 2) (i := t.val - 2) (by omega) (by omega) (by omega) (by exact rfl) hsm) $$ H
      iexact Hk)
    (fun h => by
      have h4 : ¬4 ≤ t.val := fun hh => h ((cond1_iff t).mpr hh)
      have e : t.val + 1 - 4 = t.val - 4 := by omega
      rw [e]
      iintro ⟨-, H⟩
      iexact H)) $$ [HS Hf HO]
  · isplitr; · iexact HR
    isplitl [HS]; · iexact HS
    isplitl [Hf] <;> iassumption
  iintro ⟨HS, Hf, HO⟩
  icases HW with ⟨W0, W1⟩
  iapply (op_wwait Y c (d := t.val) (h := 0) (wE (k0_off9_eq t)) (sem_w (k0_off8_eq t))) $$ [W0 HO]
  · isplitr; · iexact HR
    isplitl [W0] <;> iassumption
  iintro ⟨W0, s0, HO⟩
  iapply (op_wwait Y c (d := t.val) (h := 1) (wE (k0_off12_eq t)) (sem_w (k0_off11_eq t))) $$ [W1 HO]
  · isplitr; · iexact HR
    isplitl [W1] <;> iassumption
  iintro ⟨W1, s1, HO⟩
  iapply (op_dyload X c (off := ![0, 0]) (by decide)) $$ Hdy
  iintro Hdy
  ihave HW := (w_join Y c t.val).2 $$ [W0 W1]
  · isplitl [W0] <;> iassumption
  iapply (op_wload Y c (k0_off13_eq t)) $$ HW
  iintro HW
  ihave HW := (w_join Y c t.val).1 $$ HW
  icases HW with ⟨W0, W1⟩
  ihave W0 := (wPt_idle Y c t.val 0) $$ [W0 s0]
  · isplitl [W0] <;> iassumption
  ihave W1 := (wPt_idle Y c t.val 1) $$ [W1 s1]
  · isplitl [W1] <;> iassumption
  iapply (if_join (P := iprop(wIdle c t.val 0 ∗ wIdle c t.val 1 ∗ WT Y c q (t.val + 2)))
    (P' := iprop(Wst Y c (t.val + 2) ∗ WT Y c q (t.val + 3)))
    (fun h => by
      have h4 := (cond2_iff t).mp h
      rw [← wIdle_add2, ← wIdle_add2 c t.val 1]
      refine BIBase.Entails.trans (op_wnext c Y q (by omega : t.val + 2 < 16)) ?_
      rw [Wst_lt c Y (by omega : t.val + 2 < 16)]
      iintro ⟨H0, H1, HT⟩ Hk
      iapply (op_wstart Y c q (d := t.val + 2) (h := 0) (yE (off16_eq' t h4 0)) (wE ((k0_off15_eq t).trans rfl)) (sem_w ((k0_off14_eq t).trans rfl))) $$ H0
      iintro H0
      iapply (op_wstart Y c q (d := t.val + 2) (h := 1) (yE (off16_eq' t h4 1)) (wE ((k0_off18_eq t).trans rfl)) (sem_w ((k0_off17_eq t).trans rfl))) $$ H1
      iintro H1
      iapply Hk
      isplitl [H0 H1]
      · isplitl [H0] <;> iassumption
      · iexact HT)
    (fun h => by
      have h4 : ¬t.val < 14 := fun hh => h ((cond2_iff t).mpr hh)
      rw [Wst_ge c Y (by omega : ¬t.val + 2 < 16), wIdle_add2, wIdle_add2]
      have e : (WT Y c q (t.val + 2) : sProp 𝕄) = WT Y c q (t.val + 3) := by
        unfold WT
        rw [Finset.Ico_eq_empty (by omega), Finset.Ico_eq_empty (by omega)]
      rw [e]
      iintro ⟨H0, H1, HT⟩
      isplitl [H0 H1]
      · isplitl [H0] <;> iassumption
      · iexact HT)) $$ [W0 W1 HT]
  · isplitl [W0]; · iexact W0
    isplitl [W1] <;> iassumption
  iintro ⟨HW, HT⟩
  iapply ret_wp
  iapply Hk
  isplitl [HS]; · iexact HS
  isplitl [Hf]; · iexact Hf
  isplitl [Hdy]; · iexact Hdy
  isplitl [HW]; · iexact HW
  isplitl [HT]; · iexact HT
  iexact HO

/-! ## The trip -/

/-- The state before trip `t`. -/
def Inv (t : ℕ) : sProp 𝕄 :=
  iprop(Recs gen ∗ dyAll X c ∗ Wst Y c t ∗ Wst Y c (t + 1) ∗ WT Y c q (t + 2)
    ∗ Tx false c t ∗ Sn false c (t - 2) t ∗ Rc false c (t - 2) ∗ Cr false c (min (t - 2) 12) ∗ Cw false c (t - 4)
    ∗ Tx true c (t - 2) ∗ Sn true c (t - 4) (t - 2) ∗ Rc true c (t - 4) ∗ Cr true c (t - 4) ∗ Cw true c (t - 6)
    ∗ Ow false c t (min (t - 2) 12) (t - 2) (t - 4)
    ∗ fr c (srcM false) t (t - 2 + 4) ∗ fr c (srcM true) (t - 2) (t - 4 + 4) ∗ fr c (dstM false) 12 (t - 2) ∗ Out gen c (t - 2) (t - 4))

/-- The state before the first exchange's chunk `t - 2` is consumed; the part it changes. -/
def PreY (t : ℕ) : sProp 𝕄 :=
  iprop(Recs gen ∗ Sn false c (t - 2) (t + 1) ∗ Rc false c (t - 2) ∗ Cr false c (min (t - 2) 12)
    ∗ Tx true c (t - 2) ∗ Sn true c (t + 1 - 4) (t - 2) ∗ Cw true c (t - 6) ∗ Ow false c (t + 1) (min (t - 2) 12) (t - 2) (t - 4)
    ∗ fr c (srcM false) (t + 1) (t - 2 + 4) ∗ fr c (srcM true) (t - 2) (t + 1 - 4 + 4) ∗ fr c (dstM false) 12 (t - 2) ∗ Out gen c (t - 2) (t - 4))
def PostY (t : ℕ) : sProp 𝕄 :=
  iprop(Sn false c (t + 1 - 2) (t + 1) ∗ Rc false c (t + 1 - 2) ∗ Cr false c (min (t + 1 - 2) 12)
    ∗ Tx true c (t + 1 - 2) ∗ Sn true c (t + 1 - 4) (t + 1 - 2) ∗ Cw true c (t + 1 - 6) ∗ Ow false c (t + 1) (min (t + 1 - 2) 12) (t + 1 - 2) (t - 4)
    ∗ fr c (srcM false) (t + 1) (t + 1 - 2 + 4) ∗ fr c (srcM true) (t + 1 - 2) (t + 1 - 4 + 4) ∗ fr c (dstM false) 12 (t + 1 - 2) ∗ Out gen c (t + 1 - 2) (t - 4))
/-- The same of the second exchange's chunk `t - 4`. -/
def PreX (t : ℕ) : sProp 𝕄 :=
  iprop(Recs gen ∗ Rc true c (t - 4) ∗ Cr true c (t - 4) ∗ Ow false c (t + 1) (min (t + 1 - 2) 12) (t + 1 - 2) (t - 4) ∗ Out gen c (t + 1 - 2) (t - 4))
def PostX (t : ℕ) : sProp 𝕄 :=
  iprop(Rc true c (t + 1 - 4) ∗ Cr true c (t + 1 - 4) ∗ Ow false c (t + 1) (min (t + 1 - 2) 12) (t + 1 - 2) (t + 1 - 4) ∗ Out gen c (t + 1 - 2) (t + 1 - 4))

/-- The state once trip `t` has its product. -/
def Mid (t : ℕ) : sProp 𝕄 :=
  iprop(Recs gen ∗ dyAll X c ∗ Wst Y c (t + 2) ∗ Wst Y c (t + 1) ∗ WT Y c q (t + 3)
    ∗ Tx false c t ∗ Sn false c (t - 2) t ∗ Rc false c (t - 2) ∗ Cr false c (min (t - 2) 12) ∗ Cw false c (t - 4)
    ∗ Tx true c (t - 2) ∗ Sn true c (t + 1 - 4) (t - 2) ∗ Rc true c (t - 4) ∗ Cr true c (t - 4) ∗ Cw true c (t - 6)
    ∗ Ow false c t (min (t - 2) 12) (t - 2) (t - 4)
    ∗ fr c (srcM false) t (t - 2 + 4) ∗ fr c (srcM true) (t - 2) (t + 1 - 4 + 4) ∗ fr c (dstM false) 12 (t - 2) ∗ Out gen c (t - 2) (t - 4))

set_option maxHeartbeats 2000000 in
/-- A trip of the loop keeps its invariant. -/
theorem trip_wp (hgy : ∀ d, k0_pay4 (k0_pay3 (xh X c) (wv Y c d)) = gen false c d)
    (hgx : ∀ d, k0_pay2 (gen false c d) (gen false (peer false c) d) = gen true c d) (v2 v5 v6 v7 v8 v10 : BitVec 32) (t : T1) :
    Inv gen c X Y q t.val ⊢ WP c (at_ (k0_t1_body (F := F)) c v2 v5 v6 v7 v8 v10 t ()) (fun _ => Inv gen c X Y q (t.val + 1)) := by
  have ht := T1_lt t
  unfold at_ k0_t1_body
  refine seq_wp (v := ⟨Scf.iv 0#32 1#32 t, Scalar.remsi (Scf.iv 0#32 1#32 t) 4#32, k0_pay3 (xh X c) (wv Y c t.val)⟩)
    (P' := Mid gen c X Y q t.val) (fun Q' => ?_) ?_
  · unfold Inv Mid
    iintro ⟨#HR, Hdy, W0, W1, WT, yT, yS, yR, yC, yW, xT, xS, xR, xC, xW, HO, fy, fx, gy, Ho⟩ Hk
    iapply (part2_wp gen c X Y q t rfl) $$ [xS fx Hdy W0 WT HO]
    · iframe # ∗
    iintro ⟨xS, fx, Hdy, W0, WT, HO⟩
    iapply Hk
    iframe # ∗
  simp only [k0_part1_eq_skeleton, k0_part1_skel, semSignalWord, semWaitWord, Prog.lift, Prog.bind_op, Prog.bind_ret, Prog.pure_eq_ret]
  unfold Mid
  iintro ⟨#HR, Hdy, W0, W1, WT, yT, yS, yR, yC, yW, xT, xS, xR, xC, xW, HO, fy, fx, gy, Ho⟩
  ihave fy := (fr_take c (srcM false) (by omega : t.val < t.val - 2 + 4)) $$ fy
  unfold slx
  icases fy with ⟨⟨%v, hs⟩, fy⟩
  iapply (op_loadslot c (k0_off19_eq t)) $$ hs
  iintro hs
  iapply (op_storeslot c (k0_off19_eq t) (w := k0_pay4 (k0_pay3 (xh X c) (wv Y c t.val)))) $$ hs
  iintro hs
  ihave hs := (Entails.of_eq (congrArg (sl (srcM false) c t.val) (hgy t.val))) $$ hs
  iapply (if_join (P := iprop(Recs gen ∗ Cw false c (t.val - 4) ∗ Ow false c t.val (min (t.val - 2) 12) (t.val - 2) (t.val - 4)))
    (P' := iprop(Cw false c (t.val + 1 - 4) ∗ Ow false c t.val (min (t.val - 2) 12) (t.val - 2) (t.val - 4)))
    (fun h => by
      have h4 := (v328_iff t).mp h
      have e : t.val + 1 - 4 = t.val - 4 + 1 := by omega
      rw [e]
      iintro H Hk
      iapply (op_waitcred gen false c (s := t.val - 4) (a := t.val) (u := min (t.val - 2) 12) (a' := t.val - 2) (u' := t.val - 4) (by omega) (by unfold Late; simp only [Bool.false_eq_true, if_false]; omega) rfl rfl) $$ H
      iexact Hk)
    (fun h => by
      have h4 : ¬4 ≤ t.val := fun hh => h ((v328_iff t).mpr hh)
      have e : t.val + 1 - 4 = t.val - 4 := by omega
      rw [e]
      iintro ⟨-, H⟩
      iexact H)) $$ [yW HO]
  · iframe # ∗
  iintro ⟨yW, HO⟩
  iapply (op_send gen false c (a := t.val) (e := t.val - 2) (s := t.val + 1 - 4) (by omega) (by omega) (by omega) (dev3_eq c _)
    (slotE (srcM false) (k0_off21_eq t)) (slotE (dstM false) (k0_off21_eq t)) (sem_send false (k0_off20_eq t) (by omega)) (sem_recv false (k0_off20_eq t) (by omega))) $$ [yT yS yW hs HO]
  · iframe # ∗
  iintro ⟨yT, yS, yW, HO⟩
  iapply (if_join (P := PreY gen c t.val) (P' := PostY gen c t.val)
    (fun h => by
      have h2 := (cond4_iff t).mp h
      obtain ⟨d, hd⟩ : ∃ d, t.val = d + 2 := ⟨t.val - 2, by omega⟩
      have e1 : t.val - 2 = d := by omega
      have e2 : t.val + 1 - 2 = d + 1 := by omega
      have e3 : t.val + 1 = d + 3 := by omega
      unfold PreY PostY
      rw [e1, e2, e3]
      iintro ⟨#HR, yS, yR, yC, xT, xS, xW, HO, fy, fx, gy, Ho⟩ Hk
      iapply (op_waitsend gen false c (e := d) (a := d + 3) (by omega) (by omega) (by exact rfl) (sem_send false ((off22_eq t h2).trans (by rw [e1])) (by omega))) $$ [yS HO]
      · iframe # ∗
      iintro ⟨yS, hs, HO⟩
      iapply (op_waitrecv gen false c (a := d + 3) (u := min d 12) (a' := d) (u' := t.val - 4) (b := d) (by omega) (by unfold Late; simp only [Bool.false_eq_true, if_false]; omega) (by exact rfl)
        (sem_recv false ((off22_eq t h2).trans (by rw [e1])) (by omega))) $$ [yR HO]
      · iframe # ∗
      iintro ⟨yR, hr, HO⟩
      have eo : k0_off24 t = ![d % 4, 0, 0] := (off24_eq t h2).trans (by rw [e1])
      ihave fx := (fr_take c (srcM true) (by omega : d < d + 3 - 4 + 4)) $$ fx
      icases fx with ⟨hx, fx⟩
      have hoo : k0_off25 c t = ![1024 * (c.val / 2 % 2), 128 * (d % 16)] := (off25_eq c t h2).trans (by
        have hc := c.isLt
        simp only [nD] at hc
        rw [e1, Nat.mod_eq_of_lt (by omega : c.val / 2 < 2), Nat.mod_eq_of_lt (by omega : d < 16)])
      iapply (op_loadslot c eo) $$ hs
      iintro hs
      iapply (op_loadslot c eo) $$ hr
      iintro hr
      unfold slx
      icases hx with ⟨%vx, hx⟩
      iapply (op_loadslot c eo) $$ hx
      iintro hx
      iapply (op_storeslot c eo) $$ hx
      iintro hx
      ihave hx := (Entails.of_eq (congrArg (sl (srcM true) c d) (hgx d))) $$ hx
      iapply (op_loadslot c eo) $$ hx
      iintro hx
      iapply (op_outload gen c) $$ Ho
      iintro Ho
      iapply (op_outstore gen c (a' := d + 1) (b' := t.val - 4) hoo (fun f hf => Good_own gen c (by omega) (by omega) hf rfl)) $$ Ho
      iintro Ho
      iapply (if_join (P := iprop(Recs gen ∗ Cr false c (min d 12) ∗ sl (dstM false) c d (gen false (peer false c) d) ∗ fr c (dstM false) 12 d ∗ Ow false c (d + 3) (min d 12) d (t.val - 4)))
        (P' := iprop(Cr false c (min (d + 1) 12) ∗ fr c (dstM false) 12 (d + 1) ∗ Ow false c (d + 3) (min (d + 1) 12) d (t.val - 4)))
        (fun h' => by
          have h5 := (cond5_iff t h2).mp h'
          rw [Nat.min_eq_left (by omega : d ≤ 12), Nat.min_eq_left (by omega : d + 1 ≤ 12)]
          have ef : (fr c (dstM false) 12 (d + 1) : sProp 𝕄) = fr c (dstM false) 12 d := by
            unfold fr; rw [Finset.Ico_eq_empty (by omega), Finset.Ico_eq_empty (by omega)]
          rw [ef]
          iintro ⟨#HR, yC, hr, gy, HO⟩ Hk
          iapply (op_signal gen false c (u := d) (by omega) (dev4_eq c _) rfl rfl) $$ [yC hr HO]
          · iframe # ∗
          iintro ⟨yC, HO⟩
          iapply Hk
          iframe # ∗)
        (fun h' => by
          have h5 : ¬t.val < 14 := fun hh => h' ((cond5_iff t h2).mpr hh)
          rw [Nat.min_eq_right (by omega : 12 ≤ d), Nat.min_eq_right (by omega : 12 ≤ d + 1)]
          iintro ⟨#HR, yC, hr, gy, HO⟩
          ihave gy := (fr_put c (dstM false) (by omega : 12 ≤ d)) $$ [hr gy]
          · iframe # ∗
          iframe # ∗)) $$ [yC hr gy HO]
      · iframe # ∗
      iintro ⟨yC, gy, HO⟩
      ihave HO := (Ow_yx c) $$ HO
      iapply (if_join (P := iprop(Recs gen ∗ Cw true c (t.val - 6) ∗ Ow true c d (t.val - 4) (d + 3) (min (d + 1) 12)))
        (P' := iprop(Cw true c (d + 3 - 6) ∗ Ow true c d (t.val - 4) (d + 3) (min (d + 1) 12)))
        (fun h' => by
          have h6 := (v392_iff t h2).mp h'
          have e6 : d + 3 - 6 = t.val - 6 + 1 := by omega
          rw [e6]
          iintro H Hk
          iapply (op_waitcred gen true c (s := t.val - 6) (a := d) (u := t.val - 4) (a' := d + 3) (u' := min (d + 1) 12) (by omega) (by unfold Late; simp only [if_true]; omega) rfl rfl) $$ H
          iexact Hk)
        (fun h' => by
          have h6 : ¬6 ≤ t.val := fun hh => h' ((v392_iff t h2).mpr hh)
          have e6 : d + 3 - 6 = t.val - 6 := by omega
          rw [e6]
          iintro ⟨-, H⟩
          iexact H)) $$ [xW HO]
      · iframe # ∗
      iintro ⟨xW, HO⟩
      have eo' : k0_off23 t = ![d % 4, 0, 0] := (off23_eq t h2).trans (by rw [e1])
      have es' : k0_off22 t = ![d] := (off22_eq t h2).trans (by rw [e1])
      iapply (op_send gen true c (a := d) (e := d + 3 - 4) (s := d + 3 - 6) (by omega) (by omega) (by omega) (dev5_eq c _)
        (slotE (srcM true) eo') (slotE (dstM true) eo') (sem_send true es' (by omega)) (sem_recv true es' (by omega))) $$ [xT xS xW hx HO]
      · iframe # ∗
      iintro ⟨xT, xS, xW, HO⟩
      ihave HO := (Ow_xy c) $$ HO
      ihave fy := (fr_put4 c (srcM false) (by omega : d + 3 ≤ d + 4)) $$ [hs fy]
      · iframe # ∗
      iapply Hk
      have e7 : d + 1 + 4 = d + 4 + 1 := by omega
      iframe # ∗)
    (fun h => by
      have h4 : ¬2 ≤ t.val := fun hh => h ((cond4_iff t).mpr hh)
      have e : t.val + 1 - 2 = t.val - 2 := by omega
      have e' : t.val + 1 - 6 = t.val - 6 := by omega
      unfold PreY PostY
      rw [e, e']
      iintro ⟨-, H⟩
      iexact H)) $$ [yS yR yC xT xS xW HO fy fx gy Ho]
  · unfold PreY; iframe # ∗
  unfold PostY
  iintro ⟨yS, yR, yC, xT, xS, xW, HO, fy, fx, gy, Ho⟩
  iapply (if_join (P := PreX gen c t.val) (P' := PostX gen c t.val)
    (fun h => by
      have h4 := (cond7_iff t).mp h
      have h8 := cond8_iff t h4
      obtain ⟨d, hd⟩ : ∃ d, t.val = d + 4 := ⟨t.val - 4, by omega⟩
      have e1 : t.val - 4 = d := by omega
      have e2 : t.val + 1 - 4 = d + 1 := by omega
      have e3 : t.val + 1 - 2 = d + 3 := by omega
      have e4 : t.val + 1 = d + 5 := by omega
      unfold PreX PostX
      rw [e1, e2, e3, e4, Ow_comm false, Ow_comm false, Bool.not_false]
      iintro ⟨#HR, xR, xC, HO, Ho⟩ Hk
      iapply (op_waitrecv gen true c (a := d + 3) (u := d) (a' := d + 5) (u' := min (d + 3) 12) (b := d) (by omega) (by unfold Late; simp only [if_true]; omega) (by exact rfl)
        (sem_recv true ((off26_eq t h4).trans (by rw [e1])) (by omega))) $$ [xR HO]
      · iframe # ∗
      iintro ⟨xR, hr, HO⟩
      iapply (blk_oth gen c (d := d) (a := d + 3) rfl rfl (by omega) (by omega) ((off28_eq t h4).trans (by rw [e1])) ((off29_eq c t h4).trans (by rw [e1])) (p := k0_pay6) rfl) $$ [hr Ho]
      · iframe # ∗
      iintro ⟨hr, Ho⟩
      iapply (if_join (P := iprop(Recs gen ∗ Cr true c d ∗ sl (dstM true) c d (gen true (peer true c) d) ∗ Ow true c (d + 3) d (d + 5) (min (d + 3) 12)))
        (P' := iprop(Cr true c (d + 1) ∗ Ow true c (d + 3) (d + 1) (d + 5) (min (d + 3) 12)))
        (fun h' => by
          iintro H Hk
          iapply (op_signal gen true c (u := d) (by omega) (dev6_eq c _) rfl rfl) $$ H
          iexact Hk)
        (fun h' => absurd h8 h')) $$ [xC hr HO]
      · iframe # ∗
      iintro ⟨xC, HO⟩
      iapply Hk
      iframe # ∗)
    (fun h => by
      have h4 : ¬4 ≤ t.val := fun hh => h ((cond7_iff t).mpr hh)
      have e : t.val + 1 - 4 = t.val - 4 := by omega
      unfold PreX PostX
      rw [e]
      iintro ⟨-, H⟩
      iexact H)) $$ [xR xC HO Ho]
  · unfold PreX; iframe # ∗
  unfold PostX
  iintro ⟨xR, xC, HO, Ho⟩
  iapply ret_wp
  unfold Inv
  iframe # ∗

end Trip

end Cert.Proof.Run
-- ==== Proof.Meet.lean ====
module

public import proofs.«01_k».proof.Proof.Trip

@[expose] public section

noncomputable section

namespace Cert.Proof.Run

open Cert.KernelIdeal Cert.KernelIdeal.Gen
open Idealize.ShloMosaic Idealize.ShloMosaic.TcCoe Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The barrier -/

section Meet

variable (gen : Bool → Dev nD → ℕ → (S1x1024x128.Idx → Elt F .bf16)) (ax : Bool) (c : Dev nD)

/-- Where a device stands along an axis before it starts, its receive slots not yet free for the neighbour. -/
def Ax0 : sProp 𝕄 :=
  iprop(Tx ax c 0 ∗ Sn ax c 0 0 ∗ Rc ax c 0 ∗ (bigSep (Finset.Ico 0 16) fun d => readerAt ES ((c, ax, d) : Key) 0)
    ∗ (bigSep (Finset.Ico 0 12) fun d => dutyTok ER (credC ax (peer ax c)) 0 d)
    ∗ (bigSep (Finset.Ico 0 12) fun d => cred (tallyAt (credC ax c) d 1)) ∗ atPos ER (credC ax c) 0 ∅ 0)

/-- The neighbour's word of an axis in the barrier. -/
def bi : ℕ := if ax then 1 else 0
/-- The first `k` receive slots are free for the neighbour. -/
def rel (k : ℕ) : sProp 𝕄 := bigSep (Finset.range k) fun d => released (ES (F := F)) ((c, ax, d) : Key) 1
instance rel_persistent (k : ℕ) : BI.Persistent (rel (F := F) ax c k) := by unfold rel; infer_instance

/-- One slot more is released to its sender. -/
theorem rel_step {k : ℕ} (hk : k < 16) :
    iprop(Recs gen ∗ (bigSep (Finset.Ico k 16) fun d => readerAt ES ((c, ax, d) : Key) 0) ∗ slx (dstM ax) c k ∗ rel ax c k)
      ⊢ (|={Set.univ}=> iprop((bigSep (Finset.Ico (k + 1) 16) fun d => readerAt ES ((c, ax, d) : Key) 0) ∗ rel ax c (k + 1)) : sProp 𝕄) := by
  have hs : iprop(released ES ((c, ax, k) : Key) 1 ∗ rel ax c k) ⊢ (rel ax c (k + 1) : sProp 𝕄) := by
    unfold rel; exact Entails.of_eq (bigSep_range_succ k (fun d => (released ES ((c, ax, d) : Key) 1 : sProp 𝕄))).symm
  iintro ⟨#HR, Hrd, Hs, #Hrel⟩
  ihave Hrd := (ico_take hk _) $$ Hrd
  icases Hrd with ⟨Hr, Hrd⟩
  ihave #H2 := (Recs_slot gen ax c hk) $$ HR
  icases H2 with ⟨%ι, #Hsl⟩
  imod (slot_release ES (Set.mem_univ ι) (slx_excl c (dstM ax) k) 0) $$ [Hr Hs] with ⟨-, #Hnew⟩
  · isplitr; · iexact Hsl
    isplitl [Hr] <;> iassumption
  imodintro
  isplitl [Hrd]; · iexact Hrd
  iapply hs
  isplitr; · iexact Hnew
  iexact Hrel

/-- All four slots are released before the barrier. -/
theorem rel_four :
    iprop(Recs gen ∗ (bigSep (Finset.Ico 0 16) fun d => readerAt ES ((c, ax, d) : Key) 0) ∗ fr c (dstM ax) 0 4)
      ⊢ (|={Set.univ}=> iprop((bigSep (Finset.Ico 4 16) fun d => readerAt ES ((c, ax, d) : Key) 0) ∗ rel ax c 4) : sProp 𝕄) := by
  have h0 : (iprop(emp) : sProp 𝕄) ⊢ rel ax c 0 := Entails.of_eq (by unfold rel; rw [Finset.range_zero, bigSep_empty]; rfl)
  iintro ⟨#HR, Hrd, Hf⟩
  ihave #H0 : (rel (F := F) ax c 0) $$ []
  · iapply h0; iempintro
  ihave Hf := (fr_take c (dstM ax) (by omega : 0 < 4)) $$ Hf
  icases Hf with ⟨Hs, Hf⟩
  imod (rel_step gen ax c (by omega : 0 < 16)) $$ [Hrd Hs] with ⟨Hrd, #H1⟩
  · iframe # ∗
  ihave Hf := (fr_take c (dstM ax) (by omega : 1 < 4)) $$ Hf
  icases Hf with ⟨Hs, Hf⟩
  imod (rel_step gen ax c (by omega : 1 < 16)) $$ [Hrd Hs] with ⟨Hrd, #H2⟩
  · iframe # ∗
  ihave Hf := (fr_take c (dstM ax) (by omega : 2 < 4)) $$ Hf
  icases Hf with ⟨Hs, Hf⟩
  imod (rel_step gen ax c (by omega : 2 < 16)) $$ [Hrd Hs] with ⟨Hrd, #H3⟩
  · iframe # ∗
  ihave Hf := (fr_take c (dstM ax) (by omega : 3 < 4)) $$ Hf
  icases Hf with ⟨Hs, Hf⟩
  imod (rel_step gen ax c (by omega : 3 < 16)) $$ [Hrd Hs] with ⟨Hrd, #H4⟩
  · iframe # ∗
  imodintro
  iframe # ∗

variable {α : Type}

/-- A unit to a neighbour's barrier: the receive slots of the axis are free for it. -/
theorem op_barsignal {O : CellTallies nD τ sig ℕ} {W : Waits sig ℕ} {n : Dev nD} (hn : n = peer ax c) {s : Sem sig} (hs : s = barS) {z : ℤ} (hz : z = ((1 : ℕ) : ℤ))
    {k : PUnit → Prog (TpuEff nD τ sig (Elt F) Λ₀ .tc) α} {Q : α → sProp 𝕄} :
    iprop(Recs gen ∗ dutyTok ER (barC (peer ax c)) 0 (bi ax) ∗ rel ax c 4 ∗ owes (c : Thread nD τ) (O + tallyAt (barC (peer ax c)) 0 1) W)
      ⊢ iprop((owes (c : Thread nD τ) O W -∗ WP c (k ⟨⟩) Q) -∗ WP c (.op (.semSignal (n, .tc) s z) k) Q) := by
  subst hn hs hz
  iintro ⟨#HR, Htok, #Hrel, HO⟩ Hk
  ihave #H1 := (Recs_bar gen (peer ax c)) $$ HR
  icases H1 with ⟨%κ, #Hi, #Hre⟩
  have hd : bi ax ∈ (rd (F := F) gen).duties (barC (peer ax c)) 0 := by rw [duties_bar]; cases ax <;> decide
  have hp : (rel ax c 4 : sProp 𝕄) ⊢ (rd gen).payload (barC (peer ax c)) 0 (bi ax) := by
    rw [payload_bar, show (bi ax == 1) = ax from by cases ax <;> rfl]; unfold relP rel; rw [peer_peer]
  have hr : τ.routes (c : Thread nD τ) (peer ax c : Thread nD τ) = true := by routes
  iapply (Rounds.wp_signal 𝒱₀ ER (rd gen) (c : Thread nD τ) none (κ := κ) hd (amount_bar gen (peer ax c) (bi ax)) 0 O rfl (W := W) (hr := hr)) $$ [HO Htok]
  · isplitr; · iexact Hi
    isplitl [HO]; · iexact HO
    isplitl [Htok]; · iexact Htok
    isplitr
    · iapply hp; iexact Hrel
    iexact Hre
  iexact Hk

/-- The wait for both neighbours: their receive slots are known free. -/
theorem op_barwait {s : Sem sig} (hs : s = barS) {z : ℤ} (hz : z = ((2 : ℕ) : ℤ))
    {k : PUnit → Prog (TpuEff nD τ sig (Elt F) Λ₀ .tc) α} {Q : α → sProp 𝕄} :
    iprop(Recs gen ∗ cred (tallyAt (barC c) 0 2) ∗ atPos ER (barC c) 0 ∅ 0 ∗ Ow false c 0 0 0 0)
      ⊢ iprop((iprop(atPos ER (barC c) 1 ∅ 0 ∗ relP false c 4 ∗ relP true c 4 ∗ Ow false c 0 0 0 0) -∗ WP c (k ⟨⟩) Q)
        -∗ WP c (.op (.semWait s z) k) Q) := by
  subst hs hz
  unfold Ow
  iintro ⟨#HR, Hc, Hat, ⟨%W, HO⟩⟩ Hk
  ihave #H1 := (Recs_bar gen c) $$ HR
  icases H1 with ⟨%κ, #Hi, #Hre⟩
  ihave #Hlev := (Recs_lev gen) $$ HR
  have hmw := mayWaitA (F := F) false c (.reg barS) 0 0 (a := 0) (u := 0) (a' := 0) (u' := 0) (by omega) (by unfold lv; dsimp only; rw [use_bar]) (by unfold Late; simp)
  iapply (Rounds.wp_wait_rest_token 𝒱₀ ER (rd gen) (c : Thread nD τ) none (κ := κ) (wpE_semWait_eq 𝒱₀ (c : Thread nD τ) none Set.univ) (Set.mem_univ κ) 0
    (O := Oax false c 0 0 + Oax (!false) c 0 0) (W := W) (R := 0) (m := 0) (T := ∅) (by rw [expect_bar])) $$ [Hc HO Hat]
  · isplitr; · iexact Hi
    isplitl [Hc]; · iexact Hc
    isplitl [HO]; · iexact HO
    isplitr; · iapply hmw $$ Hlev
    iexact Hat
  iintro ⟨HO, Hat, -, Hpay⟩
  have hpay : (bigSep ((rd gen).duties ((c : Thread nD τ), .reg barS) 0 \ ∅) fun d => (rd gen).payload ((c : Thread nD τ), .reg barS) 0 d) ⊢ (iprop(relP false c 4 ∗ relP true c 4) : sProp 𝕄) := by
    rw [Finset.sdiff_empty, duties_bar, bigSep_range_succ, bigSep_range_succ, Finset.range_zero, bigSep_empty, payload_bar, payload_bar]
    iintro ⟨H1, H0, -⟩
    isplitl [H0]
    · iexact H0
    iexact H1
  ihave Hpay := hpay $$ Hpay
  icases Hpay with ⟨#H1, #H2⟩
  iapply Hk
  isplitl [Hat]; · iexact Hat
  isplitr; · iexact H1
  isplitr; · iexact H2
  iexists _
  iexact HO

end Meet

end Cert.Proof.Run
-- ==== Proof.Pro.lean ====
module

public import proofs.«01_k».proof.Proof.Meet

@[expose] public section

noncomputable section

namespace Cert.Proof.Run

open Cert.KernelIdeal Cert.KernelIdeal.Gen
open Idealize.ShloMosaic Idealize.ShloMosaic.TcCoe Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## What comes before the loop -/

/-- A part, then what follows it. -/
theorem bind_wp {α β : Type} {c : Dev nD} {p : Prog (TpuEff nD τ sig (Elt F) Λ₀ .tc) α} {K : α → Prog (TpuEff nD τ sig (Elt F) Λ₀ .tc) β} {Q : β → sProp 𝕄} :
    WP c p (fun a => WP c (K a) Q) ⊢ WP c (p >>= K) Q := by
  show _ ⊢ wp _ _ _ (p >>= K) Q
  rw [wp_bind]

section Pro

variable (gen : Bool → Dev nD → ℕ → (S1x1024x128.Idx → Elt F .bf16)) (c : Dev nD)
  (X Y : Dev nD → S2048x8192.Idx → Elt F .f32) (q : PosShare TreeShare)

/-- The device asks for its own number. -/
theorem op_device {α : Type} {k : Dev nD → Prog (TpuEff nD τ sig (Elt F) Λ₀ .tc) α} {Q : α → sProp 𝕄} :
    WP c (k c) Q ⊢ WP c (.op .deviceId k) Q := by
  show _ ⊢ wp _ _ _ (.op .deviceId k) Q
  rw [wp_deviceId]

set_option maxRecDepth 65536 in
/-- The starts of the first three blocks' copies. -/
theorem part3_wp {Q : (Σ' (d0 : Dev nD) (v2 : BitVec 32) (v5 : BitVec 32) (v6 : BitVec 32) (v7 : BitVec 32) (v8 : BitVec 32), BitVec 32) → sProp 𝕄} :
    DyS X c q 0 ⊢ iprop((∀ v2 v5 v6 v7 v8 v10, DyS X c q 3 -∗ Q ⟨c, v2, v5, v6, v7, v8, v10⟩) -∗ WP c (at_ (k0_part3 (F := F))) Q) := by
  rw [k0_part3_eq_skeleton]; unfold at_ k0_part3_skel
  simp only [semSignalWord, semWaitWord, Prog.lift, Prog.bind_op, Prog.bind_ret, Prog.pure_eq_ret]
  iintro H Hk
  iapply (op_device c)
  iapply (op_dystart X c q (r := 0) (by omega) (xE (off1_eq' c 0)) (dyE rfl) (sem_dy rfl (by omega))) $$ H
  iintro H
  iapply (op_dystart X c q (r := 1) (by omega) (xE (off1_eq' c 1)) (dyE rfl) (sem_dy rfl (by omega))) $$ H
  iintro H
  iapply (op_dystart X c q (r := 2) (by omega) (xE (off1_eq' c 2)) (dyE rfl) (sem_dy rfl (by omega))) $$ H
  iintro H
  iapply ret_wp
  iapply Hk $$ H

set_option maxRecDepth 65536 in
/-- The starts of the next four. -/
theorem part4_wp (v2 : BitVec 32) {Q : PUnit → sProp 𝕄} :
    DyS X c q 3 ⊢ iprop((DyS X c q 7 -∗ Q ⟨⟩) -∗ WP c (at_ (k0_part4 (F := F)) c v2) Q) := by
  rw [k0_part4_eq_skeleton]; unfold at_ k0_part4_skel
  simp only [semSignalWord, semWaitWord, Prog.lift, Prog.bind_op, Prog.bind_ret, Prog.pure_eq_ret]
  iintro H Hk
  iapply (op_dystart X c q (r := 3) (by omega) (xE (off1_eq' c 3)) (dyE rfl) (sem_dy rfl (by omega))) $$ H
  iintro H
  iapply (op_dystart X c q (r := 4) (by omega) (xE (off1_eq' c 4)) (dyE rfl) (sem_dy rfl (by omega))) $$ H
  iintro H
  iapply (op_dystart X c q (r := 5) (by omega) (xE (off1_eq' c 5)) (dyE rfl) (sem_dy rfl (by omega))) $$ H
  iintro H
  iapply (op_dystart X c q (r := 6) (by omega) (xE (off1_eq' c 6)) (dyE rfl) (sem_dy rfl (by omega))) $$ H
  iintro H
  iapply ret_wp
  iapply Hk $$ H

set_option maxRecDepth 65536 in
/-- The start of the last, and of the first two chunks' copies. -/
theorem part5_wp (v2 : BitVec 32) {Q : (Σ' (v81 : Sems sig S_) (v82 : BitVec 32), BitVec 32) → sProp 𝕄} :
    iprop(DyS X c q 7 ∗ (wIdle c 0 0 ∗ wIdle c 0 1) ∗ (wIdle c 1 0 ∗ wIdle c 1 1) ∗ WT Y c q 0)
      ⊢ iprop((iprop(DyW X c 0 ∗ Wst Y c 0 ∗ Wst Y c 1 ∗ WT Y c q 2) -∗ Q ⟨SemArray.scalar (sig.barrier 0 rfl), Scalar.muli v2 2#32, 0#32⟩) -∗ WP c (at_ (k0_part5 (F := F)) c v2) Q) := by
  rw [k0_part5_eq_skeleton]; unfold at_ k0_part5_skel
  simp only [semSignalWord, semWaitWord, Prog.lift, Prog.bind_op, Prog.bind_ret, Prog.pure_eq_ret]
  rw [Wst_lt c Y (by omega : 0 < 16), Wst_lt c Y (by omega : 1 < 16)]
  iintro ⟨H, ⟨W0, W1⟩, ⟨W2, W3⟩, HT⟩ Hk
  ihave HW := (op_wnext c Y q (by omega : 0 < 16)) $$ [W0 W1 HT]
  · iframe # ∗
  icases HW with ⟨W0, W1, HT⟩
  ihave HW := (op_wnext c Y q (by omega : 1 < 16)) $$ [W2 W3 HT]
  · iframe # ∗
  icases HW with ⟨W2, W3, HT⟩
  iapply (op_dystart X c q (r := 7) (by omega) (xE (off1_eq' c 7)) (dyE rfl) (sem_dy rfl (by omega))) $$ H
  iintro H
  iapply (op_wstart Y c q (d := 0) (h := 0) (yE rfl) (wE ((k0_off3_eq 0).trans rfl)) (sem_w ((k0_off2_eq 0).trans rfl))) $$ W0
  iintro W0
  iapply (op_wstart Y c q (d := 0) (h := 1) (yE rfl) (wE ((k0_off5_eq 0).trans rfl)) (sem_w ((k0_off4_eq 0).trans rfl))) $$ W1
  iintro W1
  iapply (op_wstart Y c q (d := 1) (h := 0) (yE rfl) (wE ((k0_off3_eq 1).trans rfl)) (sem_w ((k0_off2_eq 1).trans rfl))) $$ W2
  iintro W2
  iapply (op_wstart Y c q (d := 1) (h := 1) (yE rfl) (wE ((k0_off5_eq 1).trans rfl)) (sem_w ((k0_off4_eq 1).trans rfl))) $$ W3
  iintro W3
  ihave H := (DyS_done X c q) $$ H
  iapply ret_wp
  iapply Hk
  iframe # ∗

/-- What a device owes at the start. -/
def Ostart (c : Dev nD) : CellTallies nD τ sig ℕ :=
  (Oax false c 0 0 + Oax (!false) c 0 0) + tallyAt (barC (peer true c)) 0 1 + tallyAt (barC (peer false c)) 0 1

set_option maxRecDepth 65536 in
/-- The barrier, and the wait for the first blocks. -/
theorem part6_wp (v5 v6 v7 v82 c0 : BitVec 32) {W : Waits sig ℕ} {Q : PUnit → sProp 𝕄} :
    iprop(Recs gen ∗ dutyTok ER (barC (peer false c)) 0 (bi false) ∗ dutyTok ER (barC (peer true c)) 0 (bi true) ∗ rel false c 4 ∗ rel true c 4
        ∗ owes (c : Thread nD τ) (Ostart c) W ∗ cred (tallyAt (barC c) 0 2) ∗ atPos ER (barC c) 0 ∅ 0 ∗ DyW X c 0)
      ⊢ iprop((iprop(atPos ER (barC c) 1 ∅ 0 ∗ relP false c 4 ∗ relP true c 4 ∗ Ow false c 0 0 0 0 ∗ DyW X c 4) -∗ Q ⟨⟩)
        -∗ WP c (at_ (k0_part6 (F := F)) c v5 v6 v7 (SemArray.scalar (sig.barrier 0 rfl)) v82 c0) Q) := by
  rw [k0_part6_eq_skeleton]; unfold at_ k0_part6_skel
  simp only [semSignalWord, semWaitWord, Prog.lift, Prog.bind_op, Prog.bind_ret, Prog.pure_eq_ret]
  unfold Ostart
  iintro ⟨#HR, t0, t1, #r0, #r1, HO, Hc, Hat, H⟩ Hk
  iapply (op_barsignal gen false c (dev1_eq c _) rfl rfl) $$ [t0 HO]
  · iframe # ∗
  iintro HO
  iapply (op_barsignal gen true c (dev2_eq c _) rfl rfl) $$ [t1 HO]
  · iframe # ∗
  iintro HO
  iapply (op_barwait gen c rfl rfl) $$ [Hc Hat HO]
  · isplitr; · iexact HR
    isplitl [Hc]; · iexact Hc
    isplitl [Hat]; · iexact Hat
    unfold Ow; iexists W; iexact HO
  iintro ⟨Hat, #p0, #p1, HO⟩
  iapply (op_dywait X c (gen := gen) (ax := false) (r := 0) (by omega) (dyE rfl) (sem_dy rfl (by omega))) $$ [H HO]
  · iframe # ∗
  iintro ⟨H, HO⟩
  iapply (op_dywait X c (gen := gen) (ax := false) (r := 1) (by omega) (dyE rfl) (sem_dy rfl (by omega))) $$ [H HO]
  · iframe # ∗
  iintro ⟨H, HO⟩
  iapply (op_dywait X c (gen := gen) (ax := false) (r := 2) (by omega) (dyE rfl) (sem_dy rfl (by omega))) $$ [H HO]
  · iframe # ∗
  iintro ⟨H, HO⟩
  iapply (op_dywait X c (gen := gen) (ax := false) (r := 3) (by omega) (dyE rfl) (sem_dy rfl (by omega))) $$ [H HO]
  · iframe # ∗
  iintro ⟨H, HO⟩
  iapply ret_wp
  iapply Hk
  iframe # ∗

end Pro

end Cert.Proof.Run
-- ==== Proof.Bufs.lean ====
module

public import proofs.«01_k».proof.Proof.Pro

@[expose] public section

noncomputable section

namespace Cert.Proof.Run

open Cert.KernelIdeal Cert.KernelIdeal.Gen
open Idealize.ShloMosaic Idealize.ShloMosaic.TcCoe Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The operands' buffers, taken apart and put together -/

/-- A buffer's parts, each at some contents. -/
theorem parts_split {ℓ : Loc nD τ sig} {q : PosShare TreeShare} {T : Type} (S : Finset T) (K : T → Finset (Idx ℓ))
    (h : ∀ t ∈ S, ∀ t' ∈ S, t ≠ t' → Disjoint (K t) (K t')) :
    iprop(∃ g : Buf (Elt F) ℓ, ℓ ↦[S.biUnion K]{q} g) ⊢ (bigSep S (fun t => iprop(∃ f : Buf (Elt F) ℓ, ℓ ↦[K t]{q} f)) : sProp 𝕄) := by
  iintro ⟨%g, H⟩
  ihave H := (Entails.of_eq (pointsTo_biUnion S K h)) $$ H
  have hm : (bigSep S fun t => iprop(ℓ ↦[K t]{q} g)) ⊢ (bigSep S (fun t => iprop(∃ f : Buf (Elt F) ℓ, ℓ ↦[K t]{q} f)) : sProp 𝕄) :=
    big_mono fun t _ => by iintro H; iexists g; iexact H
  iapply hm $$ H

/-- A family of pairs gives two families. -/
theorem big_sep {I : Type} {s : Finset I} {Φ Ψ : I → sProp 𝕄} : bigSep s (fun i => iprop(Φ i ∗ Ψ i)) ⊢ iprop(bigSep s Φ ∗ bigSep s Ψ) :=
  Entails.of_eq (bigSep_sep' _ _ _)
/-- Two families give one of pairs. -/
theorem big_unsep {I : Type} {s : Finset I} {Φ Ψ : I → sProp 𝕄} : iprop(bigSep s Φ ∗ bigSep s Ψ) ⊢ bigSep s (fun i => iprop(Φ i ∗ Ψ i)) :=
  Entails.of_eq (bigSep_sep' _ _ _).symm

/-- The elements of block `r` of the activations' buffer, and of half-chunk `t` of the weights' buffer. -/
def dyK (r : ℕ) : Finset S1024x8192.Idx := (dyR r).set
def wK (t : ℕ) : Finset S2x128x8192.Idx := (wR (t / 2) t).set

/-- A block's places, named by its number. -/
theorem dyK_eq (r : ℕ) : (dyB r).view.set = dyK r := by
  unfold dyK
  exact View.set_slice_whole _ _
/-- A half slot's places, named by its number. -/
theorem wK_eq (t : ℕ) : (wB (t / 2) t).view.set = wK t := by
  unfold wK
  simp only [Memref.view_squeeze, View.set_reshape, Memref.view_slice]
  exact View.set_slice_whole _ _

/-- The eight blocks together are all the scratch rows. -/
theorem dy_cover : (Finset.univ : Finset S1024x8192.Idx) = (Finset.Ico 0 8).biUnion dyK := by
  ext i
  simp only [Finset.mem_biUnion, Finset.mem_univ, true_iff]
  have h0 : (i 0).val < 1024 := (i 0).isLt
  have h1 : (i 1).val < 8192 := (i 1).isLt
  refine ⟨(i 0).val / 128, Finset.mem_Ico.mpr ⟨Nat.zero_le _, by omega⟩, ?_⟩
  unfold dyK
  rw [Rect.mem_set_unit]
  intro a
  fin_cases a
  · show 128 * ((i 0).val / 128 % 8) ≤ (i 0).val ∧ (i 0).val < 128 * ((i 0).val / 128 % 8) + 128; omega
  · show 0 ≤ (i 1).val ∧ (i 1).val < 0 + 8192; omega

/-- Different blocks of the scratch rows do not meet. -/
theorem dy_disj : ∀ d ∈ Finset.Ico 0 8, ∀ d' ∈ Finset.Ico 0 8, d ≠ d' → Disjoint (dyK d) (dyK d') := by
  intro d hd d' hd' h
  have h1 := (Finset.mem_Ico.mp hd).2
  have h2 := (Finset.mem_Ico.mp hd').2
  refine Rect.disjoint_of_separated _ _ (0 : Fin 2) ?_
  rcases Nat.lt_or_gt_of_ne h with h | h
  · exact .inl (.inr (by show 128 * (d % 8) + 1 * (128 - 1) < 128 * (d' % 8); omega))
  · exact .inr (.inr (by show 128 * (d' % 8) + 1 * (128 - 1) < 128 * (d % 8); omega))

/-- The four half slots together are the whole buffer. -/
theorem w_cover : (Finset.univ : Finset S2x128x8192.Idx) = (Finset.Ico 0 4).biUnion wK := by
  ext i
  simp only [Finset.mem_biUnion, Finset.mem_univ, true_iff]
  have h0 : (i 0).val < 2 := (i 0).isLt
  have h1 : (i 1).val < 128 := (i 1).isLt
  have h2 : (i 2).val < 8192 := (i 2).isLt
  refine ⟨2 * (i 0).val + (i 1).val / 64, Finset.mem_Ico.mpr ⟨Nat.zero_le _, by omega⟩, ?_⟩
  unfold wK
  rw [Rect.mem_set_unit]
  intro a
  fin_cases a
  · show (2 * (i 0).val + (i 1).val / 64) / 2 % 2 ≤ (i 0).val ∧ (i 0).val < (2 * (i 0).val + (i 1).val / 64) / 2 % 2 + 1; omega
  · show 64 * ((2 * (i 0).val + (i 1).val / 64) % 2) ≤ (i 1).val ∧ (i 1).val < 64 * ((2 * (i 0).val + (i 1).val / 64) % 2) + 64; omega
  · show 0 ≤ (i 2).val ∧ (i 2).val < 0 + 8192; omega

/-- Different half slots do not meet. -/
theorem w_disj4 : ∀ d ∈ Finset.Ico 0 4, ∀ d' ∈ Finset.Ico 0 4, d ≠ d' → Disjoint (wK d) (wK d') := by
  intro d hd d' hd' h
  have h1 := (Finset.mem_Ico.mp hd).2
  have h2 := (Finset.mem_Ico.mp hd').2
  rcases Nat.lt_trichotomy (d / 2) (d' / 2) with h3 | h3 | h3
  · exact Rect.disjoint_of_separated _ _ (0 : Fin 3) (.inl (.inr (by show d / 2 % 2 + 1 * (1 - 1) < d' / 2 % 2; omega)))
  · rcases Nat.lt_or_gt_of_ne h with h | h
    · exact Rect.disjoint_of_separated _ _ (1 : Fin 3) (.inl (.inr (by show 64 * (d % 2) + 1 * (64 - 1) < 64 * (d' % 2); omega)))
    · exact Rect.disjoint_of_separated _ _ (1 : Fin 3) (.inr (.inr (by show 64 * (d' % 2) + 1 * (64 - 1) < 64 * (d % 2); omega)))
  · exact Rect.disjoint_of_separated _ _ (0 : Fin 3) (.inr (.inr (by show d' / 2 % 2 + 1 * (1 - 1) < d / 2 % 2; omega)))

section Bufs

variable (c : Dev nD) (X : Dev nD → S2048x8192.Idx → Elt F .f32) (q : PosShare TreeShare)

/-- The semaphores of the local copies, at rest. -/
def dySems : sProp 𝕄 := bigSep (Finset.Ico 0 8) fun r => semVal ((c : Thread nD τ), .dma (dyS r)) 0
def wSems : sProp 𝕄 := bigSep (Finset.Ico 0 4) fun t => semVal ((c : Thread nD τ), .dma (wS (t / 2) t)) 0
/-- A scratch buffer at some contents. -/
def some0 (b : Ref sig .tc) : sProp 𝕄 := iprop(∃ f : Buf (Elt F) ((c : Thread nD τ).loc b), (c : Thread nD τ).loc b ↦{fullShare} f)

/-- One block of a buffer, at some contents. -/
def dyPart (r : ℕ) : sProp 𝕄 := iprop(∃ f : Buf (Elt F) (dyM.view.loc (c : Thread nD τ)), dyM.view.loc (c : Thread nD τ) ↦[dyK r]{fullShare} f)
def wPart (t : ℕ) : sProp 𝕄 := iprop(∃ f : Buf (Elt F) (wM.view.loc (c : Thread nD τ)), wM.view.loc (c : Thread nD τ) ↦[wK t]{fullShare} f)

/-- An idle block is its places and its counter at zero. -/
theorem dyIdle_part (r : ℕ) : (dyIdle (F := F) c r : sProp 𝕄) = iprop(dyPart c r ∗ semVal ((c : Thread nD τ), .dma (dyS r)) 0) := by
  unfold dyIdle dyPart
  rw [dyK_eq]
/-- An idle half slot is its places and its counter at zero. -/
theorem wIdle_part (t : ℕ) : (wIdle (F := F) c (t / 2) t : sProp 𝕄) = iprop(wPart c t ∗ semVal ((c : Thread nD τ), .dma (wS (t / 2) t)) 0) := by
  unfold wIdle wPart
  rw [wK_eq]

/-- The scratch rows at some contents are eight blocks at some contents. -/
theorem dy_parts : (some0 (F := F) c cc0_scratch0 : sProp 𝕄) ⊢ bigSep (Finset.Ico 0 8) (dyPart c) := by
  have h := parts_split (F := F) (ℓ := dyM.view.loc (c : Thread nD τ)) (q := fullShare) (Finset.Ico 0 8) dyK dy_disj
  have e := dy_cover
  unfold some0 dyPart
  refine BIBase.Entails.trans ?_ h
  iintro ⟨%f, H⟩
  iexists f
  rw [← e]
  iexact H

/-- The chunks' buffer at some contents is four half slots at some contents. -/
theorem w_parts : (some0 (F := F) c cc0_scratch1 : sProp 𝕄) ⊢ bigSep (Finset.Ico 0 4) (wPart c) := by
  have h := parts_split (F := F) (ℓ := wM.view.loc (c : Thread nD τ)) (q := fullShare) (Finset.Ico 0 4) wK w_disj4
  have e := w_cover
  unfold some0 wPart
  refine BIBase.Entails.trans ?_ h
  iintro ⟨%f, H⟩
  iexists f
  rw [← e]
  iexact H

/-- Four half slots at some contents are the chunks' buffer at some contents. -/
theorem w_unparts : (bigSep (Finset.Ico 0 4) (wPart c) : sProp 𝕄) ⊢ some0 (F := F) c cc0_scratch1 := by
  have h := parts_join (F := F) (ℓ := wM.view.loc (c : Thread nD τ)) (q := fullShare) default (Finset.Ico 0 4) wK w_disj4
  have e := w_cover
  unfold some0 wPart
  refine BIBase.Entails.trans h ?_
  iintro ⟨%f, H⟩
  iexists f
  rw [← e]
  iexact H

/-- With the counters and the argument's parts the eight copies can start. -/
theorem dy_open : iprop(some0 c cc0_scratch0 ∗ dySems c ∗ bigSep (Finset.Ico 0 8) (xTok X c q)) ⊢ (DyS X c q 0 : sProp 𝕄) := by
  have h2 : iprop(bigSep (Finset.Ico 0 8) (dyPart c) ∗ dySems c) ⊢ (bigSep (Finset.Ico 0 8) (dyIdle c) : sProp 𝕄) := by
    unfold dySems
    rw [bigSep_congr fun r _ => dyIdle_part c r]
    exact big_unsep
  have h3 : iprop(bigSep (Finset.Ico 0 8) (dyIdle c) ∗ bigSep (Finset.Ico 0 8) (xTok X c q)) ⊢ (bigSep (Finset.Ico 0 8) (fun r => iprop(dyIdle c r ∗ xTok X c q r)) : sProp 𝕄) := big_unsep
  unfold DyS
  iintro ⟨H, Hs, Ht⟩
  isplitr
  · rw [Finset.Ico_self, bigSep_empty]; iempintro
  iapply h3
  isplitl [H Hs]
  · iapply h2
    isplitl [H]
    · iapply (dy_parts c) $$ H
    · iexact Hs
  iexact Ht

/-- When all eight are waited for the rows are in and the counters at zero. -/
theorem dy_close : (DyW X c 8 : sProp 𝕄) ⊢ iprop(dyAll X c ∗ dySems c) := by
  have h2 : (bigSep (Finset.Ico 0 8) (dyDone X c) : sProp 𝕄) ⊢ iprop(bigSep (Finset.Ico 0 8) (dyPt X c) ∗ dySems c) := by unfold dySems dyDone; exact big_sep
  have hp : ∀ r, (dyPt X c r : sProp 𝕄) = iprop(dyM.view.loc (c : Thread nD τ) ↦[dyK r]{fullShare} xh X c) := fun r => by
    unfold dyPt
    rw [dyK_eq]
  have h : (bigSep (Finset.Ico 0 8) (dyPt X c) : sProp 𝕄) ⊢ dyAll X c := by
    rw [bigSep_congr fun r _ => hp r]
    have e := dy_cover
    unfold dyAll
    refine BIBase.Entails.trans (Entails.of_eq (pointsTo_biUnion (ℓ := dyM.view.loc (c : Thread nD τ)) (q := fullShare) (f := xh X c) (Finset.Ico 0 8) dyK dy_disj).symm) ?_
    rw [← e]
  unfold DyW
  iintro ⟨H, -⟩
  ihave H := h2 $$ H
  icases H with ⟨H, Hs⟩
  isplitl [H]
  · iapply h $$ H
  · iexact Hs

/-- The rows, let go of, are at some contents. -/
theorem dy_some : (dyAll X c : sProp 𝕄) ⊢ some0 c cc0_scratch0 := by
  unfold dyAll some0
  iintro H
  iexists _
  iexact H

/-- The chunks' buffer and counters are four idle half slots. -/
theorem w_open : iprop(some0 c cc0_scratch1 ∗ wSems c) ⊢ (iprop((wIdle c 0 0 ∗ wIdle c 0 1) ∗ (wIdle c 1 0 ∗ wIdle c 1 1)) : sProp 𝕄) := by
  have h2 : iprop(bigSep (Finset.Ico 0 4) (wPart c) ∗ wSems c) ⊢ (bigSep (Finset.Ico 0 4) (fun t => wIdle c (t / 2) t) : sProp 𝕄) := by
    unfold wSems
    rw [bigSep_congr fun t _ => wIdle_part c t]
    exact big_unsep
  iintro ⟨H, Hs⟩
  ihave H := (w_parts c) $$ H
  ihave H := h2 $$ [H Hs]
  · isplitl [H] <;> iassumption
  ihave H := (ico_take (by omega : 0 < 4) _) $$ H
  icases H with ⟨H0, H⟩
  ihave H := (ico_take (by omega : 1 < 4) _) $$ H
  icases H with ⟨H1, H⟩
  ihave H := (ico_take (by omega : 2 < 4) _) $$ H
  icases H with ⟨H2, H⟩
  ihave H := (ico_take (by omega : 3 < 4) _) $$ H
  icases H with ⟨H3, -⟩
  isplitl [H0 H1]
  · isplitl [H0]
    · iexact H0
    · iexact H1
  · isplitl [H2]
    · iexact H2
    · iexact H3

/-- Four idle half slots are the chunks' buffer and its counters. -/
theorem w_close : iprop((wIdle c 0 0 ∗ wIdle c 0 1) ∗ (wIdle c 1 0 ∗ wIdle c 1 1)) ⊢ (iprop(some0 c cc0_scratch1 ∗ wSems c) : sProp 𝕄) := by
  have h2 : (bigSep (Finset.Ico 0 4) (fun t => wIdle c (t / 2) t) : sProp 𝕄) ⊢ iprop(bigSep (Finset.Ico 0 4) (wPart c) ∗ wSems c) := by
    unfold wSems
    rw [bigSep_congr fun t _ => wIdle_part c t]
    exact big_sep
  iintro ⟨⟨H0, H1⟩, H2, H3⟩
  ihave H := h2 $$ [H0 H1 H2 H3]
  · iapply (ico_put (by omega : 0 ≤ 3) (fun t => wIdle c (t / 2) t))
    isplitl [H3]
    · iexact H3
    iapply (ico_put (by omega : 0 ≤ 2) (fun t => wIdle c (t / 2) t))
    isplitl [H2]
    · iexact H2
    iapply (ico_put (by omega : 0 ≤ 1) (fun t => wIdle c (t / 2) t))
    isplitl [H1]
    · iexact H1
    iapply (ico_put (by omega : 0 ≤ 0) (fun t => wIdle c (t / 2) t))
    isplitl [H0]
    · iexact H0
    rw [Finset.Ico_self, bigSep_empty]; iempintro
  icases H with ⟨H, Hs⟩
  isplitl [H]
  · iapply (w_unparts c) $$ H
  · iexact Hs

/-- A ring of slots, as a scratch buffer. -/
theorem ring_open (b : Ref sig .tc) (m : Memref sig .tc .vmem S4x1024x128 .bf16) (h : some0 (F := F) c b = iprop(∃ f : Buf (Elt F) (m.view.loc (c : Thread nD τ)), m.view.loc (c : Thread nD τ) ↦[m.view.set]{fullShare} f)) :
    (some0 c b : sProp 𝕄) ⊢ fr c m 0 4 := by rw [h]; exact slots_open m c
/-- A ring's four slots are its buffer at some contents. -/
theorem ring_close (b : Ref sig .tc) (m : Memref sig .tc .vmem S4x1024x128 .bf16) (h : some0 (F := F) c b = iprop(∃ f : Buf (Elt F) (m.view.loc (c : Thread nD τ)), m.view.loc (c : Thread nD τ) ↦[m.view.set]{fullShare} f)) :
    (fr c m 0 4 : sProp 𝕄) ⊢ some0 c b := by rw [h]; exact slots_close m c
/-- This scratch buffer as a ring. -/
theorem ring2 : some0 (F := F) c cc0_scratch2 = iprop(∃ f : Buf (Elt F) ((srcM false).view.loc (c : Thread nD τ)), (srcM false).view.loc (c : Thread nD τ) ↦[(srcM false).view.set]{fullShare} f) := by
  unfold some0; rw [View.set_whole]
/-- This scratch buffer as a ring. -/
theorem ring3 : some0 (F := F) c cc0_scratch3 = iprop(∃ f : Buf (Elt F) ((dstM false).view.loc (c : Thread nD τ)), (dstM false).view.loc (c : Thread nD τ) ↦[(dstM false).view.set]{fullShare} f) := by
  unfold some0; rw [View.set_whole]
/-- This scratch buffer as a ring. -/
theorem ring4 : some0 (F := F) c cc0_scratch4 = iprop(∃ f : Buf (Elt F) ((srcM true).view.loc (c : Thread nD τ)), (srcM true).view.loc (c : Thread nD τ) ↦[(srcM true).view.set]{fullShare} f) := by
  unfold some0; rw [View.set_whole]
/-- This scratch buffer as a ring. -/
theorem ring5 : some0 (F := F) c cc0_scratch5 = iprop(∃ f : Buf (Elt F) ((dstM true).view.loc (c : Thread nD τ)), (dstM true).view.loc (c : Thread nD τ) ↦[(dstM true).view.set]{fullShare} f) := by
  unfold some0; rw [View.set_whole]
/-- The free slots of four chunks on are the same slots. -/
theorem fr_shift (m : Memref sig .tc .vmem S4x1024x128 .bf16) (a e : ℕ) : (fr c m (a + 4) (e + 4) : sProp 𝕄) = fr c m a e := slots_shift m c a e

end Bufs

end Cert.Proof.Run
-- ==== Proof.Epi.lean ====
module

public import proofs.«01_k».proof.Proof.Bufs

@[expose] public section

noncomputable section

namespace Cert.Proof.Run

open Cert.KernelIdeal Cert.KernelIdeal.Gen
open Idealize.ShloMosaic Idealize.ShloMosaic.TcCoe Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The rest of the body -/

section Epi

variable (gen : Bool → Dev nD → ℕ → (S1x1024x128.Idx → Elt F .bf16)) (c : Dev nD)
variable (X Y : Dev nD → S2048x8192.Idx → Elt F .f32) (q : PosShare TreeShare)

/-- A program that returns may update before it does. -/
theorem ret_fwp {α : Type _} {a : α} {Q : α → sProp 𝕄} : (|={Set.univ}=> Q a) ⊢ WP c (.ret a) Q := by
  show _ ⊢ wp _ _ _ (Prog.ret a) Q
  rw [wp_ret]

/-- Nothing is owed of chunks past the last. -/
theorem Oax_past (ax : Bool) {a u b v : ℕ} (ha : a = b ∨ 16 ≤ a ∧ 16 ≤ b) (hu : u = v ∨ 12 ≤ u ∧ 12 ≤ v) : Oax ax c a u = Oax ax c b v := by
  unfold Oax
  have e1 : Finset.Ico a 16 = Finset.Ico b 16 := by
    rcases ha with rfl | ⟨h, h'⟩
    · rfl
    · rw [Finset.Ico_eq_empty (by omega), Finset.Ico_eq_empty (by omega)]
  have e2 : Finset.Ico u 12 = Finset.Ico v 12 := by
    rcases hu with rfl | ⟨h, h'⟩
    · rfl
    · rw [Finset.Ico_eq_empty (by omega), Finset.Ico_eq_empty (by omega)]
  rw [e1, e2]

/-- What is owed past the last chunk and the last credit is nothing, however far past. -/
theorem Ow_past (ax : Bool) {a u a' u' b v b' v' : ℕ} (ha : a = b ∨ 16 ≤ a ∧ 16 ≤ b) (hu : u = v ∨ 12 ≤ u ∧ 12 ≤ v) (ha' : a' = b' ∨ 16 ≤ a' ∧ 16 ≤ b')
    (hu' : u' = v' ∨ 12 ≤ u' ∧ 12 ≤ v') : Ow (F := F) ax c a u a' u' ⊢ Ow ax c b v b' v' := by
  unfold Ow
  rw [Oax_past c ax ha hu, Oax_past c (!ax) ha' hu']

/-- The state after the loop over the chunks. -/
def End7 : sProp 𝕄 :=
  iprop(dyAll X c ∗ Wst Y c 16 ∗ Wst Y c 17
    ∗ Tx false c 16 ∗ Sn false c 14 16 ∗ Rc false c 14 ∗ Cr false c 12 ∗ Cw false c 12
    ∗ Tx true c 14 ∗ Sn true c 12 14 ∗ Rc true c 12 ∗ Cr true c 12 ∗ Cw true c 10
    ∗ Ow false c 16 20 14 20
    ∗ fr c (srcM false) 16 18 ∗ fr c (srcM true) 14 16 ∗ fr c (dstM false) 12 14 ∗ Out gen c 14 12)

/-- The loop's invariant after its last trip. -/
theorem Inv_end : (Inv gen c X Y q 16 : sProp 𝕄) ⊢ End7 gen c X Y := by
  unfold Inv End7
  iintro ⟨-, Hdy, W0, W1, -, yT, yS, yR, yC, yW, xT, xS, xR, xC, xW, HO, fy, fx, gy, Ho⟩
  ihave HO := (Ow_past c false (b := 16) (v := 20) (b' := 14) (v' := 20) (.inl rfl) (.inr ⟨by decide, by decide⟩) (.inl rfl) (.inr ⟨by decide, by decide⟩)) $$ HO
  isplitl [Hdy]; · iexact Hdy
  isplitl [W0]; · iexact W0
  isplitl [W1]; · iexact W1
  isplitl [yT]; · iexact yT
  isplitl [yS]; · iexact yS
  isplitl [yR]; · iexact yR
  isplitl [yC]; · iexact yC
  isplitl [yW]; · iexact yW
  isplitl [xT]; · iexact xT
  isplitl [xS]; · iexact xS
  isplitl [xR]; · iexact xR
  isplitl [xC]; · iexact xC
  isplitl [xW]; · iexact xW
  isplitl [HO]; · iexact HO
  isplitl [fy]; · iexact fy
  isplitl [fx]; · iexact fx
  isplitl [gy]; · iexact gy
  iexact Ho

set_option maxRecDepth 65536 in
/-- The wait for the last blocks and the loop. -/
theorem part7_wp (hgy : ∀ d, k0_pay4 (k0_pay3 (xh X c) (wv Y c d)) = gen false c d)
    (hgx : ∀ d, k0_pay2 (gen false c d) (gen false (peer false c) d) = gen true c d) (v2 v5 v6 v7 v8 v10 : BitVec 32)
    {Q : (Σ' (v123 : BitVec 32) (v131 : BitVec 32), BitVec 32) → sProp 𝕄} :
    iprop(Recs gen ∗ DyW X c 4 ∗ Ow false c 0 0 0 0 ∗ (iprop(dyAll X c ∗ Ow false c 0 0 0 0) -∗ Inv gen c X Y q 0))
      ⊢ iprop((iprop(dySems c ∗ dyAll X c ∗ Wst Y c 16 ∗ Wst Y c 17
          ∗ Tx false c 16 ∗ Sn false c 15 16 ∗ sl (srcM false) c 14 (gen false c 14) ∗ Rc false c 14 ∗ Cr false c 12 ∗ Cw false c 12
          ∗ Tx true c 14 ∗ Sn true c 12 14 ∗ Rc true c 12 ∗ Cr true c 12 ∗ Cw true c 10
          ∗ Ow false c 16 20 14 20
          ∗ fr c (srcM false) 16 18 ∗ fr c (srcM true) 14 16 ∗ fr c (dstM false) 12 14 ∗ Out gen c 14 12)
          -∗ Q ⟨Scalar.remsi 14#32 4#32, Scalar.muli v2 2#32, 0#32⟩) -∗ WP c (at_ (k0_part7 (F := F)) c v2 v5 v6 v7 v8 v10) Q) := by
  rw [k0_part7_eq_skeleton]; unfold at_ k0_part7_skel
  simp only [semSignalWord, semWaitWord, Prog.lift, Prog.bind_op, Prog.bind_ret, Prog.pure_eq_ret]
  iintro ⟨#HR, H, HO, HI⟩ Hk
  iapply (op_dywait X c (gen := gen) (ax := false) (r := 4) (by omega) (dyE rfl) (sem_dy rfl (by omega))) $$ [H HO]
  · iframe # ∗
  iintro ⟨H, HO⟩
  iapply (op_dywait X c (gen := gen) (ax := false) (r := 5) (by omega) (dyE rfl) (sem_dy rfl (by omega))) $$ [H HO]
  · iframe # ∗
  iintro ⟨H, HO⟩
  iapply (op_dywait X c (gen := gen) (ax := false) (r := 6) (by omega) (dyE rfl) (sem_dy rfl (by omega))) $$ [H HO]
  · iframe # ∗
  iintro ⟨H, HO⟩
  iapply (op_dywait X c (gen := gen) (ax := false) (r := 7) (by omega) (dyE rfl) (sem_dy rfl (by omega))) $$ [H HO]
  · iframe # ∗
  iintro ⟨H, HO⟩
  ihave H := (dy_close c X) $$ H
  icases H with ⟨Hdy, Hs⟩
  ihave HI := HI $$ [Hdy HO]
  · iframe # ∗
  iapply (Scf.wp_for_bind frame (wpE (defs₀ (F := F)) 𝒱₀ (c : Thread nD τ) none) Set.univ k0_t1_loop.lb k0_t1_loop.ub k0_t1_loop.st k0_t1_ok () _
    (fun t _ => Inv gen c X Y q t) (fun t _ => trip_wp gen c X Y q hgy hgx v2 v5 v6 v7 v8 v10 t)) $$ HI
  iintro %u HI
  ihave HI := (Entails.of_eq (congrArg (Inv gen c X Y q) trips1)) $$ HI
  ihave HI := (Inv_end gen c X Y q) $$ HI
  unfold End7
  icases HI with ⟨Hdy, W0, W1, yT, yS, yR, yC, yW, xT, xS, xR, xC, xW, HO, fy, fx, gy, Ho⟩
  iapply (op_waitsend gen false c (e := 14) (a := 16) (by omega) (by omega) (by exact rfl) (sem_send false rfl (by omega))) $$ [yS HO]
  · iframe # ∗
  iintro ⟨yS, hs, HO⟩
  iapply ret_wp
  iapply Hk
  iframe # ∗

set_option maxRecDepth 65536 in
/-- The sums of chunk 14. -/
theorem part8_wp (hgx : ∀ d, k0_pay2 (gen false c d) (gen false (peer false c) d) = gen true c d) (v5 v6 v7 v8 v123 v131 c0 : BitVec 32) {Q : PUnit → sProp 𝕄} :
    iprop(Recs gen ∗ sl (srcM false) c 14 (gen false c 14) ∗ Rc false c 14 ∗ Cw true c 10 ∗ Ow false c 16 20 14 20
        ∗ fr c (srcM false) 16 18 ∗ fr c (srcM true) 14 16 ∗ fr c (dstM false) 12 14 ∗ Out gen c 14 12)
      ⊢ iprop((iprop(sl (srcM true) c 14 (gen true c 14) ∗ Rc false c 15 ∗ Cw true c 11 ∗ Ow true c 14 20 16 20
          ∗ fr c (srcM false) 16 19 ∗ fr c (srcM true) 15 16 ∗ fr c (dstM false) 12 15 ∗ Out gen c 15 12) -∗ Q ⟨⟩)
        -∗ WP c (at_ (k0_part8 (F := F)) c v5 v6 v7 v8 v123 v131 c0) Q) := by
  rw [k0_part8_eq_skeleton]; unfold at_ k0_part8_skel
  simp only [semSignalWord, semWaitWord, Prog.lift, Prog.bind_op, Prog.bind_ret, Prog.pure_eq_ret]
  iintro ⟨#HR, hs, yR, xW, HO, fy, fx, gy, Ho⟩ Hk
  iapply (op_waitrecv gen false c (a := 16) (u := 20) (a' := 14) (u' := 20) (b := 14) (by omega) (by unfold Late; simp only [Bool.false_eq_true, if_false]; omega) (by exact rfl)
    (sem_recv false rfl (by omega))) $$ [yR HO]
  · iframe # ∗
  iintro ⟨yR, hr, HO⟩
  ihave fx := (fr_take c (srcM true) (by omega : 14 < 16)) $$ fx
  icases fx with ⟨hx, fx⟩
  have eo : k0_off31 14#32 = ![14 % 4, 0, 0] := k0_off31_eq 2
  have hoo : k0_off32 c = ![1024 * (c.val / 2 % 2), 128 * (14 % 16)] := (k0_off32_eq c).trans (by
    have hc := c.isLt
    simp only [nD] at hc
    rw [Nat.mod_eq_of_lt (by omega : c.val / 2 < 2)])
  iapply (op_loadslot c eo) $$ hs
  iintro hs
  iapply (op_loadslot c eo) $$ hr
  iintro hr
  unfold slx
  icases hx with ⟨%vx, hx⟩
  iapply (op_loadslot c eo) $$ hx
  iintro hx
  iapply (op_storeslot c eo) $$ hx
  iintro hx
  ihave hx := (Entails.of_eq (congrArg (sl (srcM true) c 14) ((show k0_pay7 (gen false c 14) (gen false (peer false c) 14) = k0_pay2 (gen false c 14) (gen false (peer false c) 14) from rfl).trans (hgx 14)))) $$ hx
  iapply (op_loadslot c eo) $$ hx
  iintro hx
  iapply (op_outload gen c) $$ Ho
  iintro Ho
  iapply (op_outstore gen c (a' := 15) (b' := 12) hoo (fun f hf => Good_own gen c (by omega) (by omega) hf rfl)) $$ Ho
  iintro Ho
  ihave HO := (Ow_yx c) $$ HO
  iapply (op_waitcred gen true c (s := 10) (a := 14) (u := 20) (a' := 16) (u' := 20) (by omega) (by unfold Late; simp only [if_true]; omega) rfl rfl) $$ [xW HO]
  · iframe # ∗
  iintro ⟨xW, HO⟩
  ihave gy := (fr_put c (dstM false) (by omega : 12 ≤ 14)) $$ [hr gy]
  · iframe # ∗
  ihave fy := (fr_put4 c (srcM false) (by omega : 16 ≤ 14 + 4)) $$ [hs fy]
  · isplitl [hs] <;> iassumption
  iapply ret_wp
  iapply Hk
  isplitl [hx]; · iexact hx
  isplitl [yR]; · iexact yR
  isplitl [xW]; · iexact xW
  isplitl [HO]; · iexact HO
  isplitl [fy]; · iexact fy
  isplitl [fx]; · iexact fx
  isplitl [gy]; · iexact gy
  iexact Ho

set_option maxRecDepth 65536 in
/-- Their sending along `x`, and chunk 15 received along `y`. -/
theorem part9_wp (v2 v6 : BitVec 32) {Q : (Σ' (v171 : BitVec 32) (v191 : FVec F S1024x128 .bf16), Vec F S1x1024x128 .bf16) → sProp 𝕄} :
    iprop(Recs gen ∗ Tx true c 14 ∗ Sn true c 12 14 ∗ Cw true c 11 ∗ sl (srcM true) c 14 (gen true c 14) ∗ Ow true c 14 20 16 20 ∗ Sn false c 15 16 ∗ Rc false c 15)
      ⊢ iprop((iprop(Tx true c 15 ∗ Sn true c 12 15 ∗ Cw true c 11 ∗ Ow false c 16 20 15 20 ∗ Sn false c 16 16 ∗ Rc false c 16
          ∗ sl (srcM false) c 15 (gen false c 15) ∗ sl (dstM false) c 15 (gen false (peer false c) 15)) -∗ Q ⟨Scalar.remsi 15#32 4#32, k0_pay9 (gen false c 15), gen false (peer false c) 15⟩)
        -∗ WP c (at_ (k0_part9 (F := F)) c v2 v6) Q) := by
  rw [k0_part9_eq_skeleton]; unfold at_ k0_part9_skel
  simp only [semSignalWord, semWaitWord, Prog.lift, Prog.bind_op, Prog.bind_ret, Prog.pure_eq_ret]
  iintro ⟨#HR, xT, xS, xW, hx, HO, yS, yR⟩ Hk
  have eo4 : k0_off30 14#32 = ![14 % 4, 0, 0] := k0_off30_eq 2
  have eo : k0_off31 15#32 = ![15 % 4, 0, 0] := k0_off31_eq 3
  iapply (op_send gen true c (a := 14) (e := 12) (s := 11) (by omega) (by omega) (by omega) (dev7_eq c _)
    (slotE (srcM true) eo4) (slotE (dstM true) eo4) (sem_send true rfl (by omega)) (sem_recv true rfl (by omega))) $$ [xT xS xW hx HO]
  · iframe # ∗
  iintro ⟨xT, xS, xW, HO⟩
  ihave HO := (Ow_xy c) $$ HO
  iapply (op_waitsend gen false c (e := 15) (a := 16) (by omega) (by omega) (by exact rfl) (sem_send false rfl (by omega))) $$ [yS HO]
  · iframe # ∗
  iintro ⟨yS, hs, HO⟩
  iapply (op_waitrecv gen false c (a := 16) (u := 20) (a' := 15) (u' := 20) (b := 15) (by omega) (by unfold Late; simp only [Bool.false_eq_true, if_false]; omega) (by exact rfl)
    (sem_recv false rfl (by omega))) $$ [yR HO]
  · isplitr; · iexact HR
    isplitl [yR]; · iexact yR
    iexact HO
  iintro ⟨yR, hr, HO⟩
  iapply (op_loadslot c eo) $$ hs
  iintro hs
  iapply (op_loadslot c eo) $$ hr
  iintro hr
  iapply ret_wp
  iapply Hk
  isplitl [xT]; · iexact xT
  isplitl [xS]; · iexact xS
  isplitl [xW]; · iexact xW
  isplitl [HO]; · iexact HO
  isplitl [yS]; · iexact yS
  isplitl [yR]; · iexact yR
  isplitl [hs]; · iexact hs
  iexact hr

set_option maxRecDepth 65536 in
/-- The sums of chunk 15 and their sending. -/
theorem part10_wp (hgx : ∀ d, k0_pay2 (gen false c d) (gen false (peer false c) d) = gen true c d) (v5 v7 v8 v171 : BitVec 32)
    {Q : (Σ' (v219 : BitVec 32) (v222 : BitVec 32), BitVec 32) → sProp 𝕄} :
    iprop(Recs gen ∗ fr c (srcM true) 15 16 ∗ Out gen c 15 12 ∗ Cw true c 11 ∗ Ow false c 16 20 15 20 ∗ Tx true c 15 ∗ Sn true c 12 15)
      ⊢ iprop((iprop(Out gen c 16 12 ∗ Cw true c 12 ∗ Ow true c 16 20 20 20 ∗ Tx true c 16 ∗ Sn true c 12 16)
          -∗ Q ⟨Scalar.remsi 12#32 4#32, Scalar.addi 0#32 (Scalar.muli v7 2#32), 1#32⟩)
        -∗ WP c (at_ (k0_part10 (F := F)) c v5 v7 v8 v171 (k0_pay9 (gen false c 15)) (gen false (peer false c) 15)) Q) := by
  rw [k0_part10_eq_skeleton]; unfold at_ k0_part10_skel
  simp only [semSignalWord, semWaitWord, Prog.lift, Prog.bind_op, Prog.bind_ret, Prog.pure_eq_ret]
  iintro ⟨#HR, fx, Ho, xW, HO, xT, xS⟩ Hk
  have eo : k0_off31 15#32 = ![15 % 4, 0, 0] := k0_off31_eq 3
  have eo5 : k0_off30 15#32 = ![15 % 4, 0, 0] := k0_off30_eq 3
  have hoo : k0_off33 c = ![1024 * (c.val / 2 % 2), 128 * (15 % 16)] := (k0_off33_eq c).trans (by
    have hc := c.isLt
    simp only [nD] at hc
    rw [Nat.mod_eq_of_lt (by omega : c.val / 2 < 2)])
  ihave fx := (fr_take c (srcM true) (by omega : 15 < 16)) $$ fx
  icases fx with ⟨hx, -⟩
  unfold slx
  icases hx with ⟨%vx, hx⟩
  iapply (op_loadslot c eo) $$ hx
  iintro hx
  iapply (op_storeslot c eo) $$ hx
  iintro hx
  ihave hx := (Entails.of_eq (congrArg (sl (srcM true) c 15) ((show k0_pay10 (k0_pay9 (gen false c 15)) (gen false (peer false c) 15) = k0_pay2 (gen false c 15) (gen false (peer false c) 15) from rfl).trans (hgx 15)))) $$ hx
  iapply (op_loadslot c eo) $$ hx
  iintro hx
  iapply (op_outload gen c) $$ Ho
  iintro Ho
  iapply (op_outstore gen c (a' := 16) (b' := 12) hoo (fun f hf => Good_own gen c (by omega) (by omega) hf rfl)) $$ Ho
  iintro Ho
  ihave HO := (Ow_yx c) $$ HO
  iapply (op_waitcred gen true c (s := 11) (a := 15) (u := 20) (a' := 16) (u' := 20) (by omega) (by unfold Late; simp only [if_true]; omega) rfl rfl) $$ [xW HO]
  · iframe # ∗
  iintro ⟨xW, HO⟩
  iapply (op_send gen true c (a := 15) (e := 12) (s := 12) (by omega) (by omega) (by omega) (dev8_eq c _)
    (slotE (srcM true) eo5) (slotE (dstM true) eo5) (sem_send true rfl (by omega)) (sem_recv true rfl (by omega))) $$ [xT xS xW hx HO]
  · iframe # ∗
  iintro ⟨xT, xS, xW, HO⟩
  ihave HO := (Ow_past c true (b := 16) (v := 20) (b' := 20) (v' := 20) (.inl rfl) (.inl rfl) (.inr ⟨by decide, by decide⟩) (.inl rfl)) $$ HO
  iapply ret_wp
  iapply Hk
  isplitl [Ho]; · iexact Ho
  isplitl [xW]; · iexact xW
  isplitl [HO]; · iexact HO
  isplitl [xT]; · iexact xT
  iexact xS

set_option maxRecDepth 65536 in
/-- Chunks 12 and 13 received along `x`. -/
theorem part11_wp (v5 v7 v10 v219 v222 c1 : BitVec 32) {Q : BitVec 32 → sProp 𝕄} :
    iprop(Recs gen ∗ Rc true c 12 ∗ Out gen c 16 12 ∗ Ow true c 16 20 20 20 ∗ fr c (dstM true) 12 12)
      ⊢ iprop((iprop(Rc true c 14 ∗ Out gen c 16 14 ∗ Ow true c 16 20 20 20 ∗ fr c (dstM true) 12 14) -∗ Q 14#32)
        -∗ WP c (at_ (k0_part11 (F := F)) c v5 v7 v10 v219 v222 c1) Q) := by
  rw [k0_part11_eq_skeleton]; unfold at_ k0_part11_skel
  simp only [semSignalWord, semWaitWord, Prog.lift, Prog.bind_op, Prog.bind_ret, Prog.pure_eq_ret]
  iintro ⟨#HR, xR, Ho, HO, gx⟩ Hk
  iapply (op_waitrecv gen true c (a := 16) (u := 20) (a' := 20) (u' := 20) (b := 12) (by omega) (by unfold Late; simp only [if_true]; omega) (by exact rfl)
    (sem_recv true rfl (by omega))) $$ [xR HO]
  · iframe # ∗
  iintro ⟨xR, hr, HO⟩
  iapply (blk_oth gen c (d := 12) (a := 16) rfl rfl (by omega) (by omega) (k0_off31_eq 0) (off34_eq' c) (p := k0_pay12) rfl) $$ [hr Ho]
  · isplitl [hr]; · iexact hr
    iexact Ho
  iintro ⟨hr, Ho⟩
  ihave gx := (fr_put c (dstM true) (by omega : 12 ≤ 12)) $$ [hr gx]
  · iframe # ∗
  iapply (op_waitrecv gen true c (a := 16) (u := 20) (a' := 20) (u' := 20) (b := 13) (by omega) (by unfold Late; simp only [if_true]; omega) (by exact rfl)
    (sem_recv true rfl (by omega))) $$ [xR HO]
  · isplitr; · iexact HR
    isplitl [xR]; · iexact xR
    iexact HO
  iintro ⟨xR, hr, HO⟩
  iapply (blk_oth gen c (d := 13) (a := 16) rfl rfl (by omega) (by omega) (k0_off31_eq 1) (off35_eq' c) (p := k0_pay13) rfl) $$ [hr Ho]
  · isplitl [hr]; · iexact hr
    iexact Ho
  iintro ⟨hr, Ho⟩
  ihave gx := (fr_put c (dstM true) (by omega : 12 ≤ 13)) $$ [hr gx]
  · isplitl [hr]; · iexact hr
    iexact gx
  iapply ret_wp
  iapply Hk
  isplitl [xR]; · iexact xR
  isplitl [Ho]; · iexact Ho
  isplitl [HO]; · iexact HO
  iexact gx

set_option maxRecDepth 65536 in
/-- Chunk 14 received along `x`. -/
theorem part12_wp (v5 v7 v10 c14 : BitVec 32) {Q : BitVec 32 → sProp 𝕄} :
    iprop(Recs gen ∗ Rc true c 14 ∗ Out gen c 16 14 ∗ Ow true c 16 20 20 20 ∗ fr c (dstM true) 12 14)
      ⊢ iprop((iprop(Rc true c 15 ∗ Out gen c 16 15 ∗ Ow true c 16 20 20 20 ∗ fr c (dstM true) 12 15) -∗ Q (Scalar.remsi 15#32 4#32))
        -∗ WP c (at_ (k0_part12 (F := F)) c v5 v7 v10 c14) Q) := by
  rw [k0_part12_eq_skeleton]; unfold at_ k0_part12_skel
  simp only [semSignalWord, semWaitWord, Prog.lift, Prog.bind_op, Prog.bind_ret, Prog.pure_eq_ret]
  iintro ⟨#HR, xR, Ho, HO, gx⟩ Hk
  iapply (op_waitrecv gen true c (a := 16) (u := 20) (a' := 20) (u' := 20) (b := 14) (by omega) (by unfold Late; simp only [if_true]; omega) (by exact rfl)
    (sem_recv true rfl (by omega))) $$ [xR HO]
  · iframe # ∗
  iintro ⟨xR, hr, HO⟩
  iapply (blk_oth gen c (d := 14) (a := 16) rfl rfl (by omega) (by omega) (k0_off31_eq 2) (off36_eq' c) (p := k0_pay14) rfl) $$ [hr Ho]
  · isplitl [hr]; · iexact hr
    iexact Ho
  iintro ⟨hr, Ho⟩
  ihave gx := (fr_put c (dstM true) (by omega : 12 ≤ 14)) $$ [hr gx]
  · iframe # ∗
  iapply ret_wp
  iapply Hk
  isplitl [xR]; · iexact xR
  isplitl [Ho]; · iexact Ho
  isplitl [HO]; · iexact HO
  iexact gx

abbrev T2 : Type := Fin k0_t2_loop.trips
/-- The second loop has four trips. -/
theorem trips2 : k0_t2_loop.trips = 4 := by decide +kernel
/-- A trip of the second loop is below four. -/
theorem T2_lt (t : T2) : t.val < 4 := trips2 ▸ t.isLt

/-- The state of the loop that frees the last sends' slots. -/
def InvT (t : ℕ) : sProp 𝕄 := iprop(Recs gen ∗ Sn true c (12 + t) 16 ∗ fr c (srcM true) 16 (12 + t + 4) ∗ Ow true c 16 20 20 20)

/-- A trip of the second loop waits for one of the last four sendings along `x`. -/
theorem trip2_wp (t : T2) : InvT gen c t.val ⊢ WP c (at_ (k0_t2_body (F := F)) t ()) (fun _ => InvT gen c (t.val + 1)) := by
  have ht := T2_lt t
  unfold at_ k0_t2_body InvT
  simp only [semSignalWord, semWaitWord, Prog.lift, Prog.bind_op, Prog.bind_ret, Prog.pure_eq_ret]
  have hsm := sem_send true ((k0_off38_eq t).trans (by rw [Nat.add_comm t.val 12])) (by omega : 12 + t.val < 16) (inb := k0_off38_inb t)
  iintro ⟨#HR, xS, fx, HO⟩
  iapply (op_freesend gen true c (e := 12 + t.val) (a := 16) (i := 16) (by omega) (by omega) (by omega) (by exact rfl) hsm) $$ [xS fx HO]
  · iframe # ∗
  iintro ⟨xS, fx, HO⟩
  iapply ret_wp
  have e : 12 + (t.val + 1) = 12 + t.val + 1 := by omega
  rw [e]
  iframe # ∗

set_option maxRecDepth 65536 in
/-- The end of the body. -/
theorem tail_wp (o : Memref sig .tc .vmem S2048x2048 .f32) (ho : o = outM) {w1 w2 l1 l2 hx hm} {Q : PUnit → sProp 𝕄} :
    iprop(Recs gen ∗ Rc true c 15 ∗ Out gen c 16 15 ∗ Ow true c 16 20 20 20 ∗ fr c (dstM true) 12 15 ∗ Sn true c 12 16 ∗ fr c (srcM true) 16 16)
      ⊢ iprop((iprop(Rc true c 16 ∗ Out gen c 16 16 ∗ Ow true c 16 20 20 20 ∗ fr c (dstM true) 12 16 ∗ Sn true c 16 16 ∗ fr c (srcM true) 16 20) -∗ (|={Set.univ}=> Q ⟨⟩))
        -∗ WP c (.op (.waitDma2 (((cc0_scratch11.slice (Rect.unit (s := S16) ![15] S1.size inb_S16_S1_15)).squeeze S_ squeezes_S1_S_).sem)
          (((Memref.whole cc0_scratch4).slice (Rect.unit (s := S4x1024x128) (k0_off30 15#32) S1x1024x128.size (k0_off30_inb 3)) (fun _ => rfl)).squeeze S1024x128 squeezes_S1x1024x128_S1024x128)
          (((Memref.whole cc0_scratch5).slice (Rect.unit (s := S4x1024x128) (k0_off30 15#32) S1x1024x128.size (k0_off30_inb 3)) (fun _ => rfl)).squeeze S1024x128 squeezes_S1x1024x128_S1024x128) w1 w2)
          fun _ => .op (.load (Memref.whole cc0_scratch5) (Rect.unit (s := S4x1024x128) (k0_off31 15#32) S1x1024x128.size (k0_off31_inb 3)).toLoadRect l1)
          fun v => .op (.load o (Rect.unit (s := S2048x2048) (k0_off37 c) S1024x128.size (k0_off37_inb c)).toLoadRect l2)
          fun _ => .op (.store o (Rect.unit (s := S2048x2048) (k0_off37 c) S1024x128.size (k0_off37_inb c)) (k0_pay1 v) Finset.univ hx hm)
          fun _ => Scf.Loop.for k0_t2_loop k0_t2_ok ⟨⟩ (at_ (k0_t2_body (F := F))) >>= fun _ => .ret ⟨⟩) Q) := by
  subst ho
  iintro ⟨#HR, xR, Ho, HO, gx, xS, fx⟩ Hk
  iapply (op_waitrecv gen true c (a := 16) (u := 20) (a' := 20) (u' := 20) (b := 15) (by omega) (by unfold Late; simp only [if_true]; omega) (by exact rfl)
    (sem_recv true rfl (by omega))) $$ [xR HO]
  · iframe # ∗
  iintro ⟨xR, hr, HO⟩
  iapply (blk_oth gen c (d := 15) (a := 16) rfl rfl (by omega) (by omega) (k0_off31_eq 3) (off37_eq' c) (p := k0_pay1) rfl) $$ [hr Ho]
  · isplitl [hr]; · iexact hr
    iexact Ho
  iintro ⟨hr, Ho⟩
  ihave gx := (fr_put c (dstM true) (by omega : 12 ≤ 15)) $$ [hr gx]
  · iframe # ∗
  have hi : iprop(Recs gen ∗ Sn true c 12 16 ∗ fr c (srcM true) 16 16 ∗ Ow true c 16 20 20 20) ⊢ (InvT gen c 0 : sProp 𝕄) := by unfold InvT; exact BIBase.Entails.rfl
  ihave HI := hi $$ [xS fx HO]
  · iframe # ∗
  iapply (Scf.wp_for_bind frame (wpE (defs₀ (F := F)) 𝒱₀ (c : Thread nD τ) none) Set.univ k0_t2_loop.lb k0_t2_loop.ub k0_t2_loop.st k0_t2_ok () _
    (fun t _ => InvT gen c t) (fun t _ => trip2_wp gen c t)) $$ HI
  iintro %u HI
  ihave HI := (Entails.of_eq (congrArg (InvT gen c) trips2)) $$ HI
  unfold InvT
  icases HI with ⟨-, xS, fx, HO⟩
  iapply ret_fwp
  iapply Hk
  isplitl [xR]; · iexact xR
  isplitl [Ho]; · iexact Ho
  isplitl [HO]; · iexact HO
  isplitl [gx]; · iexact gx
  isplitl [xS]; · iexact xS
  iexact fx

end Epi

end Cert.Proof.Run
-- ==== Proof.Body.lean ====
module

public import proofs.«01_k».proof.Proof.Epi

@[expose] public section

noncomputable section

namespace Cert.Proof.Run

open Cert.KernelIdeal Cert.KernelIdeal.Gen
open Idealize.ShloMosaic Idealize.ShloMosaic.TcCoe Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The whole body -/

section Body

variable (gen : Bool → Dev nD → ℕ → (S1x1024x128.Idx → Elt F .bf16)) (c : Dev nD)
variable (X Y : Dev nD → S2048x8192.Idx → Elt F .f32) (q : PosShare TreeShare)

/-- The scratch buffers at some contents each, the local copies' semaphores at rest. -/
def Scr : sProp 𝕄 :=
  iprop(some0 c cc0_scratch0 ∗ some0 c cc0_scratch1 ∗ some0 c cc0_scratch2 ∗ some0 c cc0_scratch3 ∗ some0 c cc0_scratch4 ∗ some0 c cc0_scratch5
    ∗ dySems c ∗ wSems c)
/-- An axis' semaphores at rest. -/
def AxSems (ax : Bool) : sProp 𝕄 :=
  iprop((bigSep (Finset.Ico 0 16) fun d => semVal (sendC ax c d) 0) ∗ (bigSep (Finset.Ico 0 16) fun d => semVal (recvC ax c d) 0) ∗ semVal (credC ax c) 0)
/-- What a device has to begin with, apart from its buffers. -/
def Beg : sProp 𝕄 :=
  iprop(Recs gen ∗ Ax0 false c ∗ Ax0 true c ∗ dutyTok ER (barC (peer false c)) 0 (bi false) ∗ dutyTok ER (barC (peer true c)) 0 (bi true)
    ∗ cred (tallyAt (barC c) 0 2) ∗ atPos ER (barC c) 0 ∅ 0 ∗ bigSep (Finset.Ico 0 8) (xTok X c q) ∗ WT Y c q 0)
/-- What a device has at the end. -/
def Fin1 : sProp 𝕄 :=
  iprop(Scr c ∗ AxSems c false ∗ AxSems c true ∗ semVal (barC c) 0 ∗ Out gen c 16 16 ∗ ∃ W, owes (c : Thread nD τ) (0 : CellTallies nD τ sig ℕ) W)

/-- What gives the credits, at its start. -/
theorem Cr_start (ax : Bool) : iprop((bigSep (Finset.Ico 4 16) fun d => readerAt ES ((c, ax, d) : Key) 0)
    ∗ (bigSep (Finset.Ico 0 12) fun d => dutyTok ER (credC ax (peer ax c)) 0 d) ∗ rel ax c 4) ⊢ (Cr ax c 0 : sProp 𝕄) := by
  unfold Cr rel; exact BIBase.Entails.rfl
/-- What waits for the credits, at its start. -/
theorem Cw_start (ax : Bool) : iprop((bigSep (Finset.Ico 0 12) fun d => cred (tallyAt (credC ax c) d 1)) ∗ atPos ER (credC ax c) 0 ∅ 0 ∗ relP ax c 4) ⊢ (Cw ax c 0 : sProp 𝕄) := by
  unfold Cw Cpos
  rw [if_pos (by decide)]
  iintro ⟨Hc, Hp, #Hr⟩
  isplitl [Hc]; · iexact Hc
  isplitl [Hp]
  · iexists ∅
    isplitr; · ipureintro; exact Finset.empty_subset _
    isplitl [Hp]; · iexact Hp
    rw [bigSep_empty]; iempintro
  iexact Hr

/-- The loop's invariant before its first trip. -/
theorem inv_start : iprop(Recs gen ∗ dyAll X c ∗ Wst Y c 0 ∗ Wst Y c 1 ∗ WT Y c q 2
    ∗ Tx false c 0 ∗ Sn false c 0 0 ∗ Rc false c 0 ∗ Cr false c 0 ∗ Cw false c 0
    ∗ Tx true c 0 ∗ Sn true c 0 0 ∗ Rc true c 0 ∗ Cr true c 0 ∗ Cw true c 0
    ∗ Ow false c 0 0 0 0
    ∗ fr c (srcM false) 0 4 ∗ fr c (srcM true) 0 4 ∗ Out gen c 0 0) ⊢ (Inv gen c X Y q 0 : sProp 𝕄) := by
  unfold Inv
  iintro ⟨#HR, Hdy, W0, W1, WT, yT, yS, yR, yC, yW, xT, xS, xR, xC, xW, HO, fy, fx, Ho⟩
  isplitr; · iexact HR
  isplitl [Hdy]; · iexact Hdy
  isplitl [W0]; · iexact W0
  isplitl [W1]; · iexact W1
  isplitl [WT]; · iexact WT
  isplitl [yT]; · iexact yT
  isplitl [yS]; · iexact yS
  isplitl [yR]; · iexact yR
  isplitl [yC]; · iexact yC
  isplitl [yW]; · iexact yW
  isplitl [xT]; · iexact xT
  isplitl [xS]; · iexact xS
  isplitl [xR]; · iexact xR
  isplitl [xC]; · iexact xC
  isplitl [xW]; · iexact xW
  isplitl [HO]; · iexact HO
  isplitl [fy]; · iexact fy
  isplitl [fx]; · iexact fx
  isplitr
  · unfold fr; rw [Finset.Ico_eq_empty (by decide), bigSep_empty]; iempintro
  iexact Ho

/-- No block of the output has to be right at the start. -/
theorem out_start : iprop(∃ f : Buf (Elt F) (outM.view.loc (c : Thread nD τ)), outM.view.loc (c : Thread nD τ) ↦[Finset.univ]{fullShare} f) ⊢ (Out gen c 0 0 : sProp 𝕄) := by
  unfold Out
  iintro ⟨%f, H⟩
  iexists f
  isplitr
  · ipureintro; exact ⟨fun d hd => absurd hd (Nat.not_lt_zero d), fun d hd => absurd hd (Nat.not_lt_zero d)⟩
  iexact H

/-- A cell whose only round is over is closed. -/
theorem close1 (x : Dev nD × Fin 67) {g : GSem nD τ sig} (hx : kcell x = g) :
    iprop(Recs gen ∗ atPos ER g 1 ∅ 0) ⊢ (|={Set.univ}=> semVal g 0 : sProp 𝕄) := by
  iintro ⟨#HR, Hp⟩
  ihave H := (Recs_cell gen x hx) $$ HR
  icases H with ⟨%κ, #Hi, -⟩
  iapply (Rounds.cell_close ER (rd gen) (g := g) (κ := κ) (Set.mem_univ _) (fun h => h) (R := 1) (duties_later gen g))
  isplitr; · iexact Hi
  iexact Hp

/-- What persists is there for every member of a family. -/
theorem big_pers {I : Type} [DecidableEq I] (s : Finset I) (P : sProp 𝕄) [BI.Persistent P] : P ⊢ bigSep s (fun _ => P) := by
  induction s using Finset.induction_on with
  | empty =>
    rw [bigSep_empty]
    iintro -
    iempintro
  | insert a s ha ih =>
    refine BIBase.Entails.trans (Q := iprop(P ∗ bigSep s fun _ => P)) ?_ (Entails.of_eq (by rw [bigSep_insert ha]; rfl))
    iintro #H
    isplitr
    · iexact H
    iapply ih; iexact H

/-- What lasts may be had with each member of a family. -/
theorem pers_each {I : Type} [DecidableEq I] {s : Finset I} {P : sProp 𝕄} [BI.Persistent P] {Φ : I → sProp 𝕄} :
    iprop(P ∗ bigSep s Φ) ⊢ bigSep s (fun d => iprop(P ∗ Φ d)) := by
  refine BIBase.Entails.trans (Q := iprop(bigSep s (fun _ => P) ∗ bigSep s Φ)) ?_ big_unsep
  have h := big_pers s P
  iintro ⟨#HR, H⟩
  isplitr
  · iapply h; iexact HR
  iexact H

/-- Cells whose round is over give their counters back, at zero. -/
theorem close_all {s : Finset ℕ} (g : ℕ → GSem nD τ sig) (x : ℕ → Dev nD × Fin 67) (hx : ∀ d, kcell (x d) = g d) :
    iprop(Recs gen ∗ bigSep s (fun d => atPos ER (g d) 1 ∅ 0)) ⊢ (|={Set.univ}=> bigSep s (fun d => semVal (g d) 0) : sProp 𝕄) :=
  (pers_each (P := Recs gen)).trans ((big_mono fun d _ => close1 gen (x d) (hx d)).trans (bigSep_fupd _ _))

/-- At the end an axis gives all its counters back, at zero. -/
theorem close_ax (ax : Bool) : iprop(Recs gen ∗ Sn ax c 16 16 ∗ Rc ax c 16 ∗ Cw ax c 12) ⊢ (|={Set.univ}=> AxSems c ax : sProp 𝕄) := by
  have h1 := close_all (s := Finset.Ico 0 16) gen (fun d => sendC ax c d) (fun d => (c, qsend ax d)) (fun d => by unfold kcell; rw [csem_send])
  have h2 := close_all (s := Finset.Ico 0 16) gen (fun d => recvC ax c d) (fun d => (c, qrecv ax d)) (fun d => by unfold kcell; rw [csem_recv])
  have h3 := close1 gen (c, qcred ax) (g := credC ax c) (by unfold kcell; rw [csem_cred])
  unfold Sn Rc Cw Cpos AxSems
  rw [if_neg (by decide)]
  iintro ⟨#HR, ⟨-, -, H1⟩, ⟨-, H2⟩, ⟨-, H3, -⟩⟩
  imod h1 $$ [H1] with H1
  · isplitr; · iexact HR
    iexact H1
  imod h2 $$ [H2] with H2
  · isplitr; · iexact HR
    iexact H2
  imod h3 $$ [H3] with H3
  · isplitr; · iexact HR
    iexact H3
  imodintro
  isplitl [H1]; · iexact H1
  isplitl [H2]; · iexact H2
  iexact H3

/-- At the end nothing is owed. -/
theorem Ow_end : (Ow true c 16 20 20 20 : sProp 𝕄) ⊢ iprop(∃ W, owes (c : Thread nD τ) (0 : CellTallies nD τ sig ℕ) W) := by
  have e : ∀ ax a, 16 ≤ a → Oax ax c a 20 = 0 := fun ax a h => by
    unfold Oax
    rw [Finset.Ico_eq_empty (by omega), Finset.Ico_eq_empty (by omega), Finset.sum_empty, Finset.sum_empty, add_zero]
  unfold Ow
  rw [e true 16 (by omega), e (!true) 20 (by omega), add_zero]

/-- An even chunk's idle slot is the first one, idle. -/
theorem wIdle_even (c : Dev nD) (h : ℕ) : ∀ n, (wIdle (F := F) c (2 * n) h : sProp 𝕄) = wIdle c 0 h
  | 0 => rfl
  | n + 1 => (wIdle_add2 c (2 * n) h).trans (wIdle_even c h n)
/-- An odd chunk's idle slot is the second one, idle. -/
theorem wIdle_odd (c : Dev nD) (h : ℕ) : ∀ n, (wIdle (F := F) c (2 * n + 1) h : sProp 𝕄) = wIdle c 1 h
  | 0 => rfl
  | n + 1 => (wIdle_add2 c (2 * n + 1) h).trans (wIdle_odd c h n)

/-- Four free slots are four free slots wherever the count began. -/
theorem fr_zero (m : Memref sig .tc .vmem S4x1024x128 .bf16) : ∀ n, (fr (F := F) c m (4 * n) (4 * n + 4) : sProp 𝕄) = fr c m 0 4
  | 0 => rfl
  | n + 1 => (fr_shift c m (4 * n) (4 * n + 4)).trans (fr_zero m n)
/-- Four free slots are the buffer at some contents. -/
theorem fr_end (b : Ref sig .tc) (m : Memref sig .tc .vmem S4x1024x128 .bf16)
    (h : some0 (F := F) c b = iprop(∃ f : Buf (Elt F) (m.view.loc (c : Thread nD τ)), m.view.loc (c : Thread nD τ) ↦[m.view.set]{fullShare} f)) (n : ℕ) :
    (fr c m (4 * n) (4 * n + 4) : sProp 𝕄) ⊢ some0 c b := by rw [fr_zero]; exact ring_close c b m h

/-- The chunks' buffer and counters after the loop. -/
theorem w_end : iprop(Wst Y c 16 ∗ Wst Y c 17) ⊢ (iprop(some0 c cc0_scratch1 ∗ wSems c) : sProp 𝕄) := by
  rw [Wst_ge c Y (by decide : ¬16 < 16), Wst_ge c Y (by decide : ¬17 < 16), wIdle_even c 0 8, wIdle_even c 1 8, wIdle_odd c 0 8, wIdle_odd c 1 8]
  exact w_close c

set_option maxRecDepth 65536 in
set_option maxHeartbeats 2000000 in
/-- The body, from what a device has at the start to what it has at the end. -/
theorem body_wp (hgy : ∀ d, k0_pay4 (k0_pay3 (xh X c) (wv Y c d)) = gen false c d)
    (hgx : ∀ d, k0_pay2 (gen false c d) (gen false (peer false c) d) = gen true c d) {W : Waits sig ℕ} :
    iprop(Beg gen c X Y q ∗ Scr c ∗ owes (c : Thread nD τ) (Ostart c) W
        ∗ ∃ f : Buf (Elt F) (outM.view.loc (c : Thread nD τ)), outM.view.loc (c : Thread nD τ) ↦[Finset.univ]{fullShare} f)
      ⊢ WP c (at_ (cc0_body (F := F))) (fun _ => Fin1 gen c) := by
  rw [cc0_body_eq_skeleton]; unfold at_ cc0_body_skel
  simp only [semSignalWord, semWaitWord, Prog.lift, Prog.bind_op, Prog.bind_ret, Prog.pure_eq_ret]
  unfold Beg Scr Ax0
  iintro ⟨⟨#HR, ⟨yT, yS, yR, yrd, yct, ycc, ycp⟩, ⟨xT, xS, xR, xrd, xct, xcc, xcp⟩, b0, b1, bc, bp, Xt, WT⟩, ⟨s0, s1, s2, s3, s4, s5, ds, ws⟩, HO, Ho⟩
  ihave Ho := (out_start gen c) $$ Ho
  ihave Hd := (dy_open c X q) $$ [s0 ds Xt]
  · iframe # ∗
  ihave Hw := (w_open c) $$ [s1 ws]
  · iframe # ∗
  icases Hw with ⟨W0, W1⟩
  ihave fy := (ring_open c cc0_scratch2 (srcM false) (ring2 c)) $$ s2
  ihave gy := (ring_open c cc0_scratch3 (dstM false) (ring3 c)) $$ s3
  ihave fx := (ring_open c cc0_scratch4 (srcM true) (ring4 c)) $$ s4
  ihave gx := (ring_open c cc0_scratch5 (dstM true) (ring5 c)) $$ s5
  imod (rel_four gen false c) $$ [yrd gy] with ⟨yrd, #yr⟩
  · iframe # ∗
  imod (rel_four gen true c) $$ [xrd gx] with ⟨xrd, #xr⟩
  · iframe # ∗
  ihave yC := (Cr_start c false) $$ [yrd yct]
  · iframe # ∗
  ihave xC := (Cr_start c true) $$ [xrd xct]
  · iframe # ∗
  iapply bind_wp
  iapply (part3_wp c X q) $$ Hd
  iintro %v2 %v5 %v6 %v7 %v8 %v10 Hd
  iapply bind_wp
  iapply (part4_wp c X q v2) $$ Hd
  iintro Hd
  iapply bind_wp
  iapply (part5_wp c X Y q v2) $$ [Hd W0 W1 WT]
  · iframe # ∗
  iintro ⟨Hd, W0, W1, WT⟩
  iapply bind_wp
  iapply (part6_wp gen c X v5 v6 v7 (Scalar.muli v2 2#32) 0#32) $$ [b0 b1 HO bc bp Hd]
  · iframe # ∗
  iintro ⟨bp, #yp, #xp, HO, Hd⟩
  ihave yW := (Cw_start c false) $$ [ycc ycp]
  · iframe # ∗
  ihave xW := (Cw_start c true) $$ [xcc xcp]
  · iframe # ∗
  iapply bind_wp
  iapply (part7_wp gen c X Y q hgy hgx v2 v5 v6 v7 v8 v10) $$ [Hd HO W0 W1 WT yT yS yR yC yW xT xS xR xC xW fy fx Ho]
  · isplitr; · iexact HR
    isplitl [Hd]; · iexact Hd
    isplitl [HO]; · iexact HO
    iintro ⟨Hdy, HO⟩
    iapply (inv_start gen c X Y q)
    iframe # ∗
  iintro ⟨ds, Hdy, W0, W1, yT, yS, hs, yR, yC, yW, xT, xS, xR, xC, xW, HO, fy, fx, gy, Ho⟩
  iapply bind_wp
  iapply (part8_wp gen c hgx v5 v6 v7 v8 _ _ _) $$ [hs yR xW HO fy fx gy Ho]
  · iframe # ∗
  iintro ⟨hx, yR, xW, HO, fy, fx, gy, Ho⟩
  iapply bind_wp
  iapply (part9_wp gen c v2 v6) $$ [xT xS xW hx HO yS yR]
  · iframe # ∗
  iintro ⟨xT, xS, xW, HO, yS, yR, hs, hr⟩
  ihave fy := (fr_put4 c (srcM false) (by omega : 16 ≤ 15 + 4)) $$ [hs fy]
  · isplitl [hs]; · iexact hs
    iexact fy
  ihave gy := (fr_put c (dstM false) (by omega : 12 ≤ 15)) $$ [hr gy]
  · isplitl [hr]; · iexact hr
    iexact gy
  iapply bind_wp
  iapply (part10_wp gen c hgx v5 v7 v8 _) $$ [fx Ho xW HO xT xS]
  · iframe # ∗
  iintro ⟨Ho, xW, HO, xT, xS⟩
  iapply bind_wp
  iapply (part11_wp gen c v5 v7 v10 _ _ _) $$ [xR Ho HO]
  · isplitr; · iexact HR
    isplitl [xR]; · iexact xR
    isplitl [Ho]; · iexact Ho
    isplitl [HO]; · iexact HO
    unfold fr; rw [Finset.Ico_self, bigSep_empty]; iempintro
  iintro ⟨xR, Ho, HO, gx⟩
  iapply bind_wp
  iapply (part12_wp gen c v5 v7 v10 _) $$ [xR Ho HO gx]
  · iframe # ∗
  iintro ⟨xR, Ho, HO, gx⟩
  iapply (tail_wp gen c outM rfl) $$ [xR Ho HO gx xS]
  · isplitr; · iexact HR
    isplitl [xR]; · iexact xR
    isplitl [Ho]; · iexact Ho
    isplitl [HO]; · iexact HO
    isplitl [gx]; · iexact gx
    isplitl [xS]; · iexact xS
    unfold fr; rw [Finset.Ico_self, bigSep_empty]; iempintro
  iintro ⟨xR, Ho, HO, gx, xS, fx⟩
  imod (close_ax gen c false) $$ [yS yR yW] with yE
  · iframe # ∗
  imod (close_ax gen c true) $$ [xS xR xW] with xE
  · iframe # ∗
  imod (close1 gen (c, 66) (g := barC c) rfl) $$ [bp] with bE
  · iframe # ∗
  imodintro
  ihave HO := (Ow_end c) $$ HO
  ihave s1 := (w_end c Y) $$ [W0 W1]
  · iframe # ∗
  icases s1 with ⟨s1, ws⟩
  ihave s0 := (dy_some c X) $$ Hdy
  ihave s2 := (fr_end c cc0_scratch2 (srcM false) (ring2 c) 4) $$ fy
  ihave s3 := (fr_end c cc0_scratch3 (dstM false) (ring3 c) 3) $$ gy
  ihave s4 := (fr_end c cc0_scratch4 (srcM true) (ring4 c) 4) $$ fx
  ihave s5 := (fr_end c cc0_scratch5 (dstM true) (ring5 c) 3) $$ gx
  unfold Fin1 Scr
  iframe # ∗

end Body

end Cert.Proof.Run
-- ==== Proof.Fam.lean ====
module

public import proofs.«01_k».proof.Proof.Body

@[expose] public section

noncomputable section

namespace Cert.Proof.Run

open Cert.KernelIdeal Cert.KernelIdeal.Gen
open Idealize.ShloMosaic Idealize.ShloMosaic.TcCoe Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Families over a device's semaphores, by their uses -/

/-- A family over the numbers below `n` is one over an interval. -/
theorem fin_ico {n : ℕ} (hn : 0 < n) (Φ : Fin n → sProp 𝕄) :
    bigSep Finset.univ Φ = bigSep (Finset.Ico 0 n) (fun i => Φ ⟨i % n, Nat.mod_lt _ hn⟩) := by
  have h : Finset.Ico 0 n = Finset.univ.map (Fin.valEmbedding (n := n)) := by
    ext i
    simp only [Finset.mem_Ico, Finset.mem_map, Finset.mem_univ, true_and, Fin.valEmbedding_apply]
    exact ⟨fun hi => ⟨⟨i, hi.2⟩, rfl⟩, fun ⟨a, ha⟩ => ⟨Nat.zero_le _, ha ▸ a.isLt⟩⟩
  rw [h, bigSep_map]
  exact bigSep_congr fun i _ => congrArg Φ (Fin.ext (Nat.mod_eq_of_lt i.isLt).symm)

/-- A stretch of a family, counted from its start. -/
theorem ico_at {a b n : ℕ} (hb : b = a + n) {A B : ℕ → sProp 𝕄} (h : ∀ d < n, A (d + a) = B d) :
    bigSep (Finset.Ico a b) A = bigSep (Finset.Ico 0 n) B := by
  rw [hb, show Finset.Ico a (a + n) = Finset.Ico (0 + a) (n + a) by rw [Nat.zero_add, Nat.add_comm], ← Finset.map_add_right_Ico 0 n a, bigSep_map]
  exact bigSep_congr fun d hd => h d (Finset.mem_Ico.mp hd).2

/-- A family over an interval cut in two. -/
theorem ico_cut {a b c : ℕ} (hab : a ≤ b) (hbc : b ≤ c) (A : ℕ → sProp 𝕄) :
    bigSep (Finset.Ico a c) A = iprop(bigSep (Finset.Ico a b) A ∗ bigSep (Finset.Ico b c) A) := by
  rw [← Finset.Ico_union_Ico_eq_Ico hab hbc, bigSep_union (Finset.Ico_disjoint_Ico_consecutive a b c)]; rfl

/-- What a family has of an axis' semaphores. -/
def axisOf (Ψ : Fin 67 → sProp 𝕄) (ax : Bool) : sProp 𝕄 :=
  iprop((bigSep (Finset.Ico 0 16) fun d => Ψ (qsend ax d)) ∗ (bigSep (Finset.Ico 0 16) fun d => Ψ (qrecv ax d)) ∗ Ψ (qcred ax))

/-- A family over the protocol's semaphores: both axes and the barrier. -/
theorem fin67 (Ψ : Fin 67 → sProp 𝕄) : bigSep Finset.univ Ψ ⊣⊢ iprop(axisOf Ψ false ∗ axisOf Ψ true ∗ Ψ 66) := by
  have e : bigSep Finset.univ Ψ = iprop((bigSep (Finset.Ico 0 16) fun d => Ψ (qsend false d)) ∗ (bigSep (Finset.Ico 0 16) fun d => Ψ (qrecv false d))
      ∗ (bigSep (Finset.Ico 0 16) fun d => Ψ (qsend true d)) ∗ (bigSep (Finset.Ico 0 16) fun d => Ψ (qrecv true d)) ∗ Ψ (qcred false) ∗ Ψ (qcred true) ∗ Ψ 66) := by
    rw [fin_ico (by decide) Ψ, ico_cut (show 0 ≤ 16 by decide) (show 16 ≤ 67 by decide),
      ico_cut (show 16 ≤ 32 by decide) (show 32 ≤ 67 by decide), ico_cut (show 32 ≤ 48 by decide) (show 48 ≤ 67 by decide),
      ico_cut (show 48 ≤ 64 by decide) (show 64 ≤ 67 by decide), ico_cut (show 64 ≤ 65 by decide) (show 65 ≤ 67 by decide),
      ico_cut (show 65 ≤ 66 by decide) (show 66 ≤ 67 by decide), bigSep_Ico_one 64, bigSep_Ico_one 65, bigSep_Ico_one 66,
      ico_at (a := 0) (n := 16) rfl (B := fun d => Ψ (qsend false d)) (fun d hd => congrArg Ψ (Fin.ext (by simp [qsend]; omega))),
      ico_at (a := 16) (n := 16) rfl (B := fun d => Ψ (qrecv false d)) (fun d hd => congrArg Ψ (Fin.ext (by simp [qrecv]; omega))),
      ico_at (a := 32) (n := 16) rfl (B := fun d => Ψ (qsend true d)) (fun d hd => congrArg Ψ (Fin.ext (by simp [qsend]; omega))),
      ico_at (a := 48) (n := 16) rfl (B := fun d => Ψ (qrecv true d)) (fun d hd => congrArg Ψ (Fin.ext (by simp [qrecv]; omega)))]
    rfl
  rw [e]
  unfold axisOf
  constructor
  · iintro ⟨A, B, C, D, E, G, H⟩
    isplitl [A B E]
    · isplitl [A]; · iexact A
      isplitl [B]; · iexact B
      iexact E
    isplitl [C D G]
    · isplitl [C]; · iexact C
      isplitl [D]; · iexact D
      iexact G
    iexact H
  · iintro ⟨⟨A, B, E⟩, ⟨C, D, G⟩, H⟩
    isplitl [A]; · iexact A
    isplitl [B]; · iexact B
    isplitl [C]; · iexact C
    isplitl [D]; · iexact D
    isplitl [E]; · iexact E
    isplitl [G]; · iexact G
    iexact H

/-- The semaphores that belong to the launch, by number: all but the output's and the barrier. -/
def osem (k : Fin 78) : SemLoc sig :=
  if h : k.val < 76 then .dma ⟨1 + k.val, by show _ < 77; omega⟩ else .reg ⟨k.val - 76, by show _ < 3; omega⟩
/-- The kernel's DMA semaphores come first in its numbering. -/
theorem osem_low {k : ℕ} (hk : k < 78) (h : k < 76) : osem ⟨k, hk⟩ = .dma ⟨1 + k, by show _ < 77; omega⟩ := by unfold osem; exact dif_pos h
/-- From the thirteenth on, the kernel's numbering is that of the cells. -/
theorem osem_csem {k : ℕ} (hk : k + 12 < 78) : osem ⟨k + 12, hk⟩ = csem ⟨k, by omega⟩ := by
  unfold osem csem
  by_cases h : k < 64
  · rw [dif_pos (show k + 12 < 76 by omega), dif_pos h]; congr 2; show 1 + (k + 12) = 13 + k; omega
  · rw [dif_neg (show ¬ k + 12 < 76 by omega), dif_neg h]; congr 2

/-- A family over them: the local copies' semaphores, and all of the protocol's but the barrier. -/
theorem fin78 (Φ : SemLoc sig → sProp 𝕄) :
    iprop((bigSep Finset.univ fun k : Fin 78 => Φ (osem k)) ∗ Φ (.reg barS))
      = iprop((bigSep (Finset.Ico 0 8) fun r => Φ (.dma (dyS r))) ∗ (bigSep (Finset.Ico 0 4) fun t => Φ (.dma (wS (t / 2) t)))
        ∗ bigSep Finset.univ fun k : Fin 67 => Φ (csem k)) := by
  have e : (bigSep Finset.univ fun k : Fin 67 => Φ (csem k))
      = iprop((bigSep (Finset.Ico 0 66) fun i => Φ (csem ⟨i % 67, Nat.mod_lt _ (by decide)⟩)) ∗ Φ (.reg barS)) := by
    rw [fin_ico (by decide), ico_cut (show 0 ≤ 66 by decide) (show 66 ≤ 67 by decide), bigSep_Ico_one 66]; rfl
  rw [e, fin_ico (by decide), ico_cut (show 0 ≤ 8 by decide) (show 8 ≤ 78 by decide),
    ico_cut (show 8 ≤ 12 by decide) (show 12 ≤ 78 by decide),
    ico_at (a := 0) (n := 8) rfl (B := fun r => Φ (.dma (dyS r))) (fun d hd => congrArg Φ (by
      have h1 : (d + 0) % 78 = d := by omega
      rw [show (⟨(d + 0) % 78, Nat.mod_lt _ (by decide)⟩ : Fin 78) = ⟨d, by omega⟩ from Fin.ext h1, osem_low _ (by omega)]
      unfold dyS; congr 2; omega)),
    ico_at (a := 8) (n := 4) rfl (B := fun t => Φ (.dma (wS (t / 2) t))) (fun d hd => congrArg Φ (by
      have h1 : (d + 8) % 78 = d + 8 := by omega
      rw [show (⟨(d + 8) % 78, Nat.mod_lt _ (by decide)⟩ : Fin 78) = ⟨d + 8, by omega⟩ from Fin.ext h1, osem_low _ (by omega)]
      unfold wS; congr 2; omega)),
    ico_at (a := 12) (n := 66) rfl (B := fun i => Φ (csem ⟨i % 67, Nat.mod_lt _ (by decide)⟩)) (fun d hd => congrArg Φ (by
      have h1 : (d + 12) % 78 = d + 12 := by omega
      rw [show (⟨(d + 12) % 78, Nat.mod_lt _ (by decide)⟩ : Fin 78) = ⟨d + 12, by omega⟩ from Fin.ext h1, osem_csem (by omega)]
      congr 2; omega))]
  refine BI.Entails.antisymm (show _ ⊢ (_ : sProp 𝕄) from ?_) (show _ ⊢ (_ : sProp 𝕄) from ?_)
  · iintro ⟨⟨A, B, C⟩, D⟩
    isplitl [A]; · iexact A
    isplitl [B]; · iexact B
    isplitl [C]; · iexact C
    iexact D
  · iintro ⟨A, B, C, D⟩
    isplitr [D]
    · isplitl [A]; · iexact A
      isplitl [B]; · iexact B
      iexact C
    iexact D

/-! ## The launch's tokens by number -/

set_option backward.proofsInPublic true in
/-- The cell of token `j` and its duty: one for each send and receive, twelve for each axis' credits, two for the barrier. -/
def tokP (j : Fin 90) : Fin 67 × ℕ :=
  if h : j.val < 64 then (⟨j.val, by omega⟩, 0) else if j.val < 76 then (64, j.val - 64) else if j.val < 88 then (65, j.val - 76) else (66, j.val - 88)

/-- What a family of tokens has of an axis. -/
def toksOf (Θ : Fin 67 → ℕ → sProp 𝕄) (ax : Bool) : sProp 𝕄 :=
  iprop((bigSep (Finset.Ico 0 16) fun d => Θ (qsend ax d) 0) ∗ (bigSep (Finset.Ico 0 16) fun d => Θ (qrecv ax d) 0)
    ∗ (bigSep (Finset.Ico 0 12) fun d => Θ (qcred ax) d) ∗ Θ 66 (bi ax))

/-- The first sixty-four tokens are those of the sendings and receivings. -/
theorem tokP_low {j : ℕ} (h : j < 64) (h' : j < 90) : tokP ⟨j, h'⟩ = (⟨j, by omega⟩, 0) := by unfold tokP; exact dif_pos h

/-- The ninety tokens are those of either axis. -/
theorem fin90 (Θ : Fin 67 → ℕ → sProp 𝕄) :
    (bigSep Finset.univ fun j : Fin 90 => Θ (tokP j).1 (tokP j).2) ⊢ iprop(toksOf Θ false ∗ toksOf Θ true) := by
  have low : ∀ j, (hj : j < 64) → (fun j => Θ (tokP j).1 (tokP j).2) ⟨j % 90, Nat.mod_lt _ (by decide)⟩ = Θ ⟨j, by omega⟩ 0 := fun j hj => by
    have h1 : j % 90 = j := by omega
    dsimp only
    rw [show (⟨j % 90, Nat.mod_lt _ (by decide)⟩ : Fin 90) = ⟨j, by omega⟩ from Fin.ext h1, tokP_low hj]
  have e : (bigSep Finset.univ fun j : Fin 90 => Θ (tokP j).1 (tokP j).2)
      = iprop((bigSep (Finset.Ico 0 16) fun d => Θ (qsend false d) 0) ∗ (bigSep (Finset.Ico 0 16) fun d => Θ (qrecv false d) 0)
      ∗ (bigSep (Finset.Ico 0 16) fun d => Θ (qsend true d) 0) ∗ (bigSep (Finset.Ico 0 16) fun d => Θ (qrecv true d) 0)
      ∗ (bigSep (Finset.Ico 0 12) fun d => Θ (qcred false) d) ∗ (bigSep (Finset.Ico 0 12) fun d => Θ (qcred true) d) ∗ Θ 66 (bi false) ∗ Θ 66 (bi true)) := by
    rw [fin_ico (by decide), ico_cut (show 0 ≤ 16 by decide) (show 16 ≤ 90 by decide),
      ico_cut (show 16 ≤ 32 by decide) (show 32 ≤ 90 by decide), ico_cut (show 32 ≤ 48 by decide) (show 48 ≤ 90 by decide),
      ico_cut (show 48 ≤ 64 by decide) (show 64 ≤ 90 by decide), ico_cut (show 64 ≤ 76 by decide) (show 76 ≤ 90 by decide),
      ico_cut (show 76 ≤ 88 by decide) (show 88 ≤ 90 by decide), ico_cut (show 88 ≤ 89 by decide) (show 89 ≤ 90 by decide),
      bigSep_Ico_one 88, bigSep_Ico_one 89,
      ico_at (a := 0) (n := 16) rfl (B := fun d => Θ (qsend false d) 0) (fun d hd => (low _ (by omega)).trans (congrArg (Θ · 0) (Fin.ext (by simp [qsend]; omega)))),
      ico_at (a := 16) (n := 16) rfl (B := fun d => Θ (qrecv false d) 0) (fun d hd => (low _ (by omega)).trans (congrArg (Θ · 0) (Fin.ext (by simp [qrecv]; omega)))),
      ico_at (a := 32) (n := 16) rfl (B := fun d => Θ (qsend true d) 0) (fun d hd => (low _ (by omega)).trans (congrArg (Θ · 0) (Fin.ext (by simp [qsend]; omega)))),
      ico_at (a := 48) (n := 16) rfl (B := fun d => Θ (qrecv true d) 0) (fun d hd => (low _ (by omega)).trans (congrArg (Θ · 0) (Fin.ext (by simp [qrecv]; omega)))),
      ico_at (a := 64) (n := 12) rfl (B := fun d => Θ (qcred false) d) (fun d hd => by
        have h1 : (d + 64) % 90 = d + 64 := by omega
        unfold tokP
        simp only [h1]
        rw [dif_neg (by omega), if_pos (by omega)]
        simp only [Nat.add_sub_cancel]; rfl),
      ico_at (a := 76) (n := 12) rfl (B := fun d => Θ (qcred true) d) (fun d hd => by
        have h1 : (d + 76) % 90 = d + 76 := by omega
        unfold tokP
        simp only [h1]
        rw [dif_neg (by omega), if_neg (by omega), if_pos (by omega)]
        simp only [Nat.add_sub_cancel]; rfl)]
    rfl
  rw [e]
  unfold toksOf
  iintro ⟨A, B, C, D, E, G, H, I⟩
  isplitl [A B E H]
  · isplitl [A]; · iexact A
    isplitl [B]; · iexact B
    isplitl [E]; · iexact E
    iexact H
  isplitl [C]; · iexact C
  isplitl [D]; · iexact D
  isplitl [G]; · iexact G
  iexact I

/-- Different cells have different semaphores. -/
theorem csem_inj : Function.Injective csem := by
  intro a b h
  unfold csem at h
  apply Fin.ext
  by_cases ha : a.val < 64 <;> by_cases hb : b.val < 64
  · rw [dif_pos ha, dif_pos hb] at h
    have h1 : 13 + a.val = 13 + b.val := congrArg Fin.val (SemLoc.dma.inj h)
    omega
  · rw [dif_pos ha, dif_neg hb] at h; cases h
  · rw [dif_neg ha, dif_pos hb] at h; cases h
  · rw [dif_neg ha, dif_neg hb] at h
    have h1 : a.val - 64 = b.val - 64 := congrArg Fin.val (SemLoc.reg.inj h)
    omega

/-- Different tokens are of different duties. -/
theorem tokP_inj : Function.Injective tokP := by
  intro a b h
  have h1 := congrArg (fun x => (x.1 : Fin 67).val) h
  have h2 := congrArg (fun x => x.2) h
  unfold tokP at h1 h2
  apply Fin.ext
  have := a.isLt
  have := b.isLt
  split_ifs at h1 h2 <;> simp at h1 h2 <;> omega

end Cert.Proof.Run
-- ==== Proof.Deal.lean ====
module

public import proofs.«01_k».proof.Proof.Fam

@[expose] public section

noncomputable section

namespace Cert.Proof.Run

open Cert.KernelIdeal Cert.KernelIdeal.Gen
open Idealize.ShloMosaic Idealize.ShloMosaic.TcCoe Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## What the launch deals -/

/-- Different numbers on different devices are different cells. -/
theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_inj h2]
def cells0 : Finset (GSem nD τ sig) := Finset.univ.map ⟨kcell, kcell_injective⟩
abbrev tokAt (x : Dev nD × Fin 90) : GSem nD τ sig × ℕ × ℕ := (kcell (x.1, (tokP x.2).1), 0, (tokP x.2).2)
/-- Different tokens are of different cells or duties. -/
theorem tokAt_injective : Function.Injective tokAt := by
  rintro ⟨c, j⟩ ⟨c', j'⟩ h
  have h1 : (c, (tokP j).1) = (c', (tokP j').1) := kcell_injective (congrArg Prod.fst h)
  have h2 : (tokP j).2 = (tokP j').2 := congrArg (fun x => x.2.2) h
  have h3 : tokP j = tokP j' := Prod.ext (congrArg Prod.snd h1) h2
  have h4 : c = c' := congrArg Prod.fst h1
  rw [h4, tokP_inj h3]
def toks0 : Finset (GSem nD τ sig × ℕ × ℕ) := Finset.univ.map ⟨tokAt, tokAt_injective⟩

def u₀ : UU :=
  (initOf (Pipeline.cells cfgs cellOf_inj) (Pipeline.launchToks cfgs cellOf_inj), (initOf cells0 toks0, (initSlots keys 1, 1)))

/-- A product over two index sets, one after the other. -/
theorem big_product {I J : Type} [DecidableEq I] [DecidableEq J] (s : Finset I) (t : Finset J) (Φ : I × J → sProp 𝕄) :
    bigSep (s ×ˢ t) Φ = bigSep s fun i => bigSep t fun j => Φ (i, j) := by
  induction s using Finset.induction_on with
  | empty => rw [Finset.empty_product, bigSep_empty, bigSep_empty]
  | insert a s ha ih =>
    have hd : Disjoint (({a} : Finset I) ×ˢ t) (s ×ˢ t) := Finset.disjoint_product.mpr (.inl (Finset.disjoint_singleton_left.mpr ha))
    rw [bigSep_insert ha, Finset.insert_eq, Finset.union_product, bigSep_union hd, ih, Finset.singleton_product, bigSep_map]
    rfl

/-- A family over the slots, device by device. -/
theorem big_keys (Φ : Key → sProp 𝕄) : bigSep keys Φ
    = bigSep Finset.univ fun c : Dev nD => iprop((bigSep (Finset.Ico 0 16) fun d => Φ (c, false, d)) ∗ bigSep (Finset.Ico 0 16) fun d => Φ (c, true, d)) := by
  unfold keys
  rw [big_product]
  refine bigSep_congr fun c _ => ?_
  rw [big_product, show (Finset.univ : Finset Bool) = {false, true} by decide, bigSep_insert (by decide), bigSep_singleton, Finset.range_eq_Ico]
  rfl

/-- A family over the devices, each member sent to the neighbour. -/
theorem big_peer (ax : Bool) (Φ : Dev nD → sProp 𝕄) : bigSep Finset.univ Φ ⊢ bigSep Finset.univ fun c => Φ (peer ax c) :=
  Entails.of_eq (bigSep_univ_equiv (swap ax) Φ)

section Gen

variable (gen : Bool → Dev nD → ℕ → (S1x1024x128.Idx → Elt F .bf16))

/-- The slots' part of the launch, dealt to the first device. -/
def slots0 (c : Dev nD) : sProp 𝕄 := if c = 0 then BI.own (ES (initSlots keys 1)) else iprop(emp)

/-- The slots' records of all devices are those of all slots. -/
theorem slots0_all : (bigSep Finset.univ slots0 : sProp 𝕄) = BI.own (ES (initSlots keys 1)) := by
  have he : (bigSep (Finset.univ.erase (0 : Dev nD)) slots0 : sProp 𝕄) = BIBase.emp :=
    (bigSep_congr (Ψ := fun _ => (BIBase.emp : sProp 𝕄)) (fun c hc => if_neg (Finset.ne_of_mem_erase hc))).trans (BI.bigSep_emp_const _)
  rw [bigSep_univ_at _ (0 : Dev nD), he]
  unfold slots0
  rw [if_pos rfl]
  refine BI.Entails.antisymm (show _ ⊢ (_ : sProp 𝕄) from ?_) (show _ ⊢ (_ : sProp 𝕄) from ?_)
  · iintro ⟨H, -⟩; iexact H
  · iintro H
    isplitl [H]; · iexact H
    iempintro

/-- What the launch deals device `c`. -/
def G (c : Dev nD) : sProp 𝕄 :=
  iprop((bigSep Finset.univ fun k : Fin 67 => roundState ER (rd gen) (kcell (c, k)) 0)
    ∗ (bigSep Finset.univ fun k : Fin 67 => reached ER (kcell (c, k)) 0)
    ∗ (bigSep Finset.univ fun k : Fin 67 => atPos ER (kcell (c, k)) 0 ∅ 0)
    ∗ (bigSep Finset.univ fun j : Fin 90 => dutyTok ER (kcell (c, (tokP j).1)) 0 (tokP j).2)
    ∗ slots0 c)

/-- What the protocol starts from, dealt out to the devices. -/
theorem fund_all : iprop(BI.own (ER (initOf cells0 toks0)) ∗ BI.own (ES (initSlots keys 1))) ⊢ (|==> bigSep Finset.univ (G gen) : sProp 𝕄) := by
  have hX (Φ : GSem nD τ sig → sProp 𝕄) : bigSep cells0 Φ = bigSep Finset.univ fun c : Dev nD => bigSep Finset.univ fun k : Fin 67 => Φ (kcell (c, k)) := by
    unfold cells0; rw [bigSep_map, bigSep_univ_prod]; rfl
  have hT : bigSep toks0 (fun x => (dutyTok ER x.1 x.2.1 x.2.2 : sProp 𝕄))
      = bigSep Finset.univ fun c : Dev nD => bigSep Finset.univ fun j : Fin 90 => dutyTok ER (kcell (c, (tokP j).1)) 0 (tokP j).2 := by
    unfold toks0; rw [bigSep_map, bigSep_univ_prod]; rfl
  iintro ⟨HX, HS⟩
  imod (Rounds.fund ER (rd gen) cells0 toks0) $$ HX with ⟨Hst, Hr, Hat, Htok⟩
  imodintro
  ihave Hst := (Entails.of_eq (hX fun g => roundState ER (rd gen) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  ihave HS := (Entails.of_eq slots0_all.symm) $$ HS
  unfold G; simp only [bigSep_sep']
  isplitl [Hst]; · iexact Hst
  isplitl [Hr]; · iexact Hr
  isplitl [Hat]; · iexact Hat
  isplitl [Htok]; · iexact Htok
  iexact HS

/-- What the whole run starts from: the launch's own part, and each device's. -/
theorem fund_u₀ : (ownU u₀ : sProp 𝕄)
    ⊢ |={Set.univ}=> iprop(BI.own (EP (initOf (Pipeline.cells cfgs cellOf_inj) (Pipeline.launchToks cfgs cellOf_inj))) ∗ bigSep Finset.univ (G gen)) := by
  unfold u₀
  iintro Hu
  ihave H := (ownU_pair _ _) $$ Hu
  icases H with ⟨HP, HX⟩
  ihave H := (own_pair_emb (embR (nD := nD) (τ := τ) (sig := sig) (Ix := ℕ) (Val := Elt F) (Name := ℕ) (Lvl := ℕ) (A := UR sig nD τ) (B := UX)) (initOf cells0 toks0) (initSlots keys 1, 1)) $$ HX
  icases H with ⟨HB, HX⟩
  ihave H := (own_pair_emb ((Emb.inr : Emb (USlots Key × Counters) UX).trans
    (embR (nD := nD) (τ := τ) (sig := sig) (Ix := ℕ) (Val := Elt F) (Name := ℕ) (Lvl := ℕ) (A := UR sig nD τ) (B := UX))) (initSlots keys 1) 1) $$ HX
  icases H with ⟨HS, -⟩
  imod (fund_all gen) $$ [HB HS] with HG
  · isplitl [HB]; · iexact HB
    iexact HS
  imodintro
  isplitl [HP]; · iexact HP
  iexact HG

/-! ## The semaphores at rest -/

/-- The barrier is the one semaphore outside the launch's scope. -/
theorem unscopedSems0_eq (c : Dev nD) : (unscopedSems0 c : sProp 𝕄) = semVal (barC c) 0 := by
  unfold unscopedSems0; rw [bigSep_eq_bigSepL_of_eq [SemLoc.reg barS] (by decide) (by decide)]; rfl

/-- The kernel's counters are those of the copies in, of either axis and of the barrier. -/
theorem sems_eq (c : Dev nD) :
    iprop(Pipeline.ownSems0 (Ix := ℕ) (Name := ℕ) (U := UU) (Lvl := ℕ) (Val := Elt F) (τ := τ) osem c ∗ unscopedSems0 c)
      = (iprop(dySems c ∗ wSems c ∗ bigSep Finset.univ fun k : Fin 67 => semVal (kcell (c, k)) 0) : sProp 𝕄) := by
  rw [unscopedSems0_eq]
  exact fin78 (fun sm => (semVal ((c : Thread nD τ), sm) 0 : sProp 𝕄))

/-- An axis' counters, family by family. -/
theorem axSems_eq (c : Dev nD) (ax : Bool) : (axisOf (fun k => semVal (kcell (c, k)) 0) ax : sProp 𝕄) = AxSems c ax := by
  unfold axisOf AxSems
  simp only [kcell, csem_send, csem_recv, csem_cred]

/-- At the end the semaphores are at rest as they were. -/
theorem sems_exit (c : Dev nD) :
    iprop(dySems c ∗ wSems c ∗ AxSems c false ∗ AxSems c true ∗ semVal (barC c) 0)
      ⊢ (iprop(Pipeline.ownSems0 (Ix := ℕ) (Name := ℕ) (U := UU) (Lvl := ℕ) (Val := Elt F) (τ := τ) osem c ∗ unscopedSems0 c) : sProp 𝕄) := by
  rw [sems_eq, ← axSems_eq, ← axSems_eq]
  have h := (fin67 (fun k => (semVal (kcell (c, k)) 0 : sProp 𝕄))).2
  iintro ⟨A, B, C, D, E⟩
  isplitl [A]; · iexact A
  isplitl [B]; · iexact B
  iapply h
  isplitl [C]; · iexact C
  isplitl [D]; · iexact D
  iexact E

/-! ## The invariants, once for all devices -/

/-- What is left of a device's deal when its cells' invariants stand. -/
def D0 (c : Dev nD) : sProp 𝕄 :=
  iprop((dySems c ∗ wSems c)
    ∗ (bigSep Finset.univ fun k : Fin 67 => iprop(∃ κ, cellInv ER (rd gen) κ (kcell (c, k)) ∗ reached ER (kcell (c, k)) 0))
    ∗ (bigSep Finset.univ fun k : Fin 67 => atPos ER (kcell (c, k)) 0 ∅ 0)
    ∗ (bigSep Finset.univ fun j : Fin 90 => dutyTok ER (kcell (c, (tokP j).1)) 0 (tokP j).2)
    ∗ slots0 c)

/-- A device's counters become its cells' invariants. -/
theorem core_alloc (c : Dev nD) :
    iprop(Pipeline.ownSems0 (Ix := ℕ) (Name := ℕ) (U := UU) (Lvl := ℕ) (Val := Elt F) (τ := τ) osem c ∗ unscopedSems0 c ∗ G gen c)
      ⊢ |={Set.univ}=> D0 gen c := by
  have hi : iprop((bigSep Finset.univ fun k : Fin 67 => semVal (kcell (c, k)) 0) ∗ bigSep Finset.univ fun k : Fin 67 => roundState ER (rd gen) (kcell (c, k)) 0)
      ⊢ (|={Set.univ}=> bigSep Finset.univ fun k : Fin 67 => iprop(∃ κ : ℕ, cellInv ER (rd gen) κ (kcell (c, k))) : sProp 𝕄) := by
    rw [← bigSep_sep']
    exact (bigSep_mono fun k _ => (Rounds.body_intro ER (rd gen) (kcell (c, k))).trans inv_alloc).trans (bigSep_fupd _ _)
  have hr : iprop((bigSep Finset.univ fun k : Fin 67 => iprop(∃ κ : ℕ, cellInv ER (rd gen) κ (kcell (c, k)))) ∗ bigSep Finset.univ fun k : Fin 67 => reached ER (kcell (c, k)) 0)
      ⊢ (bigSep Finset.univ fun k : Fin 67 => iprop(∃ κ, cellInv ER (rd gen) κ (kcell (c, k)) ∗ reached ER (kcell (c, k)) 0) : sProp 𝕄) := by
    rw [← bigSep_sep']
    refine big_mono fun k _ => ?_
    iintro ⟨⟨%κ, HI⟩, HR⟩
    iexists κ
    isplitl [HI]; · iexact HI
    iexact HR
  unfold G D0
  iintro ⟨Hos, Hus, Hst, Hr, Hat, Htok, HS⟩
  ihave Hv := (Entails.of_eq (sems_eq (F := F) c)) $$ [Hos Hus]
  · isplitl [Hos]; · iexact Hos
    iexact Hus
  icases Hv with ⟨Hdy, Hw, Hv⟩
  imod hi $$ [Hv Hst] with Hinv
  · isplitl [Hv]; · iexact Hv
    iexact Hst
  imodintro
  ihave Hinv := hr $$ [Hinv Hr]
  · isplitl [Hinv]; · iexact Hinv
    iexact Hr
  isplitl [Hdy Hw]
  · isplitl [Hdy]; · iexact Hdy
    iexact Hw
  isplitl [Hinv]; · iexact Hinv
  isplitl [Hat]; · iexact Hat
  isplitl [Htok]; · iexact Htok
  iexact HS

/-- The records but for the order of the waits. -/
def Recs0 : sProp 𝕄 :=
  iprop((bigSep Finset.univ fun x : Dev nD × Fin 67 => iprop(∃ κ, cellInv ER (rd gen) κ (kcell x) ∗ reached ER (kcell x) 0))
    ∗ (bigSep keys fun k => iprop(∃ ι, slotInv ES ι k (slx (F := F) (dstM k.2.1) k.1 k.2.2))))
instance Recs0_persistent : BI.Persistent (Recs0 gen) := by unfold Recs0; infer_instance

/-- What a device has of an axis for itself: its positions, its sends' duties, its slots' counts. -/
def ownF (ax : Bool) (c : Dev nD) : sProp 𝕄 :=
  iprop((bigSep (Finset.Ico 0 16) fun d => dutyTok ER (sendC ax c d) 0 0)
    ∗ ((bigSep (Finset.Ico 0 16) fun d => atPos ER (sendC ax c d) 0 ∅ 0) ∗ (bigSep (Finset.Ico 0 16) fun d => atPos ER (recvC ax c d) 0 ∅ 0)
      ∗ atPos ER (credC ax c) 0 ∅ 0)
    ∗ bigSep (Finset.Ico 0 16) fun d => readerAt ES ((c, ax, d) : Key) 0)
/-- What goes to its neighbour: the duties of its receives, its credits and the barrier, and its slots' writes. -/
def peerF (ax : Bool) (c : Dev nD) : sProp 𝕄 :=
  iprop(((bigSep (Finset.Ico 0 16) fun d => dutyTok ER (recvC ax c d) 0 0) ∗ (bigSep (Finset.Ico 0 12) fun d => dutyTok ER (credC ax c) 0 d)
      ∗ dutyTok ER (barC c) 0 (bi ax))
    ∗ bigSep (Finset.Ico 0 16) fun d => writeTok ES ((c, ax, d) : Key) 1)
/-- What a device starts with but for its buffers and its credit. -/
def G' (c : Dev nD) : sProp 𝕄 :=
  iprop(Recs0 gen ∗ (dySems c ∗ wSems c) ∗ ownF false c ∗ ownF true c ∗ peerF false (peer false c) ∗ peerF true (peer true c) ∗ atPos ER (barC c) 0 ∅ 0)

/-- A device's places in the rounds, axis by axis. -/
theorem pos_split (c : Dev nD) : (bigSep Finset.univ fun k : Fin 67 => atPos ER (kcell (c, k)) 0 ∅ 0)
    ⊢ (iprop(((bigSep (Finset.Ico 0 16) fun d => atPos ER (sendC false c d) 0 ∅ 0) ∗ (bigSep (Finset.Ico 0 16) fun d => atPos ER (recvC false c d) 0 ∅ 0) ∗ atPos ER (credC false c) 0 ∅ 0)
      ∗ ((bigSep (Finset.Ico 0 16) fun d => atPos ER (sendC true c d) 0 ∅ 0) ∗ (bigSep (Finset.Ico 0 16) fun d => atPos ER (recvC true c d) 0 ∅ 0) ∗ atPos ER (credC true c) 0 ∅ 0)
      ∗ atPos ER (barC c) 0 ∅ 0) : sProp 𝕄) := by
  refine (fin67 (fun k => (atPos ER (kcell (c, k)) 0 ∅ 0 : sProp 𝕄))).1.trans (Entails.of_eq ?_)
  unfold axisOf
  simp only [kcell, csem_send, csem_recv, csem_cred, csem_bar]

/-- A device's tokens, axis by axis. -/
theorem tok_split (c : Dev nD) : (bigSep Finset.univ fun j : Fin 90 => dutyTok ER (kcell (c, (tokP j).1)) 0 (tokP j).2)
    ⊢ (iprop(((bigSep (Finset.Ico 0 16) fun d => dutyTok ER (sendC false c d) 0 0) ∗ (bigSep (Finset.Ico 0 16) fun d => dutyTok ER (recvC false c d) 0 0)
        ∗ (bigSep (Finset.Ico 0 12) fun d => dutyTok ER (credC false c) 0 d) ∗ dutyTok ER (barC c) 0 (bi false))
      ∗ ((bigSep (Finset.Ico 0 16) fun d => dutyTok ER (sendC true c d) 0 0) ∗ (bigSep (Finset.Ico 0 16) fun d => dutyTok ER (recvC true c d) 0 0)
        ∗ (bigSep (Finset.Ico 0 12) fun d => dutyTok ER (credC true c) 0 d) ∗ dutyTok ER (barC c) 0 (bi true))) : sProp 𝕄) := by
  refine (fin90 (fun k i => (dutyTok ER (kcell (c, k)) 0 i : sProp 𝕄))).trans (Entails.of_eq ?_)
  unfold toksOf
  simp only [kcell, csem_send, csem_recv, csem_cred, csem_bar]

/-- The slots' records as invariants, and the permissions to write and to read. -/
theorem slots_split : (BI.own (ES (initSlots keys 1)) : sProp 𝕄)
    ⊢ (|={Set.univ}=> iprop((bigSep keys fun k => iprop(∃ ι, slotInv ES ι k (slx (F := F) (dstM k.2.1) k.1 k.2.2)))
      ∗ (bigSep Finset.univ fun c : Dev nD => iprop((bigSep (Finset.Ico 0 16) fun d => readerAt ES ((c, false, d) : Key) 0) ∗ bigSep (Finset.Ico 0 16) fun d => readerAt ES ((c, true, d) : Key) 0))
      ∗ (bigSep Finset.univ fun c : Dev nD => iprop((bigSep (Finset.Ico 0 16) fun d => writeTok ES ((c, false, d) : Key) 1) ∗ bigSep (Finset.Ico 0 16) fun d => writeTok ES ((c, true, d) : Key) 1))) : sProp 𝕄) := by
  have hw : (bigSep (keys ×ˢ Finset.range 1) fun x => (writeTok ES x.1 (x.2 + 1) : sProp 𝕄)) = bigSep keys fun k => writeTok ES k 1 := by
    rw [big_product]
    exact bigSep_congr fun k _ => by rw [Finset.range_one, bigSep_singleton]
  have hi : ∀ ιs : Key → ℕ, (bigSep keys fun k => slotInv ES (ιs k) k (slx (F := F) (dstM k.2.1) k.1 k.2.2))
      ⊢ (bigSep keys fun k => iprop(∃ ι, slotInv ES ι k (slx (F := F) (dstM k.2.1) k.1 k.2.2)) : sProp 𝕄) := fun ιs =>
    big_mono fun k _ => by iintro H; iexists ιs k; iexact H
  iintro H
  imod (slots_init ES keys 1 (fun k => slx (F := F) (dstM k.2.1) k.1 k.2.2) (Es := Set.univ)) $$ H with ⟨%ιs, -, HI, HR, HW⟩
  imodintro
  ihave HW := (Entails.of_eq (hw.trans (big_keys _))) $$ HW
  ihave HR := (Entails.of_eq (big_keys _)) $$ HR
  isplitl [HI]; · iapply (hi ιs); iexact HI
  isplitl [HR]; · iexact HR
  iexact HW

/-- Each device's tokens for what its neighbours do go to the neighbours. -/
theorem regroup : bigSep Finset.univ (D0 gen) ⊢ (|={Set.univ}=> bigSep Finset.univ (G' gen) : sProp 𝕄) := by
  have hp := big_mono (s := (Finset.univ : Finset (Dev nD))) fun c _ => pos_split (F := F) c
  have ht := big_mono (s := (Finset.univ : Finset (Dev nD))) fun c _ => tok_split (F := F) c
  have hR : (bigSep Finset.univ fun c : Dev nD => bigSep Finset.univ fun k : Fin 67 => iprop(∃ κ, cellInv ER (rd gen) κ (kcell (c, k)) ∗ reached ER (kcell (c, k)) 0))
      = (bigSep Finset.univ fun x : Dev nD × Fin 67 => iprop(∃ κ, cellInv ER (rd gen) κ (kcell x) ∗ reached ER (kcell x) 0) : sProp 𝕄) :=
    (bigSep_univ_prod fun x : Dev nD × Fin 67 => (iprop(∃ κ, cellInv ER (rd gen) κ (kcell x) ∗ reached ER (kcell x) 0) : sProp 𝕄)).symm
  have hall := big_pers (Finset.univ : Finset (Dev nD)) (Recs0 gen)
  have hpf := big_peer false (peerF (F := F) false)
  have hpt := big_peer true (peerF (F := F) true)
  unfold D0; simp only [bigSep_sep']
  iintro ⟨⟨Hdy, Hw⟩, HI, Hat, Htok, HS⟩
  ihave HS := (Entails.of_eq slots0_all) $$ HS
  imod slots_split $$ HS with ⟨HK, HRd, HWr⟩
  imodintro
  ihave Hat := hp $$ Hat
  ihave Htok := ht $$ Htok
  ihave HI := (Entails.of_eq hR) $$ HI
  simp only [bigSep_sep']
  icases Hat with ⟨⟨pfs, pfr, pfc⟩, ⟨pts, ptr, ptc⟩, Hpb⟩
  icases Htok with ⟨⟨tfs, tfr, tfc, tfb⟩, ⟨tts, ttr, ttc, ttb⟩⟩
  icases HRd with ⟨Rf, Rt⟩
  icases HWr with ⟨Wf, Wt⟩
  ihave HR := hall $$ [HI HK]
  · unfold Recs0
    isplitl [HI]; · iexact HI
    iexact HK
  ihave Pf := hpf $$ [tfr tfc tfb Wf]
  · unfold peerF; simp only [bigSep_sep']
    isplitl [tfr tfc tfb]
    · isplitl [tfr]; · iexact tfr
      isplitl [tfc]; · iexact tfc
      iexact tfb
    iexact Wf
  ihave Pt := hpt $$ [ttr ttc ttb Wt]
  · unfold peerF; simp only [bigSep_sep']
    isplitl [ttr ttc ttb]
    · isplitl [ttr]; · iexact ttr
      isplitl [ttc]; · iexact ttc
      iexact ttb
    iexact Wt
  unfold G'; simp only [bigSep_sep']
  isplitl [HR]; · iexact HR
  isplitl [Hdy Hw]
  · isplitl [Hdy]; · iexact Hdy
    iexact Hw
  isplitl [tfs pfs pfr pfc Rf]
  · unfold ownF; simp only [bigSep_sep']
    isplitl [tfs]; · iexact tfs
    isplitl [pfs pfr pfc]
    · isplitl [pfs]; · iexact pfs
      isplitl [pfr]; · iexact pfr
      iexact pfc
    iexact Rf
  isplitl [tts pts ptr ptc Rt]
  · unfold ownF; simp only [bigSep_sep']
    isplitl [tts]; · iexact tts
    isplitl [pts ptr ptc]
    · isplitl [pts]; · iexact pts
      isplitl [ptr]; · iexact ptr
      iexact ptc
    iexact Rt
  isplitl [Pf]; · iexact Pf
  isplitl [Pt]; · iexact Pt
  iexact Hpb

/-- From the counters and records of all devices to what each starts with. -/
theorem glob : (bigSep Finset.univ fun c => iprop(Pipeline.ownSems0 (Ix := ℕ) (Name := ℕ) (U := UU) (Lvl := ℕ) (Val := Elt F) (τ := τ) osem c ∗ unscopedSems0 c ∗ G gen c) : sProp 𝕄)
    ⊢ |={Set.univ}=> bigSep Finset.univ (G' gen) := by
  have h1 : (bigSep Finset.univ fun c => iprop(Pipeline.ownSems0 (Ix := ℕ) (Name := ℕ) (U := UU) (Lvl := ℕ) (Val := Elt F) (τ := τ) osem c ∗ unscopedSems0 c ∗ G gen c) : sProp 𝕄)
      ⊢ (|={Set.univ}=> bigSep Finset.univ (D0 gen) : sProp 𝕄) :=
    (bigSep_mono fun c _ => core_alloc gen c).trans (bigSep_fupd _ _)
  have h2 := regroup gen
  iintro H
  imod h1 $$ H with H
  iapply h2 $$ H

end Gen

end Cert.Proof.Run
-- ==== Proof.Launch.lean ====
module

public import proofs.«01_k».proof.Proof.Deal
public import proofs.«01_k».proof.Proof.Gen.KernelIdeal.Points
public import Idealize.ShloMosaic.Lib.Pipeline.ValueKit.Geometry

@[expose] public section

noncomputable section

namespace Cert.Proof.Run

open Cert.KernelIdeal Cert.KernelIdeal.Gen
open Idealize.ShloMosaic Idealize.ShloMosaic.TcCoe Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The output's final contents -/

section Out

variable (gen : Bool → Dev nD → ℕ → (S1x1024x128.Idx → Elt F .bf16)) (c : Dev nD)

set_option backward.proofsInPublic true in
/-- What the output holds once every block of both halves is in: each block the sums of the device that has the rows. -/
def outF : S2048x2048.Idx → Elt F .f32 := fun i =>
  k0_pay5 (gen true (if (i 0).val / 1024 = c.val / 2 then c else peer true c) ((i 1).val / 128))
    (ix2 ⟨(i 0).val % 1024, Nat.mod_lt _ (by decide)⟩ ⟨(i 1).val % 128, Nat.mod_lt _ (by decide)⟩)

/-- A block's entry is the output's. -/
theorem rdB_at (f : outM.view.ty.Contents (Elt F)) {x d : ℕ} (i : S2048x2048.Idx) (hx : x % 2 = (i 0).val / 1024) (hd : d % 16 = (i 1).val / 128) :
    rdB x d f (ix2 ⟨(i 0).val % 1024, Nat.mod_lt _ (by decide)⟩ ⟨(i 1).val % 128, Nat.mod_lt _ (by decide)⟩) = f i := by
  show f ((outR x d).emb _) = f i
  refine congrArg f (funext fun a => Fin.ext ?_)
  fin_cases a
  · show 1024 * (x % 2) + 1 * ((i 0).val % 1024) = (i 0).val; omega
  · show 128 * (d % 16) + 1 * ((i 1).val % 128) = (i 1).val; omega

/-- An output with all blocks of both halves right is the final one. -/
theorem Good_eq {f : outM.view.ty.Contents (Elt F)} (h : Good gen c 16 16 f) : f = outF gen c := by
  funext i
  have h0 : (i 0).val < 2048 := (i 0).isLt
  have h1 : (i 1).val < 2048 := (i 1).isLt
  have hc := c.isLt
  simp only [nD] at hc
  have hd : (i 1).val / 128 < 16 := by omega
  unfold outF
  by_cases hx : (i 0).val / 1024 = c.val / 2
  · rw [if_pos hx, ← rdB_at f (x := c.val / 2) (d := (i 1).val / 128) i (by omega) (by omega), h.1 _ hd]
    rfl
  · rw [if_neg hx, ← rdB_at f (x := 1 - c.val / 2) (d := (i 1).val / 128) i (by omega) (by omega), h.2 _ hd]
    rfl

end Out

/-! ## The contents of a run -/

section Run

variable (m : (ℓ : Loc nD τ sig) → Buf (Elt F) ℓ) (ρ : Dev nD → PrngReg)

abbrev s₀ : MemSt nD τ sig (Elt F) := ⟨m, fun _ => 0, ρ⟩
/-- The two arguments on each device. -/
def Xm : Dev nD → S2048x8192.Idx → Elt F .f32 := fun c => m ((c : Thread nD τ).loc main_arg0)
def Ym : Dev nD → S2048x8192.Idx → Elt F .f32 := fun c => m ((c : Thread nD τ).loc main_arg1)
/-- A device's own products, chunk by chunk; the sums of its own and its neighbour's along `y`. -/
def genY (c : Dev nD) (d : ℕ) : S1x1024x128.Idx → Elt F .bf16 := k0_pay4 (k0_pay3 (xh (Xm m) c) (wv (Ym m) c d))
def genM (ax : Bool) (c : Dev nD) (d : ℕ) : S1x1024x128.Idx → Elt F .bf16 :=
  match ax with
  | false => genY m c d
  | true => k0_pay2 (genY m c d) (genY m (peer false c) d)

/-! ## The proof data -/

def Φ₀ (c : Dev nD) : sProp 𝕄 := iprop(Beg (genM m) c (Xm m) (Ym m) fullShare ∗ Scr c)
def Φ₁ (c : Dev nD) : sProp 𝕄 := iprop(Scr c ∗ AxSems c false ∗ AxSems c true ∗ semVal (barC c) 0)

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => outF (genM m) c
    | ⟨_ + 1, h⟩ => absurd h (Nat.not_lt.2 (Nat.le_add_left _ _))
  Φ t := match t with
    | ⟨0, _⟩ => Φ₀ m c
    | ⟨_ + 1, _⟩ => Φ₁ c
  q _ := fullShare
  owed t := match t with
    | ⟨0, _⟩ => Ostart c
    | ⟨_ + 1, _⟩ => 0

def stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

def bodyPre (c : Dev nD) : sProp 𝕄 :=
  iprop(Φ₀ m c ∗ (dats m ρ 0 c).owesAt 0 t0_0.castSucc ∗ (∃ d, stg c cc0_stg0_0 ((dats m ρ 0 c).before (0 : Fin 1) t0_0 d)))
def bodyPost (c : Dev nD) : sProp 𝕄 :=
  iprop(Φ₁ c ∗ (dats m ρ 0 c).owesAt 0 t0_0.succ ∗ stg c cc0_stg0_0 (outF (genM m) c))

/-- The body, from what the launch gives to what it wants back. -/
theorem body_pre_post (c : Dev nD) : bodyPre m ρ c ⊢ WP c (at_ (cc0_body (F := F))) (fun _ => bodyPost m ρ c) := by
  have hb := fun W => body_wp (genM m) c (Xm m) (Ym m) fullShare (fun d => rfl) (fun d => rfl) (W := W)
  have hm : Fin1 (genM m) c ⊢ bodyPost m ρ c := by
    unfold Fin1 bodyPost Φ₁ Out stg
    iintro ⟨HS, Hf, Ht, Hb, ⟨%f, %hf, Ho⟩, ⟨%W, HO⟩⟩
    isplitl [HS Hf Ht Hb]
    · isplitl [HS]; · iexact HS
      isplitl [Hf]; · iexact Hf
      isplitl [Ht]; · iexact Ht
      iexact Hb
    isplitl [HO]
    · unfold Pipeline.Dat.owesAt Pipeline.owesWithin
      iexists W
      isplitr; · ipureintro; exact fun _ _ => Or.inl trivial
      iexact HO
    iexists f
    isplitr; · ipureintro; exact Good_eq _ _ hf
    iexact Ho
  unfold bodyPre Φ₀ stg Pipeline.Dat.owesAt Pipeline.owesWithin
  iintro ⟨⟨HB, HS⟩, ⟨%W, %hW, HO⟩, ⟨%d, %f, %hf, Ho⟩⟩
  iapply (wp_mono frame (wpE (defs₀ (F := F)) 𝒱₀ (c : Thread nD τ) none) Set.univ (fun _ => hm))
  iapply (hb W)
  isplitl [HB]; · iexact HB
  isplitl [HS]; · iexact HS
  isplitl [HO]; · iexact HO
  iexists f
  iexact Ho

/-- The same, as the launch states it. -/
theorem body_obligation (c : Dev nD) : Pipeline.BodyObligation (dats (F := F) m ρ 0 c) (defs₀ (F := F)) 𝒱₀ 0 Set.univ := fun t => by
  rw [fin_N0 t]
  rw [bigSep_W0, bigSep_W0]
  simp only [owns_whole_eq]
  exact body_pre_post m ρ c

end Run

end Cert.Proof.Run
-- ==== Proof.RunMain.lean ====
module

public import proofs.«01_k».proof.Proof.Launch
public import Idealize.ShloMosaic.Lib.Pipeline.CollectiveSegs

@[expose] public section

noncomputable section

namespace Cert.Proof.Run

open Cert.KernelIdeal Cert.KernelIdeal.Gen
open Idealize.ShloMosaic Idealize.ShloMosaic.TcCoe Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Credits -/

/-- What is owed a device along an axis at the launch, as credit. -/
theorem ax_cred (ax : Bool) (c : Dev nD) : Pipeline.launchCred (fun d => Oax ax d 0 0) c
    ⊢ (iprop((bigSep (Finset.Ico 0 16) fun d => cred (tallyAt (recvC ax c d) 0 N)) ∗ bigSep (Finset.Ico 0 12) fun d => cred (tallyAt (credC ax c) d 1)) : sProp 𝕄) := by
  have e : (Pipeline.launchCred (fun d => Oax ax d 0 0) c : sProp 𝕄)
      = iprop((bigSep (Finset.Ico 0 16) fun i => Pipeline.launchCred (fun d => tallyAt (recvC ax (peer ax d) i) 0 N) c)
        ∗ bigSep (Finset.Ico 0 12) fun i => Pipeline.launchCred (fun d => tallyAt (credC ax (peer ax d)) i 1) c) := by
    rw [← Pipeline.launchCred_sum, ← Pipeline.launchCred_sum, ← Pipeline.launchCred_add]; rfl
  have h1 : (bigSep (Finset.Ico 0 16) fun i => Pipeline.launchCred (fun d => tallyAt (recvC ax (peer ax d) i) 0 N) c)
      ⊢ (bigSep (Finset.Ico 0 16) fun d => cred (tallyAt (recvC ax c d) 0 N) : sProp 𝕄) :=
    big_mono fun i _ => Pipeline.launchCred_tallyAt (.dma (recvS ax i)) (peer ax) (peer ax) (peer_peer ax) (peer_peer ax) 0 N c
  have h2 : (bigSep (Finset.Ico 0 12) fun i => Pipeline.launchCred (fun d => tallyAt (credC ax (peer ax d)) i 1) c)
      ⊢ (bigSep (Finset.Ico 0 12) fun d => cred (tallyAt (credC ax c) d 1) : sProp 𝕄) :=
    big_mono fun i _ => Pipeline.launchCred_tallyAt (.reg (credS ax)) (peer ax) (peer ax) (peer_peer ax) (peer_peer ax) i 1 c
  rw [e]
  iintro ⟨A, B⟩
  isplitl [A]; · iapply h1; iexact A
  iapply h2; iexact B

/-- What is owed a device at the launch, as credit. -/
theorem creds (c : Dev nD) : Pipeline.launchCred Ostart c
    ⊢ (iprop(((bigSep (Finset.Ico 0 16) fun d => cred (tallyAt (recvC false c d) 0 N)) ∗ bigSep (Finset.Ico 0 12) fun d => cred (tallyAt (credC false c) d 1))
      ∗ ((bigSep (Finset.Ico 0 16) fun d => cred (tallyAt (recvC true c d) 0 N)) ∗ bigSep (Finset.Ico 0 12) fun d => cred (tallyAt (credC true c) d 1))
      ∗ cred (tallyAt (barC c) 0 2)) : sProp 𝕄) := by
  have e : (Pipeline.launchCred Ostart c : sProp 𝕄)
      = iprop(((Pipeline.launchCred (fun d => Oax false d 0 0) c ∗ Pipeline.launchCred (fun d => Oax true d 0 0) c)
        ∗ Pipeline.launchCred (fun d => tallyAt (barC (peer true d)) 0 1) c) ∗ Pipeline.launchCred (fun d => tallyAt (barC (peer false d)) 0 1) c) := by
    rw [← Pipeline.launchCred_add, ← Pipeline.launchCred_add, ← Pipeline.launchCred_add]; rfl
  have h1 (ax : Bool) : (Pipeline.launchCred (fun d => tallyAt (barC (peer ax d)) 0 1) c : sProp 𝕄) ⊢ cred (tallyAt (barC c) 0 1) :=
    Pipeline.launchCred_tallyAt (.reg barS) (peer ax) (peer ax) (peer_peer ax) (peer_peer ax) 0 1 c
  have h2 : iprop(cred (tallyAt (barC c) 0 1) ∗ cred (tallyAt (barC c) 0 1)) ⊢ (cred (tallyAt (barC c) 0 2) : sProp 𝕄) := by
    rw [show (2 : ℕ) = 1 + 1 from rfl, ← tallyAt_add]; exact (cred_add _ _).2
  have ha := ax_cred (F := F) false c
  have hb := ax_cred (F := F) true c
  have g1 := h1 true
  have g2 := h1 false
  rw [e]
  iintro ⟨⟨⟨A, B⟩, C⟩, D⟩
  isplitl [A]; · iapply ha; iexact A
  isplitl [B]; · iapply hb; iexact B
  iapply h2
  isplitl [C]; · iapply g1; iexact C
  iapply g2; iexact D

/-! ## A device's start -/

section Gen

variable (gen : Bool → Dev nD → ℕ → (S1x1024x128.Idx → Elt F .bf16)) (c : Dev nD)

/-- An axis' deal and credit are what the body starts with. -/
theorem ax_start (ax : Bool) :
    iprop(ownF ax c ∗ ((bigSep (Finset.Ico 0 16) fun d => dutyTok ER (recvC ax (peer ax c) d) 0 0) ∗ (bigSep (Finset.Ico 0 12) fun d => dutyTok ER (credC ax (peer ax c)) 0 d)
        ∗ bigSep (Finset.Ico 0 16) fun d => writeTok ES ((peer ax c, ax, d) : Key) 1)
      ∗ (bigSep (Finset.Ico 0 16) fun d => cred (tallyAt (recvC ax c d) 0 N)) ∗ bigSep (Finset.Ico 0 12) fun d => cred (tallyAt (credC ax c) d 1))
      ⊢ (Ax0 ax c : sProp 𝕄) := by
  unfold ownF Ax0 Tx Sn Rc
  simp only [bigSep_sep', Finset.Ico_self, bigSep_empty]
  iintro ⟨⟨ts, ⟨ps, pr, pc⟩, rd⟩, ⟨tr, tc, wt⟩, cr, cc⟩
  isplitl [ts tr wt]
  · isplitl [ts]; · iexact ts
    isplitl [tr]; · iexact tr
    iexact wt
  isplitl [ps]
  · isplitr; · iempintro
    isplitl [ps]; · iexact ps
    iempintro
  isplitl [cr pr]
  · isplitl [cr pr]
    · isplitl [cr]; · iexact cr
      iexact pr
    iempintro
  isplitl [rd]; · iexact rd
  isplitl [tc]; · iexact tc
  isplitl [cc]; · iexact cc
  iexact pc

variable (X Y : Dev nD → S2048x8192.Idx → Elt F .f32)

/-- The first argument in eight parts and a rest. -/
theorem x_split : (xM.view.loc (c : Thread nD τ) ↦[Finset.univ]{fullShare} X c)
    ⊢ (iprop((bigSep (Finset.Ico 0 8) (xTok X c fullShare)) ∗ (xM.view.loc (c : Thread nD τ) ↦[Finset.univ]{shareDrop fullShare 8} X c)) : sProp 𝕄) := by
  refine (pointsTo_toks_range fullShare 8).1.trans ?_
  rw [Finset.range_eq_Ico]
  iintro ⟨A, B⟩
  isplitl [B]; · iexact B
  iexact A

/-- The second in twice sixteen parts and a rest. -/
theorem y_split : (yM.view.loc (c : Thread nD τ) ↦[Finset.univ]{fullShare} Y c)
    ⊢ (iprop(WT Y c fullShare 0 ∗ (yM.view.loc (c : Thread nD τ) ↦[Finset.univ]{shareDrop fullShare 2} Y c)) : sProp 𝕄) := by
  have h (i : ℕ) : (yM.view.loc (c : Thread nD τ) ↦[Finset.univ]{shareTokN fullShare i} Y c)
      ⊢ (bigSep (Finset.Ico 0 16) (yTok Y c fullShare i) : sProp 𝕄) := by
    refine (pointsTo_toks_range (shareTokN fullShare i) 16).1.trans ?_
    rw [Finset.range_eq_Ico]
    iintro ⟨-, B⟩
    iexact B
  have h2 : (bigSep (Finset.range 2) fun i => (yM.view.loc (c : Thread nD τ) ↦[Finset.univ]{shareTokN fullShare i} Y c))
      ⊢ (iprop((yM.view.loc (c : Thread nD τ) ↦[Finset.univ]{shareTokN fullShare 0} Y c) ∗ (yM.view.loc (c : Thread nD τ) ↦[Finset.univ]{shareTokN fullShare 1} Y c)) : sProp 𝕄) := by
    rw [Finset.range_eq_Ico]
    refine (ico_take (by decide) _).trans ?_
    iintro ⟨A, B⟩
    isplitl [A]; · iexact A
    iapply (Entails.of_eq (bigSep_Ico_one 1 fun i => (iprop(yM.view.loc (c : Thread nD τ) ↦[Finset.univ]{shareTokN fullShare i} Y c) : sProp 𝕄)))
    iexact B
  have h0 := h 0
  have h1 := h 1
  refine (pointsTo_toks_range fullShare 2).1.trans ?_
  iintro ⟨A, B⟩
  ihave B := h2 $$ B
  icases B with ⟨B0, B1⟩
  isplitl [B0 B1]
  · unfold WT
    iapply big_unsep
    isplitl [B0]; · iapply h0; iexact B0
    iapply h1; iexact B1
  iexact A

end Gen

section Run

variable (m : (ℓ : Loc nD τ sig) → Buf (Elt F) ℓ) (ρ : Dev nD → PrngReg)

/-- A device's start but for its scratch buffers; what is kept of the arguments. -/
def start (c : Dev nD) : sProp 𝕄 := iprop(Beg (genM m) c (Xm m) (Ym m) fullShare ∗ dySems c ∗ wSems c)
def kept (c : Dev nD) : sProp 𝕄 :=
  iprop((xM.view.loc (c : Thread nD τ) ↦[Finset.univ]{shareDrop fullShare 8} Xm m c) ∗ (yM.view.loc (c : Thread nD τ) ↦[Finset.univ]{shareDrop fullShare 2} Ym m c))

/-- What a device gets at the launch is what its body starts with, and what is kept of the arguments. -/
theorem start_intro (c : Dev nD) :
    iprop(Pipeline.unscopedRestP Pipeline.Prefetch.none cfg0.spec c (fun b => m ((c : Thread nD τ).loc b)) ∗ levAts L lv
        ∗ Pipeline.launchCred Ostart c ∗ prngReg c (ρ c) ∗ G' (genM m) c)
      ⊢ |={Set.univ}=> iprop(start m c ∗ kept m c) := by
  have hx : ((c : Thread nD τ).loc main_arg0 ↦{fullShare} m ((c : Thread nD τ).loc main_arg0))
      ⊢ (iprop((bigSep (Finset.Ico 0 8) (xTok (Xm m) c fullShare)) ∗ (xM.view.loc (c : Thread nD τ) ↦[Finset.univ]{shareDrop fullShare 8} Xm m c)) : sProp 𝕄) := x_split c (Xm m)
  have hy : ((c : Thread nD τ).loc main_arg1 ↦{fullShare} m ((c : Thread nD τ).loc main_arg1))
      ⊢ (iprop(WT (Ym m) c fullShare 0 ∗ (yM.view.loc (c : Thread nD τ) ↦[Finset.univ]{shareDrop fullShare 2} Ym m c)) : sProp 𝕄) := y_split c (Ym m)
  rw [Pipeline.unscopedRestP_none, unscopedRest0_eq]
  unfold G' start Beg kept Recs Recs0 peerF
  iintro ⟨⟨Hx, Hy⟩, Hlev, Hcr, -, ⟨HI, HK⟩, ⟨Hdy, Hw⟩, Of, Ot, ⟨⟨frv, fc, fb⟩, fw⟩, ⟨⟨trv, tc, tb⟩, tw⟩, Hpb⟩
  ihave Hcr := (creds c) $$ Hcr
  icases Hcr with ⟨cf, ct, cb⟩
  ihave Hx := hx $$ Hx
  icases Hx with ⟨Hx, Zx⟩
  ihave Hy := hy $$ Hy
  icases Hy with ⟨Hy, Zy⟩
  imodintro
  isplitr [Zx Zy]
  · isplitr [Hdy Hw]
    · isplitl [HI HK Hlev]
      · isplitl [HI]; · iexact HI
        isplitl [HK]; · iexact HK
        iexact Hlev
      isplitl [Of frv fc fw cf]
      · iapply (ax_start c false)
        isplitl [Of]; · iexact Of
        isplitl [frv fc fw]
        · isplitl [frv]; · iexact frv
          isplitl [fc]; · iexact fc
          iexact fw
        iexact cf
      isplitl [Ot trv tc tw ct]
      · iapply (ax_start c true)
        isplitl [Ot]; · iexact Ot
        isplitl [trv tc tw]
        · isplitl [trv]; · iexact trv
          isplitl [tc]; · iexact tc
          iexact tw
        iexact ct
      isplitl [fb]; · iexact fb
      isplitl [tb]; · iexact tb
      isplitl [cb]; · iexact cb
      isplitl [Hpb]; · iexact Hpb
      isplitl [Hx]; · iexact Hx
      iexact Hy
    isplitl [Hdy]; · iexact Hdy
    iexact Hw
  isplitl [Zx]; · iexact Zx
  iexact Zy

/-- What a device gets at the launch, with the scratch buffers, is what holds at the start. -/
theorem phi0_intro (c : Dev nD) :
    iprop(start m c ∗ Pipeline.prefHeld Pipeline.Prefetch.none c (fun _ => fullShare.right) (fun k => k.elim0) ∗ Pipeline.scopedRest cfg0.spec c) ⊢ (dats m ρ 0 c).Φ 0 := by
  rw [show (dats m ρ 0 c).Φ 0 = Φ₀ m c from rfl, scopedRest0_eq]
  unfold start Φ₀ Scr some0
  iintro ⟨⟨HB, Hdy, Hw⟩, -, s0, s1, s2, s3, s4, s5⟩
  isplitl [HB]; · iexact HB
  isplitl [s0]; · iexact s0
  isplitl [s1]; · iexact s1
  isplitl [s2]; · iexact s2
  isplitl [s3]; · iexact s3
  isplitl [s4]; · iexact s4
  isplitl [s5]; · iexact s5
  isplitl [Hdy]; · iexact Hdy
  iexact Hw

/-- What holds at the end gives the counters and the scratch buffers back. -/
theorem phi1_exit (c : Dev nD) :
    (dats m ρ 0 c).Φ (Fin.last cfg0.N) ⊢ iprop(unscopedSems0 c ∗ Pipeline.ownSems0 osem c ∗ Pipeline.scopedRest cfg0.spec c) := by
  have he := sems_exit (F := F) c
  rw [show (dats m ρ 0 c).Φ (Fin.last cfg0.N) = Φ₁ c from rfl, scopedRest0_eq]
  unfold Φ₁ Scr some0
  iintro ⟨⟨s0, s1, s2, s3, s4, s5, Hdy, Hw⟩, Hf, Ht, Hb⟩
  ihave H := he $$ [Hdy Hw Hf Ht Hb]
  · isplitl [Hdy]; · iexact Hdy
    isplitl [Hw]; · iexact Hw
    isplitl [Hf]; · iexact Hf
    isplitl [Ht]; · iexact Ht
    iexact Hb
  icases H with ⟨Ho, Hu⟩
  isplitl [Hu]; · iexact Hu
  isplitl [Ho]; · iexact Ho
  isplitl [s0]; · iexact s0
  isplitl [s1]; · iexact s1
  isplitl [s2]; · iexact s2
  isplitl [s3]; · iexact s3
  isplitl [s4]; · iexact s4
  iexact s5

/-! ## The waits for the output's staging buffer -/

/-- All that is owed at the start lies above the bottom level. -/
theorem Ostart_lv {c : Dev nD} {g : GSem nD τ sig} {ι : ℕ} (h : 0 < Ostart c g ι) : ι ∈ L g ∧ 0 < lv g ι := by
  have hb : ∀ ax, 0 < tallyAt (barC (peer ax c)) 0 1 g ι → ι ∈ L g ∧ 0 < lv g ι := fun ax h => by
    obtain ⟨rfl, rfl⟩ := tallyAt_pos h
    exact ⟨by unfold L; rw [if_pos rfl]; decide, by unfold lv; dsimp only; rw [use_bar]; decide⟩
  have ho : ∀ ax, 0 < Oax ax c 0 0 g ι → ι ∈ L g ∧ 0 < lv g ι := fun ax h => by
    obtain ⟨h1, h2⟩ := Oax_lv (n := 0) h (Nat.zero_le _) (Nat.zero_le _)
    exact ⟨h1, by omega⟩
  unfold Ostart at h
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact ho _ h
      · exact ho _ h
    · exact hb _ h
  · exact hb _ h

/-- So a wait at the bottom level is allowed, at the start and at the end. -/
theorem mayWait_stage (c : Dev nD) (q : DmaSem sig) (hq : useOf (.dma q) = .other) (O : CellTallies nD τ sig ℕ) (hO : O = Ostart c ∨ O = 0) :
    (levAts L lv : sProp 𝕄) ⊢ MayWait (c : Thread nD τ) (.dma q) 0 O := by
  rcases hO with rfl | rfl
  · refine MayOwe.of_cut (L := L) (lev := lv) 0 (fun p hp => ?_) (fun g i h => (Ostart_lv h).1) (fun p hp => ?_) (fun g i h => (Ostart_lv h).2)
    · rw [Finset.mem_singleton.mp hp]; unfold L; rw [if_pos rfl]; exact Finset.mem_range.mpr (show (0 : ℕ) < 16 by decide)
    · rw [Finset.mem_singleton.mp hp]; unfold lv; dsimp only; rw [hq]
  · rw [MayWait_zero]; iintro -; iempintro

/-- A device may wait for the staging of the output. -/
theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> rfl) _ (by
      rcases t with ⟨_ | _, ht⟩
      · exact Or.inl rfl
      · exact Or.inr rfl)

/-! ## The run -/

/-- The kernel's own semaphores are scoped, different, and not the staging's. -/
theorem ownSemFacts : Pipeline.OwnSemFacts cfg0.spec osem where
  isScoped := by decide +kernel
  inj := by
    intro a b h
    unfold osem at h
    apply Fin.ext
    by_cases ha : a.val < 76 <;> by_cases hb : b.val < 76
    · rw [dif_pos ha, dif_pos hb] at h
      have h1 : 1 + a.val = 1 + b.val := congrArg Fin.val (SemLoc.dma.inj h)
      omega
    · rw [dif_pos ha, dif_neg hb] at h; cases h
    · rw [dif_neg ha, dif_pos hb] at h; cases h
    · rw [dif_neg ha, dif_neg hb] at h
      have h1 : a.val - 76 = b.val - 76 := congrArg Fin.val (SemLoc.reg.inj h)
      omega
  disj := by decide +kernel

/-- The output is held whole. -/
theorem share_eq (c : Dev nD) (w : Fin cfg0.W) : (dats m ρ 0 c).share w = fullShare := by unfold Pipeline.Dat.share; split <;> rfl

/-- The result array ends at the output's contents. -/
theorem final_eq (c : Dev nD) : (dats m ρ 0 c).arrAt (0 : Fin 1) cfg0.N = outF (genM m) c :=
  (dats m ρ 0 c).arrAt_eq_of_after_last (0 : Fin 1) t0_0 (by decide +kernel) (outF (genM m) c) fun j => rfl

/-- What is kept of the arguments tells that memory holds them unchanged. -/
theorem kept_read (c : Dev nD) (s' : Phys nD τ sig (Elt F)) :
    iprop(kept m c ∗ SI s') ⊢ (iprop(⌜s'.mem.mem ((c : Thread nD τ).loc main_arg0) = m ((c : Thread nD τ).loc main_arg0)
      ∧ s'.mem.mem ((c : Thread nD τ).loc main_arg1) = m ((c : Thread nD τ).loc main_arg1)⌝ ∗ SI s') : sProp 𝕄) := by
  unfold kept
  iintro ⟨⟨Hx, Hy⟩, HSI⟩
  icombine HSI Hx gives %hx
  icombine HSI Hy gives %hy
  isplitr
  · ipureintro; exact ⟨Buf.eq_of_forall_mem_univ hx, Buf.eq_of_forall_mem_univ hy⟩
  iexact HSI

set_option maxRecDepth 8000 in
/-- From any memory with the counters at zero the four devices' run ends, and then the arguments are as they were, every
    result is the sums' contents and every counter is zero. -/
theorem run_main : θ_run defs (onTc (τ := τ) (main (F := F))) (s₀ m ρ) (fun r =>
    (∀ c : Dev nD, r.2.mem ((c : Thread nD τ).loc main_v1) = outF (genM m) c
      ∧ r.2.mem ((c : Thread nD τ).loc main_arg0) = m ((c : Thread nD τ).loc main_arg0) ∧ r.2.mem ((c : Thread nD τ).loc main_arg1) = m ((c : Thread nD τ).loc main_arg1))
    ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := Ostart) (howed₀ := fun _ => rfl) (howedN := fun _ => rfl)
    (L := L) (lv := lv) (hL := L_of_ne) (hwaits := waits m ρ)
    (G := G (genM m)) (G' := G' (genM m)) (u₀ := u₀) (hu₀ := fund_u₀ (genM m)) (hglob := glob (genM m))
    (hA := fun _ _ => rfl) (hpf := fun _ k => k.elim0)
    (X := start m) (Y := fun c => unscopedSems0 c) (Z := kept m)
    (hX := start_intro m ρ) (hin := phi0_intro m ρ) (hout := phi1_exit m ρ)
    (QY := fun c s => (∀ sm : SemLoc sig, sm.isScoped .tc = false → s.sem ((c : Thread nD τ), sm) = 0)
      ∧ s.mem ((c : Thread nD τ).loc main_arg0) = m ((c : Thread nD τ).loc main_arg0) ∧ s.mem ((c : Thread nD τ).loc main_arg1) = m ((c : Thread nD τ).loc main_arg1))
    (hY := fun c s' => by
      iintro ⟨Hu, Hk, HSI⟩
      ihave H := (kept_read m c s') $$ [Hk HSI]
      · isplitl [Hk]; · iexact Hk
        iexact HSI
      icases H with ⟨%hk, HSI⟩
      imod (Pipeline.unscopedSems0_read (X := unscopedSems0 c) (c := c) fupd_intro s') $$ [Hu HSI] with ⟨%hs, HSI⟩
      · isplitl [Hu]; · iexact Hu
        iexact HSI
      imodintro
      isplitr; · ipureintro; exact ⟨hs, hk⟩
      iexact HSI)
    (hQ := fun _ h hs => ⟨fun c => ⟨((h c).1 (0 : Fin 1)).trans (final_eq m ρ c), (h c).2.2.2⟩, sem_eq_zero hs fun c => (h c).2.2.1⟩)

end Run

end Cert.Proof.Run
-- ==== Proof.Value.lean ====
module

public import proofs.«01_k».proof.Proof.RunMain
public import proofs.«01_k».proof.Proof.Gen.ReferenceIdeal
public import Idealize.ShloMosaic.Lib.MatmulPlain
public import Idealize.ShloMosaic.Lib.Layout
public import Idealize.ShloMosaic.Lib.ValueIdx

@[expose] public section

noncomputable section

namespace Cert.Proof.Run

open Cert.KernelIdeal Cert.KernelIdeal.Gen
open Idealize.ShloMosaic Idealize.ShloMosaic.TcCoe Idealize.ShloMosaic.ValueIdx
open Idealize.SL.Sem

/-! ## A product in halves -/

/-- The whole operands' shape. -/
abbrev SW : Shape := ⟨2, ![2048, 16384]⟩

set_option backward.proofsInPublic true in
/-- An entry of the product with the contracted axis cut to its half `h`. -/
def half (A B : SW.Idx → EReal) (h : ℕ) (r q : Fin 2048) : EReal :=
  ∑ k : Fin 8192, A (ix2 r ⟨8192 * (h % 2) + k.val, by omega⟩) * B (ix2 q ⟨8192 * (h % 2) + k.val, by omega⟩)

/-- The sum along the whole axis is the sum of its halves. -/
theorem sum_halves (A B : SW.Idx → EReal) (r q : Fin 2048) : ∑ k : Fin 16384, A (ix2 r k) * B (ix2 q k) = half A B 0 r q + half A B 1 r q := by
  refine (Fin.sum_univ_add (a := 8192) (b := 8192) fun k : Fin 16384 => A (ix2 r k) * B (ix2 q k)).trans ?_
  unfold half
  refine congrArg₂ (· + ·) (Finset.sum_congr rfl fun k _ => ?_) (Finset.sum_congr rfl fun k _ => ?_)
  · rw [show (Fin.castAdd 8192 k : Fin 16384) = ⟨8192 * (0 % 2) + k.val, by omega⟩ from Fin.ext (by show k.val = 8192 * (0 % 2) + k.val; omega)]
  · rw [show (Fin.natAdd 8192 k : Fin 16384) = ⟨8192 * (1 % 2) + k.val, by omega⟩ from Fin.ext (by show 8192 + k.val = 8192 * (1 % 2) + k.val; omega)]

/-! ## The kernel's result -/

section Kernel

variable (m : (ℓ : Loc nD τ sig) → Buf (Elt Ideal) ℓ) (A B : SW.Idx → EReal)

/-- Each device's arguments are the halves, by its place along `y`, of whole operands. -/
def Halved : Prop :=
  ∀ c : Dev nD, Xm m c = Layout.blockN ⟨2, ![2048, 8192]⟩ SW (Layout.meshBlock [2, 2] ![[], [1]] c) A
    ∧ Ym m c = Layout.blockN ⟨2, ![2048, 8192]⟩ SW (Layout.meshBlock [2, 2] ![[], [1]] c) B

/-- A device's half of a whole operand, read at a place. -/
theorem blockN_at (A : SW.Idx → EReal) (c : Dev nD) (r : Fin 2048) (k : Fin 8192) :
    (Layout.blockN ⟨2, ![2048, 8192]⟩ SW (Layout.meshBlock [2, 2] ![[], [1]] c) A : (⟨2, ![2048, 8192]⟩ : Shape).Idx → EReal) (ix2 r k) = A (ix2 r ⟨8192 * (c.val % 2) + k.val, by omega⟩) := by
  rw [Layout.blockN_apply]
  refine congrArg A (funext fun a => Fin.ext ?_)
  rw [Layout.TilesN.idx_val]
  fin_cases a
  · show 0 * 2048 + r.val = r.val; omega
  · have hc : ∀ c : Dev nD, Layout.meshLin [2, 2] c.val [1] = c.val % 2 := by decide
    show Layout.meshLin [2, 2] c.val [1] * 8192 + k.val = 8192 * (c.val % 2) + k.val
    rw [hc c, Nat.mul_comm]

variable {m A B} (hm : Halved m A B)
include hm

/-- A device's product at a place is the half product there. -/
theorem genY_at (c : Dev nD) (d : ℕ) (a : Fin 1024) (b : Fin 128) (r q : Fin 2048)
    (hr : r.val = 1024 * (c.val / 2) + a.val) (hq : q.val = 128 * (d % 16) + b.val) :
    genY m c d (ix3 (0 : Fin 1) a b) = half A B c.val r q := by
  unfold genY k0_pay4 k0_pay3
  dsimp only
  rw [shapeCast_ab_1ab_apply, truncf_apply]
  refine (Ideal.matmul_transposedRhs_apply (M := 1024) (K := 8192) (N := 128) none _ _ _ a b).trans ?_
  rw [show (constant S1024x128 FTy.f32 0x00000000#32 : FVec Ideal S1024x128 .f32) (ix2 a b) = 0 from Ideal.ofBits_zero_f32, zero_add]
  unfold half
  refine Finset.sum_congr rfl fun k _ => ?_
  have hx : xh (Xm m) c (ix2 a k) = A (ix2 r ⟨8192 * (c.val % 2) + k.val, by omega⟩) := by
    rw [← blockN_at A c r k, ← (hm c).1]
    exact congrArg (Xm m c) (congrArg (fun r => ix2 r k) (Fin.ext hr.symm))
  have hy : wv (Ym m) c d (ix3 (0 : Fin 1) b k) = B (ix2 q ⟨8192 * (c.val % 2) + k.val, by omega⟩) := by
    rw [← blockN_at B c q k, ← (hm c).2]
    refine congrArg (Ym m c) (funext fun a => Fin.ext ?_)
    fin_cases a
    · show 128 * (d % 16) + (0 + 1 * b.val) = q.val; omega
    · show 0 + 1 * k.val = k.val; omega
  rw [shapeCast_1ab_ab_apply, hx, hy]

/-- Every device's result is the product of the whole operands. -/
theorem outF_at (c : Dev nD) (i : S2048x2048.Idx) : outF (genM m) c i = ∑ k : Fin 16384, A (ix2 (i 0) k) * B (ix2 (i 1) k) := by
  have h0 : (i 0).val < 2048 := (i 0).isLt
  have h1 : (i 1).val < 2048 := (i 1).isLt
  have key : ∀ e : Dev nD, e.val / 2 = (i 0).val / 1024 →
      k0_pay5 (genM m true e ((i 1).val / 128)) (ix2 ⟨(i 0).val % 1024, Nat.mod_lt _ (by decide)⟩ ⟨(i 1).val % 128, Nat.mod_lt _ (by decide)⟩)
        = half A B 0 (i 0) (i 1) + half A B 1 (i 0) (i 1) := fun e he => by
    have hp : (peer false e).val = 2 * (e.val / 2) + (1 - e.val % 2) := rfl
    unfold k0_pay5 genM k0_pay2
    dsimp only
    rw [extf_apply, shapeCast_1ab_ab_apply, shapeCast_ab_1ab_apply, addf_apply, shapeCast_1ab_ab_apply, shapeCast_1ab_ab_apply,
      genY_at hm e _ _ _ (i 0) (i 1) (by show (i 0).val = 1024 * (e.val / 2) + (i 0).val % 1024; omega) (by show (i 1).val = 128 * ((i 1).val / 128 % 16) + (i 1).val % 128; omega),
      genY_at hm (peer false e) _ _ _ (i 0) (i 1) (by show (i 0).val = 1024 * ((peer false e).val / 2) + (i 0).val % 1024; omega)
        (by show (i 1).val = 128 * ((i 1).val / 128 % 16) + (i 1).val % 128; omega)]
    have hh : ∀ x : ℕ, half A B x (i 0) (i 1) = half A B (x % 2) (i 0) (i 1) := fun x => by unfold half; simp only [Nat.mod_mod]
    rw [hh e.val, hh (peer false e).val]
    rcases Nat.mod_two_eq_zero_or_one e.val with h | h
    · rw [h, show (peer false e).val % 2 = 1 by omega]
    · rw [h, show (peer false e).val % 2 = 0 by omega, add_comm]
  refine Eq.trans ?_ (sum_halves A B (i 0) (i 1)).symm
  unfold outF
  refine key _ ?_
  have hc := c.isLt
  simp only [nD] at hc
  split
  · omega
  · show (2 * (1 - c.val / 2) + c.val % 2) / 2 = _
    omega

end Kernel

/-! ## The reference's result -/

/-- The reference's product read at a place. -/
theorem ref_at (A B : SW.Idx → EReal) (i : S2048x2048.Idx) :
    (Host.dotGeneral (F := Ideal) (φ₁ := .f32) (φ₂ := .f32) Cert.ReferenceIdeal.dot_S2048x16384_S16384x2048_S2048x2048_1_0_0_1_n_n none A
      (transpose Cert.ReferenceIdeal.S16384x2048 [1, 0] B Cert.ReferenceIdeal.Facts₀.transposes_S2048x16384_S16384x2048_1_0)) i
      = ∑ k : Fin 16384, A (ix2 (i 0) k) * B (ix2 (i 1) k) := by
  rw [eq_ix2 i]
  simp only [Host.dotGeneral, Ideal.dotGeneral_def]
  rw [← Ideal.matmul_def (prec := none)]
  refine (Ideal.matmul_plain_apply (M := 2048) (K := 16384) (N := 2048) none _ _ _ (i 0) (i 1)).trans ?_
  rw [zero_add]
  refine Finset.sum_congr rfl fun k _ => ?_
  refine congrArg (A (ix2 (i 0) k) * ·) ?_
  refine transpose_apply (perm := [1, 0]) B _ (ix2 k (i 1)) (ix2 (i 1) k) fun b => ?_
  fin_cases b <;> rfl

end Cert.Proof.Run
-- ==== Proof.lean ====
module

public import proofs.«01_k».proof.Defs
public import proofs.«01_k».proof.Proof.Value
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem

/-- The body the printed kernel calls is the idealised one's, whatever the float values. -/
theorem body_same {F : FTy → Type} [FloatOps F] : Cert.Kernel.defs₀ (F := F) = Cert.KernelIdeal.defs₀ := by
  unfold Cert.Kernel.defs₀ Cert.KernelIdeal.defs₀
  refine congrArg Defs.onTc (funext fun ℓ => funext fun q => ?_)
  match ℓ, q with
  | ⟨0, _⟩, _ => rfl

theorem defs_same {F : FTy → Type} [FloatOps F] : Cert.Kernel.defs (F := F) = Cert.KernelIdeal.defs :=
  congrArg (Pipeline.defs Cert.KernelIdeal.pcfgs) body_same

/-- The printed kernel's text is the idealised one's, so that its run is the same theorem at the bits. -/
theorem frame_kernel : Cert.quiescent_Kernel := fun m ρ _ => by
  rw [defs_same]
  exact (θ_run Cert.KernelIdeal.defs _ _).mono (fun _ h => ⟨fun c => (h.1 c).2, h.2⟩) (Cert.Proof.Run.run_main (F := Bits) m ρ)

/-- The idealised kernel's frame. -/
theorem frame_ideal : Cert.quiescent_KernelIdeal := fun m ρ _ =>
  (θ_run Cert.KernelIdeal.defs _ _).mono (fun _ h => ⟨fun c => (h.1 c).2, h.2⟩) (Cert.Proof.Run.run_main (F := Ideal) m ρ)

/-- The reference's frame: it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals every device's result is the reference's product of the whole operands: an entry's contracted axis is
    summed in two halves, one on each device along `y`. -/
theorem algebraic : Cert.algebraic_KernelIdeal_ReferenceIdeal := by
  intro m ρ m' ρ' _ hm
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c).1.trans ?_, (h.1 c).2⟩) (Cert.Proof.Run.run_main (F := Ideal) m ρ)
  funext i
  exact (Cert.Proof.Run.outF_at (m := m) hm c i).trans (Cert.Proof.Run.ref_at _ _ i).symm

/-- All the claims. -/
theorem claim : Cert.Claim := ⟨Cert.Kernel.Gen.facts, Cert.KernelIdeal.Gen.facts, Cert.ReferenceIdeal.Gen.facts, frame_kernel, frame_ideal,
  frame_reference, trivial, algebraic⟩

end Cert.Proof

end
